-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x1024 : Shape := ⟨3, ![4, 256, 1024]⟩
abbrev S1024x1024 : Shape := ⟨2, ![1024, 1024]⟩
abbrev S4x1024x16x128 : Shape := ⟨4, ![4, 1024, 16, 128]⟩
abbrev S_ : Shape := ⟨0, ![]⟩

class Facts : Prop where
  bcast_S_S4x256x1024 : S_.BroadcastsInDim S4x256x1024 (![] : Fin 0 → Fin S4x256x1024.rank)
  bcast_S_S1024x1024 : S_.BroadcastsInDim S1024x1024 (![] : Fin 0 → Fin S1024x1024.rank)
  bcast_S_S4x1024x16x128 : S_.BroadcastsInDim S4x1024x16x128 (![] : Fin 0 → Fin S4x1024x16x128.rank)

variable [Facts]

def fn {F : FTy → Type} [FloatOps F] (main_arg0 : FVec F S4x256x1024 .f32) (main_arg1 : FVec F S1024x1024 .f32) (main_arg2 : FVec F S4x1024x16x128 .f32) (main_arg3 : FVec F S4x1024x16x128 .f32) (main_arg4 : FVec F S1024x1024 .f32) : IVec S4x256x1024 1 × IVec S1024x1024 1 × IVec S4x1024x16x128 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4x1024x16x128 .f32 := Host.absf main_arg2
  let main_cst_1 : FVec F S_ .f32 := constant S_ .f32 0x7F800000#32
  let main_v7 : FVec F S4x1024x16x128 .f32 := broadcastInDim S4x1024x16x128 ![] bcast_S_S4x1024x16x128 main_cst_1
  let main_v8 : IVec S4x1024x16x128 1 := cmpf .olt main_v6 main_v7
  (main_v2, main_v5, main_v8)
-- ==== Pre_finite_ReferenceIdeal.lean ====
abbrev S4x256x1024 : Shape := ⟨3, ![4, 256, 1024]⟩
abbrev S1024x8192 : Shape := ⟨2, ![1024, 8192]⟩
abbrev S4x1024x16x128 : Shape := ⟨4, ![4, 1024, 16, 128]⟩
abbrev S8192x1024 : Shape := ⟨2, ![8192, 1024]⟩
abbrev S_ : Shape := ⟨0, ![]⟩

class Facts : Prop where
  bcast_S_S4x256x1024 : S_.BroadcastsInDim S4x256x1024 (![] : Fin 0 → Fin S4x256x1024.rank)
  bcast_S_S1024x8192 : S_.BroadcastsInDim S1024x8192 (![] : Fin 0 → Fin S1024x8192.rank)
  bcast_S_S4x1024x16x128 : S_.BroadcastsInDim S4x1024x16x128 (![] : Fin 0 → Fin S4x1024x16x128.rank)

variable [Facts]

def fn {F : FTy → Type} [FloatOps F] (main_arg0 : FVec F S4x256x1024 .f32) (main_arg1 : FVec F S1024x8192 .f32) (main_arg2 : FVec F S4x1024x16x128 .f32) (main_arg3 : FVec F S4x1024x16x128 .f32) (main_arg4 : FVec F S8192x1024 .f32) : IVec S4x256x1024 1 × IVec S1024x8192 1 × IVec S4x1024x16x128 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S4x1024x16x128 .f32 := Host.absf main_arg2
  let main_cst_1 : FVec F S_ .f32 := constant S_ .f32 0x7F800000#32
  let main_v7 : FVec F S4x1024x16x128 .f32 := broadcastInDim S4x1024x16x128 ![] bcast_S_S4x1024x16x128 main_cst_1
  let main_v8 : IVec S4x1024x16x128 1 := cmpf .olt main_v6 main_v7
  (main_v2, main_v5, main_v8)
-- ==== Kernel.lean ====
abbrev S4x256x1024 : Shape := ⟨3, ![4, 256, 1024]⟩
abbrev S1024x1024 : Shape := ⟨2, ![1024, 1024]⟩
abbrev S4x1024x16x128 : Shape := ⟨4, ![4, 1024, 16, 128]⟩
abbrev S8x128x384 : Shape := ⟨3, ![8, 128, 384]⟩
abbrev S8x128x256 : Shape := ⟨3, ![8, 128, 256]⟩
abbrev S7x128x384 : Shape := ⟨3, ![7, 128, 384]⟩
abbrev S7x128x256 : Shape := ⟨3, ![7, 128, 256]⟩
abbrev S8x128x1024 : Shape := ⟨3, ![8, 128, 1024]⟩
abbrev S2x4x2x1024x128 : Shape := ⟨5, ![2, 4, 2, 1024, 128]⟩
abbrev S_ : Shape := ⟨0, ![]⟩
abbrev S3x6 : Shape := ⟨2, ![3, 6]⟩
abbrev S1x1x1x1024x128 : Shape := ⟨5, ![1, 1, 1, 1024, 128]⟩
abbrev S1024x128 : Shape := ⟨2, ![1024, 128]⟩
abbrev S1x1024x1x128 : Shape := ⟨4, ![1, 1024, 1, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1x128x384 : Shape := ⟨3, ![1, 128, 384]⟩
abbrev S128x384 : Shape := ⟨2, ![128, 384]⟩
abbrev S1x128x256 : Shape := ⟨3, ![1, 128, 256]⟩
abbrev S128x256 : Shape := ⟨2, ![128, 256]⟩
abbrev S1x1 : Shape := ⟨2, ![1, 1]⟩
abbrev S4x128x384 : Shape := ⟨3, ![4, 128, 384]⟩
abbrev S4x128x256 : Shape := ⟨3, ![4, 128, 256]⟩
abbrev S2x128x384 : Shape := ⟨3, ![2, 128, 384]⟩
abbrev S2x128x256 : Shape := ⟨3, ![2, 128, 256]⟩

abbrev nBuf : Space → Nat
  | .hbm => 6
  | .vmem => 13
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x1024x16x128, .f32⟩
  | .hbm, ⟨3, _⟩ => ⟨S4x1024x16x128, .f32⟩
  | .hbm, ⟨4, _⟩ => ⟨S1024x1024, .f32⟩
  | .hbm, ⟨5, _⟩ => ⟨S4x256x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S4x256x1024, .f32⟩
  | .local _ .vmem, ⟨4, _⟩ => ⟨S8x128x384, .bf16⟩
  | .local _ .vmem, ⟨5, _⟩ => ⟨S8x128x384, .bf16⟩
  | .local _ .vmem, ⟨6, _⟩ => ⟨S8x128x256, .bf16⟩
  | .local _ .vmem, ⟨7, _⟩ => ⟨S7x128x384, .bf16⟩
  | .local _ .vmem, ⟨8, _⟩ => ⟨S7x128x384, .bf16⟩
  | .local _ .vmem, ⟨9, _⟩ => ⟨S7x128x256, .bf16⟩
  | .local _ .vmem, ⟨10, _⟩ => ⟨S1024x1024, .bf16⟩
  | .local _ .vmem, ⟨11, _⟩ => ⟨S8x128x1024, .bf16⟩
  | .local _ .vmem, ⟨12, _⟩ => ⟨S2x4x2x1024x128, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 4 → Nat :=
  let c0_i32_25 : BitVec 32 := 0#32
  let c0_i32_31 : BitVec 32 := 0#32
  let c2_i32_10 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v21 : BitVec 32 := Scalar.muli c2_i32_10 v2
  let v22 : BitVec 32 := Scalar.addi v21 c0_i32
  let c0_i32_32 : BitVec 32 := 0#32
  ![0, 0, v22.toNat, 0]
def k0_off2 (d0 : Dev nD) (c0_i32_14 : BitVec 32) : Fin 4 → Nat :=
  let c1_i32_57 : BitVec 32 := 1#32
  let c0_i32_63 : BitVec 32 := 0#32
  let c2_i32_13 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v25 : BitVec 32 := Scalar.muli c2_i32_13 v2
  let v26 : BitVec 32 := Scalar.addi v25 c0_i32_14
  let c0_i32_64 : BitVec 32 := 0#32
  ![1, 0, v26.toNat, 0]
def k0_off3 (d0 : Dev nD) (c0_i32_18 : BitVec 32) : Fin 4 → Nat :=
  let c2_i32_89 : BitVec 32 := 2#32
  let c0_i32_95 : BitVec 32 := 0#32
  let c2_i32_17 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v29 : BitVec 32 := Scalar.muli c2_i32_17 v2
  let v30 : BitVec 32 := Scalar.addi v29 c0_i32_18
  let c0_i32_96 : BitVec 32 := 0#32
  ![2, 0, v30.toNat, 0]
def k0_off4 (d0 : Dev nD) (c0_i32_22 : BitVec 32) : Fin 4 → Nat :=
  let c3_i32_121 : BitVec 32 := 3#32
  let c0_i32_127 : BitVec 32 := 0#32
  let c2_i32_21 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v33 : BitVec 32 := Scalar.muli c2_i32_21 v2
  let v34 : BitVec 32 := Scalar.addi v33 c0_i32_22
  let c0_i32_128 : BitVec 32 := 0#32
  ![3, 0, v34.toNat, 0]
def k0_dev1 (d0 : Dev nD) : Nat :=
  let c0_i32_763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_3 : BitVec 32 := 4#32
  let v9 : BitVec 32 := Scalar.muli v4 c4_i32_3
  let c4_i32 : BitVec 32 := 4#32
  let v3 : BitVec 32 := Scalar.remsi v2 c4_i32
  let v10 : BitVec 32 := Scalar.addi v9 v3
  let c1_i32_4 : BitVec 32 := 1#32
  let v11 : BitVec 32 := Scalar.addi v10 c1_i32_4
  let c2_i32_6 : BitVec 32 := 2#32
  let c2_i32_5 : BitVec 32 := 2#32
  let v12 : BitVec 32 := Scalar.remsi v3 c2_i32_5
  let v13 : BitVec 32 := Scalar.muli c2_i32_6 v12
  let v14 : BitVec 32 := Scalar.subi v11 v13
  let c1_i32_762 : BitVec 32 := 1#32
  let v836 : BitVec 32 := Scalar.muli v14 c1_i32_762
  let v837 : BitVec 32 := Scalar.addi c0_i32_763 v836
  v837.toNat
def k0_dev2 (d0 : Dev nD) : Nat :=
  let c0_i32_766 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_7 : BitVec 32 := 4#32
  let v15 : BitVec 32 := Scalar.muli v4 c4_i32_7
  let c3_i32 : BitVec 32 := 3#32
  let v16 : BitVec 32 := Scalar.addi v15 c3_i32
  let c4_i32 : BitVec 32 := 4#32
  let v3 : BitVec 32 := Scalar.remsi v2 c4_i32
  let v17 : BitVec 32 := Scalar.subi v16 v3
  let c1_i32_765 : BitVec 32 := 1#32
  let v838 : BitVec 32 := Scalar.muli v17 c1_i32_765
  let v839 : BitVec 32 := Scalar.addi c0_i32_766 v838
  v839.toNat
def k0_dev3 (d0 : Dev nD) : Nat :=
  let c0_i32_769 : BitVec 32 := 0#32
  let c1_i32_8 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v18 : BitVec 32 := Scalar.subi c1_i32_8 v4
  let c4_i32_9 : BitVec 32 := 4#32
  let v19 : BitVec 32 := Scalar.muli v18 c4_i32_9
  let c4_i32 : BitVec 32 := 4#32
  let v3 : BitVec 32 := Scalar.remsi v2 c4_i32
  let v20 : BitVec 32 := Scalar.addi v19 v3
  let c1_i32_768 : BitVec 32 := 1#32
  let v840 : BitVec 32 := Scalar.muli v20 c1_i32_768
  let v841 : BitVec 32 := Scalar.addi c0_i32_769 v840
  v841.toNat
def k0_off5 (d0 : Dev nD) : Fin 3 → Nat :=
  let c4_i32_773 : BitVec 32 := 4#32
  let c1_i32_772 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v843 : BitVec 32 := Scalar.subi c1_i32_772 v7
  let v844 : BitVec 32 := Scalar.muli c4_i32_773 v843
  let c0_i32_783 : BitVec 32 := 0#32
  let c0_i32_784 : BitVec 32 := 0#32
  ![v844.toNat, 0, 0]
def k0_dev4 (d0 : Dev nD) : Nat :=
  let c0_i32_779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_3 : BitVec 32 := 4#32
  let v9 : BitVec 32 := Scalar.muli v4 c4_i32_3
  let c4_i32 : BitVec 32 := 4#32
  let v3 : BitVec 32 := Scalar.remsi v2 c4_i32
  let v10 : BitVec 32 := Scalar.addi v9 v3
  let c1_i32_4 : BitVec 32 := 1#32
  let v11 : BitVec 32 := Scalar.addi v10 c1_i32_4
  let c2_i32_6 : BitVec 32 := 2#32
  let c2_i32_5 : BitVec 32 := 2#32
  let v12 : BitVec 32 := Scalar.remsi v3 c2_i32_5
  let v13 : BitVec 32 := Scalar.muli c2_i32_6 v12
  let v14 : BitVec 32 := Scalar.subi v11 v13
  let c1_i32_778 : BitVec 32 := 1#32
  let v845 : BitVec 32 := Scalar.muli v14 c1_i32_778
  let v846 : BitVec 32 := Scalar.addi c0_i32_779 v845
  v846.toNat
def k0_off6 (d0 : Dev nD) : Fin 3 → Nat :=
  let c4_i32_787 : BitVec 32 := 4#32
  let c1_i32_786 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 32 := Scalar.divsi v3 c2_i32_2
  let v854 : BitVec 32 := Scalar.subi c1_i32_786 v8
  let v855 : BitVec 32 := Scalar.muli c4_i32_787 v854
  let c0_i32_797 : BitVec 32 := 0#32
  let c0_i32_798 : BitVec 32 := 0#32
  ![v855.toNat, 0, 0]
def k0_dev5 (d0 : Dev nD) : Nat :=
  let c0_i32_793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_7 : BitVec 32 := 4#32
  let v15 : BitVec 32 := Scalar.muli v4 c4_i32_7
  let c3_i32 : BitVec 32 := 3#32
  let v16 : BitVec 32 := Scalar.addi v15 c3_i32
  let c4_i32 : BitVec 32 := 4#32
  let v3 : BitVec 32 := Scalar.remsi v2 c4_i32
  let v17 : BitVec 32 := Scalar.subi v16 v3
  let c1_i32_792 : BitVec 32 := 1#32
  let v856 : BitVec 32 := Scalar.muli v17 c1_i32_792
  let v857 : BitVec 32 := Scalar.addi c0_i32_793 v856
  v857.toNat
def k0_off7 (d0 : Dev nD) : Fin 3 → Nat :=
  let c4_i32_801 : BitVec 32 := 4#32
  let c1_i32_800 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v865 : BitVec 32 := Scalar.subi c1_i32_800 v4
  let v866 : BitVec 32 := Scalar.muli c4_i32_801 v865
  let c0_i32_811 : BitVec 32 := 0#32
  let c0_i32_812 : BitVec 32 := 0#32
  ![v866.toNat, 0, 0]
def k0_dev6 (d0 : Dev nD) : Nat :=
  let c0_i32_807 : BitVec 32 := 0#32
  let c1_i32_8 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v18 : BitVec 32 := Scalar.subi c1_i32_8 v4
  let c4_i32_9 : BitVec 32 := 4#32
  let v19 : BitVec 32 := Scalar.muli v18 c4_i32_9
  let c4_i32 : BitVec 32 := 4#32
  let v3 : BitVec 32 := Scalar.remsi v2 c4_i32
  let v20 : BitVec 32 := Scalar.addi v19 v3
  let c1_i32_806 : BitVec 32 := 1#32
  let v867 : BitVec 32 := Scalar.muli v20 c1_i32_806
  let v868 : BitVec 32 := Scalar.addi c0_i32_807 v867
  v868.toNat
def k0_off8 (d0 : Dev nD) : Fin 3 → Nat :=
  let c4_i32_771 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v842 : BitVec 32 := Scalar.muli c4_i32_771 v7
  let v885 : Index := Scalar.indexCast v842
  let c0_834 : Index := 0#32
  let c0_835 : Index := 0#32
  ![v885.toNat, 0, 0]
def k0_off9 (d0 : Dev nD) : Fin 3 → Nat :=
  let c4_i32_785 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 32 := Scalar.divsi v3 c2_i32_2
  let v853 : BitVec 32 := Scalar.muli c4_i32_785 v8
  let v903 : Index := Scalar.indexCast v853
  let c0_862 : Index := 0#32
  let c0_863 : Index := 0#32
  ![v903.toNat, 0, 0]
def k0_off10 (d0 : Dev nD) : Fin 3 → Nat :=
  let c4_i32_799 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v864 : BitVec 32 := Scalar.muli c4_i32_799 v4
  let v921 : Index := Scalar.indexCast v864
  let c0_890 : Index := 0#32
  let c0_891 : Index := 0#32
  ![v921.toNat, 0, 0]
def k0_off11 (d0 : Dev nD) : Fin 3 → Nat :=
  let c4_i32_899 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v932 : BitVec 32 := Scalar.muli c4_i32_899 v7
  let c2_i32_901 : BitVec 32 := 2#32
  let c1_i32_900 : BitVec 32 := 1#32
  let c2_i32_2 : BitVec 32 := 2#32
  let v8 : BitVec 32 := Scalar.divsi v3 c2_i32_2
  let v933 : BitVec 32 := Scalar.subi c1_i32_900 v8
  let v934 : BitVec 32 := Scalar.muli c2_i32_901 v933
  let v935 : BitVec 32 := Scalar.addi v932 v934
  let c0_i32_911 : BitVec 32 := 0#32
  let c0_i32_912 : BitVec 32 := 0#32
  ![v935.toNat, 0, 0]
def k0_dev7 (d0 : Dev nD) : Nat :=
  let c0_i32_907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_7 : BitVec 32 := 4#32
  let v15 : BitVec 32 := Scalar.muli v4 c4_i32_7
  let c3_i32 : BitVec 32 := 3#32
  let v16 : BitVec 32 := Scalar.addi v15 c3_i32
  let c4_i32 : BitVec 32 := 4#32
  let v3 : BitVec 32 := Scalar.remsi v2 c4_i32
  let v17 : BitVec 32 := Scalar.subi v16 v3
  let c1_i32_906 : BitVec 32 := 1#32
  let v936 : BitVec 32 := Scalar.muli v17 c1_i32_906
  let v937 : BitVec 32 := Scalar.addi c0_i32_907 v936
  v937.toNat
def k0_off12 (d0 : Dev nD) : Fin 3 → Nat :=
  let c4_i32_915 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 32 := Scalar.divsi v3 c2_i32_2
  let v947 : BitVec 32 := Scalar.muli c4_i32_915 v8
  let c2_i32_917 : BitVec 32 := 2#32
  let c1_i32_916 : BitVec 32 := 1#32
  let c4_i32_0 : BitVec 32 := 4#32
  let v4 : BitVec 32 := Scalar.divsi v2 c4_i32_0
  let v948 : BitVec 32 := Scalar.subi c1_i32_916 v4
  let v949 : BitVec 32 := Scalar.muli c2_i32_917 v948
  let v950 : BitVec 32 := Scalar.addi v947 v949
  let c0_i32_927 : BitVec 32 := 0#32
  let c0_i32_928 : BitVec 32 := 0#32
  ![v950.toNat, 0, 0]
def k0_dev8 (d0 : Dev nD) : Nat :=
  let c0_i32_923 : BitVec 32 := 0#32
  let c1_i32_8 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v18 : BitVec 32 := Scalar.subi c1_i32_8 v4
  let c4_i32_9 : BitVec 32 := 4#32
  let v19 : BitVec 32 := Scalar.muli v18 c4_i32_9
  let c4_i32 : BitVec 32 := 4#32
  let v3 : BitVec 32 := Scalar.remsi v2 c4_i32
  let v20 : BitVec 32 := Scalar.addi v19 v3
  let c1_i32_922 : BitVec 32 := 1#32
  let v951 : BitVec 32 := Scalar.muli v20 c1_i32_922
  let v952 : BitVec 32 := Scalar.addi c0_i32_923 v951
  v952.toNat
def k0_off13 (d0 : Dev nD) : Fin 3 → Nat :=
  let c4_i32_931 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v962 : BitVec 32 := Scalar.muli c4_i32_931 v4
  let c2_i32_933 : BitVec 32 := 2#32
  let c1_i32_932 : BitVec 32 := 1#32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v963 : BitVec 32 := Scalar.subi c1_i32_932 v7
  let v964 : BitVec 32 := Scalar.muli c2_i32_933 v963
  let v965 : BitVec 32 := Scalar.addi v962 v964
  let c0_i32_943 : BitVec 32 := 0#32
  let c0_i32_944 : BitVec 32 := 0#32
  ![v965.toNat, 0, 0]
def k0_dev9 (d0 : Dev nD) : Nat :=
  let c0_i32_939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_3 : BitVec 32 := 4#32
  let v9 : BitVec 32 := Scalar.muli v4 c4_i32_3
  let c4_i32 : BitVec 32 := 4#32
  let v3 : BitVec 32 := Scalar.remsi v2 c4_i32
  let v10 : BitVec 32 := Scalar.addi v9 v3
  let c1_i32_4 : BitVec 32 := 1#32
  let v11 : BitVec 32 := Scalar.addi v10 c1_i32_4
  let c2_i32_6 : BitVec 32 := 2#32
  let c2_i32_5 : BitVec 32 := 2#32
  let v12 : BitVec 32 := Scalar.remsi v3 c2_i32_5
  let v13 : BitVec 32 := Scalar.muli c2_i32_6 v12
  let v14 : BitVec 32 := Scalar.subi v11 v13
  let c1_i32_938 : BitVec 32 := 1#32
  let v966 : BitVec 32 := Scalar.muli v14 c1_i32_938
  let v967 : BitVec 32 := Scalar.addi c0_i32_939 v966
  v967.toNat
def k0_off14 (d0 : Dev nD) : Fin 3 → Nat :=
  let c4_i32_897 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v929 : BitVec 32 := Scalar.muli c4_i32_897 v7
  let c2_i32_898 : BitVec 32 := 2#32
  let c2_i32_2 : BitVec 32 := 2#32
  let v8 : BitVec 32 := Scalar.divsi v3 c2_i32_2
  let v930 : BitVec 32 := Scalar.muli c2_i32_898 v8
  let v931 : BitVec 32 := Scalar.addi v929 v930
  let v984 : Index := Scalar.indexCast v931
  let c0_966 : Index := 0#32
  let c0_967 : Index := 0#32
  ![v984.toNat, 0, 0]
def k0_off15 (d0 : Dev nD) : Fin 3 → Nat :=
  let c4_i32_913 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 32 := Scalar.divsi v3 c2_i32_2
  let v944 : BitVec 32 := Scalar.muli c4_i32_913 v8
  let c2_i32_914 : BitVec 32 := 2#32
  let c4_i32_0 : BitVec 32 := 4#32
  let v4 : BitVec 32 := Scalar.divsi v2 c4_i32_0
  let v945 : BitVec 32 := Scalar.muli c2_i32_914 v4
  let v946 : BitVec 32 := Scalar.addi v944 v945
  let v1002 : Index := Scalar.indexCast v946
  let c0_994 : Index := 0#32
  let c0_995 : Index := 0#32
  ![v1002.toNat, 0, 0]
def k0_off16 (d0 : Dev nD) : Fin 3 → Nat :=
  let c4_i32_929 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v959 : BitVec 32 := Scalar.muli c4_i32_929 v4
  let c2_i32_930 : BitVec 32 := 2#32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v960 : BitVec 32 := Scalar.muli c2_i32_930 v7
  let v961 : BitVec 32 := Scalar.addi v959 v960
  let v1020 : Index := Scalar.indexCast v961
  let c0_1022 : Index := 0#32
  let c0_1023 : Index := 0#32
  ![v1020.toNat, 0, 0]
def k0_off17 (d0 : Dev nD) : Fin 3 → Nat :=
  let c4_i32_1031 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v1032 : BitVec 32 := Scalar.muli c4_i32_1031 v7
  let c2_i32_1032 : BitVec 32 := 2#32
  let c2_i32_2 : BitVec 32 := 2#32
  let v8 : BitVec 32 := Scalar.divsi v3 c2_i32_2
  let v1033 : BitVec 32 := Scalar.muli c2_i32_1032 v8
  let v1034 : BitVec 32 := Scalar.addi v1032 v1033
  let c1_i32_1033 : BitVec 32 := 1#32
  let c4_i32_0 : BitVec 32 := 4#32
  let v4 : BitVec 32 := Scalar.divsi v2 c4_i32_0
  let v1035 : BitVec 32 := Scalar.subi c1_i32_1033 v4
  let v1036 : BitVec 32 := Scalar.addi v1034 v1035
  let c0_i32_1042 : BitVec 32 := 0#32
  let c0_i32_1043 : BitVec 32 := 0#32
  ![v1036.toNat, 0, 0]
def k0_dev10 (d0 : Dev nD) : Nat :=
  let c0_i32_1039 : BitVec 32 := 0#32
  let c1_i32_8 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v18 : BitVec 32 := Scalar.subi c1_i32_8 v4
  let c4_i32_9 : BitVec 32 := 4#32
  let v19 : BitVec 32 := Scalar.muli v18 c4_i32_9
  let c4_i32 : BitVec 32 := 4#32
  let v3 : BitVec 32 := Scalar.remsi v2 c4_i32
  let v20 : BitVec 32 := Scalar.addi v19 v3
  let c1_i32_1038 : BitVec 32 := 1#32
  let v1037 : BitVec 32 := Scalar.muli v20 c1_i32_1038
  let v1038 : BitVec 32 := Scalar.addi c0_i32_1039 v1037
  v1038.toNat
def k0_off18 (d0 : Dev nD) : Fin 3 → Nat :=
  let c4_i32_1046 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 32 := Scalar.divsi v3 c2_i32_2
  let v1049 : BitVec 32 := Scalar.muli c4_i32_1046 v8
  let c2_i32_1047 : BitVec 32 := 2#32
  let c4_i32_0 : BitVec 32 := 4#32
  let v4 : BitVec 32 := Scalar.divsi v2 c4_i32_0
  let v1050 : BitVec 32 := Scalar.muli c2_i32_1047 v4
  let v1051 : BitVec 32 := Scalar.addi v1049 v1050
  let c1_i32_1048 : BitVec 32 := 1#32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v1052 : BitVec 32 := Scalar.subi c1_i32_1048 v7
  let v1053 : BitVec 32 := Scalar.addi v1051 v1052
  let c0_i32_1058 : BitVec 32 := 0#32
  let c0_i32_1059 : BitVec 32 := 0#32
  ![v1053.toNat, 0, 0]
def k0_dev11 (d0 : Dev nD) : Nat :=
  let c0_i32_1054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_3 : BitVec 32 := 4#32
  let v9 : BitVec 32 := Scalar.muli v4 c4_i32_3
  let c4_i32 : BitVec 32 := 4#32
  let v3 : BitVec 32 := Scalar.remsi v2 c4_i32
  let v10 : BitVec 32 := Scalar.addi v9 v3
  let c1_i32_4 : BitVec 32 := 1#32
  let v11 : BitVec 32 := Scalar.addi v10 c1_i32_4
  let c2_i32_6 : BitVec 32 := 2#32
  let c2_i32_5 : BitVec 32 := 2#32
  let v12 : BitVec 32 := Scalar.remsi v3 c2_i32_5
  let v13 : BitVec 32 := Scalar.muli c2_i32_6 v12
  let v14 : BitVec 32 := Scalar.subi v11 v13
  let c1_i32_1053 : BitVec 32 := 1#32
  let v1054 : BitVec 32 := Scalar.muli v14 c1_i32_1053
  let v1055 : BitVec 32 := Scalar.addi c0_i32_1054 v1054
  v1055.toNat
def k0_off19 (d0 : Dev nD) : Fin 3 → Nat :=
  let c4_i32_1062 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v1066 : BitVec 32 := Scalar.muli c4_i32_1062 v4
  let c2_i32_1063 : BitVec 32 := 2#32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v1067 : BitVec 32 := Scalar.muli c2_i32_1063 v7
  let v1068 : BitVec 32 := Scalar.addi v1066 v1067
  let c1_i32_1064 : BitVec 32 := 1#32
  let c2_i32_2 : BitVec 32 := 2#32
  let v8 : BitVec 32 := Scalar.divsi v3 c2_i32_2
  let v1069 : BitVec 32 := Scalar.subi c1_i32_1064 v8
  let v1070 : BitVec 32 := Scalar.addi v1068 v1069
  let c0_i32_1074 : BitVec 32 := 0#32
  let c0_i32_1075 : BitVec 32 := 0#32
  ![v1070.toNat, 0, 0]
def k0_dev12 (d0 : Dev nD) : Nat :=
  let c0_i32_1070 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_7 : BitVec 32 := 4#32
  let v15 : BitVec 32 := Scalar.muli v4 c4_i32_7
  let c3_i32 : BitVec 32 := 3#32
  let v16 : BitVec 32 := Scalar.addi v15 c3_i32
  let c4_i32 : BitVec 32 := 4#32
  let v3 : BitVec 32 := Scalar.remsi v2 c4_i32
  let v17 : BitVec 32 := Scalar.subi v16 v3
  let c1_i32_1069 : BitVec 32 := 1#32
  let v1071 : BitVec 32 := Scalar.muli v17 c1_i32_1069
  let v1072 : BitVec 32 := Scalar.addi c0_i32_1070 v1071
  v1072.toNat
def k0_off20 (d0 : Dev nD) : Fin 3 → Nat :=
  let c4_i32_1029 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v1028 : BitVec 32 := Scalar.muli c4_i32_1029 v7
  let c2_i32_1030 : BitVec 32 := 2#32
  let c2_i32_2 : BitVec 32 := 2#32
  let v8 : BitVec 32 := Scalar.divsi v3 c2_i32_2
  let v1029 : BitVec 32 := Scalar.muli c2_i32_1030 v8
  let v1030 : BitVec 32 := Scalar.addi v1028 v1029
  let c4_i32_0 : BitVec 32 := 4#32
  let v4 : BitVec 32 := Scalar.divsi v2 c4_i32_0
  let v1031 : BitVec 32 := Scalar.addi v1030 v4
  let v1089 : Index := Scalar.indexCast v1031
  let c0_1097 : Index := 0#32
  let c0_1098 : Index := 0#32
  ![v1089.toNat, 0, 0]
def k0_off21 (d0 : Dev nD) : Fin 3 → Nat :=
  let c4_i32_1044 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 32 := Scalar.divsi v3 c2_i32_2
  let v1045 : BitVec 32 := Scalar.muli c4_i32_1044 v8
  let c2_i32_1045 : BitVec 32 := 2#32
  let c4_i32_0 : BitVec 32 := 4#32
  let v4 : BitVec 32 := Scalar.divsi v2 c4_i32_0
  let v1046 : BitVec 32 := Scalar.muli c2_i32_1045 v4
  let v1047 : BitVec 32 := Scalar.addi v1045 v1046
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v1048 : BitVec 32 := Scalar.addi v1047 v7
  let v1107 : Index := Scalar.indexCast v1048
  let c0_1125 : Index := 0#32
  let c0_1126 : Index := 0#32
  ![v1107.toNat, 0, 0]
def k0_off22 (d0 : Dev nD) : Fin 3 → Nat :=
  let c4_i32_1060 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v1062 : BitVec 32 := Scalar.muli c4_i32_1060 v4
  let c2_i32_1061 : BitVec 32 := 2#32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v1063 : BitVec 32 := Scalar.muli c2_i32_1061 v7
  let v1064 : BitVec 32 := Scalar.addi v1062 v1063
  let c2_i32_2 : BitVec 32 := 2#32
  let v8 : BitVec 32 := Scalar.divsi v3 c2_i32_2
  let v1065 : BitVec 32 := Scalar.addi v1064 v8
  let v1125 : Index := Scalar.indexCast v1065
  let c0_1153 : Index := 0#32
  let c0_1154 : Index := 0#32
  ![v1125.toNat, 0, 0]
def k0_off23 (d0 : Dev nD) : Fin 3 → Nat :=
  let c4_i32_1160 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v1133 : BitVec 32 := Scalar.muli c4_i32_1160 v7
  let c2_i32_1161 : BitVec 32 := 2#32
  let c2_i32_2 : BitVec 32 := 2#32
  let v8 : BitVec 32 := Scalar.divsi v3 c2_i32_2
  let v1134 : BitVec 32 := Scalar.muli c2_i32_1161 v8
  let v1135 : BitVec 32 := Scalar.addi v1133 v1134
  let c4_i32_0 : BitVec 32 := 4#32
  let v4 : BitVec 32 := Scalar.divsi v2 c4_i32_0
  let v1136 : BitVec 32 := Scalar.addi v1135 v4
  let c0_i32_1168 : BitVec 32 := 0#32
  let c0_i32_1169 : BitVec 32 := 0#32
  ![v1136.toNat, 0, 0]
def k0_dev13 (d0 : Dev nD) : Nat :=
  let c0_i32_1167 : BitVec 32 := 0#32
  let c1_i32_8 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v18 : BitVec 32 := Scalar.subi c1_i32_8 v4
  let c4_i32_9 : BitVec 32 := 4#32
  let v19 : BitVec 32 := Scalar.muli v18 c4_i32_9
  let c4_i32 : BitVec 32 := 4#32
  let v3 : BitVec 32 := Scalar.remsi v2 c4_i32
  let v20 : BitVec 32 := Scalar.addi v19 v3
  let c1_i32_1166 : BitVec 32 := 1#32
  let v1137 : BitVec 32 := Scalar.muli v20 c1_i32_1166
  let v1138 : BitVec 32 := Scalar.addi c0_i32_1167 v1137
  v1138.toNat
def k0_off24 (d0 : Dev nD) : Fin 3 → Nat :=
  let c4_i32_1172 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 32 := Scalar.divsi v3 c2_i32_2
  let v1145 : BitVec 32 := Scalar.muli c4_i32_1172 v8
  let c2_i32_1173 : BitVec 32 := 2#32
  let c4_i32_0 : BitVec 32 := 4#32
  let v4 : BitVec 32 := Scalar.divsi v2 c4_i32_0
  let v1146 : BitVec 32 := Scalar.muli c2_i32_1173 v4
  let v1147 : BitVec 32 := Scalar.addi v1145 v1146
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v1148 : BitVec 32 := Scalar.addi v1147 v7
  let c0_i32_1180 : BitVec 32 := 0#32
  let c0_i32_1181 : BitVec 32 := 0#32
  ![v1148.toNat, 0, 0]
def k0_dev14 (d0 : Dev nD) : Nat :=
  let c0_i32_1179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_3 : BitVec 32 := 4#32
  let v9 : BitVec 32 := Scalar.muli v4 c4_i32_3
  let c4_i32 : BitVec 32 := 4#32
  let v3 : BitVec 32 := Scalar.remsi v2 c4_i32
  let v10 : BitVec 32 := Scalar.addi v9 v3
  let c1_i32_4 : BitVec 32 := 1#32
  let v11 : BitVec 32 := Scalar.addi v10 c1_i32_4
  let c2_i32_6 : BitVec 32 := 2#32
  let c2_i32_5 : BitVec 32 := 2#32
  let v12 : BitVec 32 := Scalar.remsi v3 c2_i32_5
  let v13 : BitVec 32 := Scalar.muli c2_i32_6 v12
  let v14 : BitVec 32 := Scalar.subi v11 v13
  let c1_i32_1178 : BitVec 32 := 1#32
  let v1149 : BitVec 32 := Scalar.muli v14 c1_i32_1178
  let v1150 : BitVec 32 := Scalar.addi c0_i32_1179 v1149
  v1150.toNat
def k0_off25 (d0 : Dev nD) : Fin 3 → Nat :=
  let c4_i32_1184 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v1157 : BitVec 32 := Scalar.muli c4_i32_1184 v4
  let c2_i32_1185 : BitVec 32 := 2#32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v1158 : BitVec 32 := Scalar.muli c2_i32_1185 v7
  let v1159 : BitVec 32 := Scalar.addi v1157 v1158
  let c2_i32_2 : BitVec 32 := 2#32
  let v8 : BitVec 32 := Scalar.divsi v3 c2_i32_2
  let v1160 : BitVec 32 := Scalar.addi v1159 v8
  let c0_i32_1192 : BitVec 32 := 0#32
  let c0_i32_1193 : BitVec 32 := 0#32
  ![v1160.toNat, 0, 0]
def k0_dev15 (d0 : Dev nD) : Nat :=
  let c0_i32_1191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_7 : BitVec 32 := 4#32
  let v15 : BitVec 32 := Scalar.muli v4 c4_i32_7
  let c3_i32 : BitVec 32 := 3#32
  let v16 : BitVec 32 := Scalar.addi v15 c3_i32
  let c4_i32 : BitVec 32 := 4#32
  let v3 : BitVec 32 := Scalar.remsi v2 c4_i32
  let v17 : BitVec 32 := Scalar.subi v16 v3
  let c1_i32_1190 : BitVec 32 := 1#32
  let v1161 : BitVec 32 := Scalar.muli v17 c1_i32_1190
  let v1162 : BitVec 32 := Scalar.addi c0_i32_1191 v1161
  v1162.toNat
def k0_off26 (d0 : Dev nD) : Fin 3 → Nat :=
  let c4_i32_1253 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v1199 : BitVec 32 := Scalar.muli c4_i32_1253 v7
  let c2_i32_1254 : BitVec 32 := 2#32
  let c2_i32_2 : BitVec 32 := 2#32
  let v8 : BitVec 32 := Scalar.divsi v3 c2_i32_2
  let v1200 : BitVec 32 := Scalar.muli c2_i32_1254 v8
  let v1201 : BitVec 32 := Scalar.addi v1199 v1200
  let c0_i32_1261 : BitVec 32 := 0#32
  let c0_i32_1262 : BitVec 32 := 0#32
  ![v1201.toNat, 0, 0]
def k0_dev16 (d0 : Dev nD) : Nat :=
  let c0_i32_1260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_7 : BitVec 32 := 4#32
  let v15 : BitVec 32 := Scalar.muli v4 c4_i32_7
  let c3_i32 : BitVec 32 := 3#32
  let v16 : BitVec 32 := Scalar.addi v15 c3_i32
  let c4_i32 : BitVec 32 := 4#32
  let v3 : BitVec 32 := Scalar.remsi v2 c4_i32
  let v17 : BitVec 32 := Scalar.subi v16 v3
  let c1_i32_1259 : BitVec 32 := 1#32
  let v1202 : BitVec 32 := Scalar.muli v17 c1_i32_1259
  let v1203 : BitVec 32 := Scalar.addi c0_i32_1260 v1202
  v1203.toNat
def k0_off27 (d0 : Dev nD) : Fin 3 → Nat :=
  let c4_i32_1265 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 32 := Scalar.divsi v3 c2_i32_2
  let v1210 : BitVec 32 := Scalar.muli c4_i32_1265 v8
  let c2_i32_1266 : BitVec 32 := 2#32
  let c4_i32_0 : BitVec 32 := 4#32
  let v4 : BitVec 32 := Scalar.divsi v2 c4_i32_0
  let v1211 : BitVec 32 := Scalar.muli c2_i32_1266 v4
  let v1212 : BitVec 32 := Scalar.addi v1210 v1211
  let c0_i32_1273 : BitVec 32 := 0#32
  let c0_i32_1274 : BitVec 32 := 0#32
  ![v1212.toNat, 0, 0]
def k0_dev17 (d0 : Dev nD) : Nat :=
  let c0_i32_1272 : BitVec 32 := 0#32
  let c1_i32_8 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v18 : BitVec 32 := Scalar.subi c1_i32_8 v4
  let c4_i32_9 : BitVec 32 := 4#32
  let v19 : BitVec 32 := Scalar.muli v18 c4_i32_9
  let c4_i32 : BitVec 32 := 4#32
  let v3 : BitVec 32 := Scalar.remsi v2 c4_i32
  let v20 : BitVec 32 := Scalar.addi v19 v3
  let c1_i32_1271 : BitVec 32 := 1#32
  let v1213 : BitVec 32 := Scalar.muli v20 c1_i32_1271
  let v1214 : BitVec 32 := Scalar.addi c0_i32_1272 v1213
  v1214.toNat
def k0_off28 (d0 : Dev nD) : Fin 3 → Nat :=
  let c4_i32_1277 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v1221 : BitVec 32 := Scalar.muli c4_i32_1277 v4
  let c2_i32_1278 : BitVec 32 := 2#32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v1222 : BitVec 32 := Scalar.muli c2_i32_1278 v7
  let v1223 : BitVec 32 := Scalar.addi v1221 v1222
  let c0_i32_1285 : BitVec 32 := 0#32
  let c0_i32_1286 : BitVec 32 := 0#32
  ![v1223.toNat, 0, 0]
def k0_dev18 (d0 : Dev nD) : Nat :=
  let c0_i32_1284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_3 : BitVec 32 := 4#32
  let v9 : BitVec 32 := Scalar.muli v4 c4_i32_3
  let c4_i32 : BitVec 32 := 4#32
  let v3 : BitVec 32 := Scalar.remsi v2 c4_i32
  let v10 : BitVec 32 := Scalar.addi v9 v3
  let c1_i32_4 : BitVec 32 := 1#32
  let v11 : BitVec 32 := Scalar.addi v10 c1_i32_4
  let c2_i32_6 : BitVec 32 := 2#32
  let c2_i32_5 : BitVec 32 := 2#32
  let v12 : BitVec 32 := Scalar.remsi v3 c2_i32_5
  let v13 : BitVec 32 := Scalar.muli c2_i32_6 v12
  let v14 : BitVec 32 := Scalar.subi v11 v13
  let c1_i32_1283 : BitVec 32 := 1#32
  let v1224 : BitVec 32 := Scalar.muli v14 c1_i32_1283
  let v1225 : BitVec 32 := Scalar.addi c0_i32_1284 v1224
  v1225.toNat
def k0_off29 (d0 : Dev nD) : Fin 3 → Nat :=
  let c4_i32_1346 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v5 : BitVec 32 := Scalar.divsi v3 c2_i32
  let v6 : BitVec 32 := Scalar.addi v3 v5
  let c2_i32_1 : BitVec 32 := 2#32
  let v7 : BitVec 32 := Scalar.remsi v6 c2_i32_1
  let v1262 : BitVec 32 := Scalar.muli c4_i32_1346 v7
  let c0_i32_1352 : BitVec 32 := 0#32
  let c0_i32_1353 : BitVec 32 := 0#32
  ![v1262.toNat, 0, 0]
def k0_dev19 (d0 : Dev nD) : Nat :=
  let c0_i32_1351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_3 : BitVec 32 := 4#32
  let v9 : BitVec 32 := Scalar.muli v4 c4_i32_3
  let c4_i32 : BitVec 32 := 4#32
  let v3 : BitVec 32 := Scalar.remsi v2 c4_i32
  let v10 : BitVec 32 := Scalar.addi v9 v3
  let c1_i32_4 : BitVec 32 := 1#32
  let v11 : BitVec 32 := Scalar.addi v10 c1_i32_4
  let c2_i32_6 : BitVec 32 := 2#32
  let c2_i32_5 : BitVec 32 := 2#32
  let v12 : BitVec 32 := Scalar.remsi v3 c2_i32_5
  let v13 : BitVec 32 := Scalar.muli c2_i32_6 v12
  let v14 : BitVec 32 := Scalar.subi v11 v13
  let c1_i32_1350 : BitVec 32 := 1#32
  let v1263 : BitVec 32 := Scalar.muli v14 c1_i32_1350
  let v1264 : BitVec 32 := Scalar.addi c0_i32_1351 v1263
  v1264.toNat
def k0_off30 (d0 : Dev nD) : Fin 3 → Nat :=
  let c4_i32_1356 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 32 := Scalar.divsi v3 c2_i32_2
  let v1271 : BitVec 32 := Scalar.muli c4_i32_1356 v8
  let c0_i32_1363 : BitVec 32 := 0#32
  let c0_i32_1364 : BitVec 32 := 0#32
  ![v1271.toNat, 0, 0]
def k0_dev20 (d0 : Dev nD) : Nat :=
  let c0_i32_1362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_7 : BitVec 32 := 4#32
  let v15 : BitVec 32 := Scalar.muli v4 c4_i32_7
  let c3_i32 : BitVec 32 := 3#32
  let v16 : BitVec 32 := Scalar.addi v15 c3_i32
  let c4_i32 : BitVec 32 := 4#32
  let v3 : BitVec 32 := Scalar.remsi v2 c4_i32
  let v17 : BitVec 32 := Scalar.subi v16 v3
  let c1_i32_1361 : BitVec 32 := 1#32
  let v1272 : BitVec 32 := Scalar.muli v17 c1_i32_1361
  let v1273 : BitVec 32 := Scalar.addi c0_i32_1362 v1272
  v1273.toNat
def k0_off31 (d0 : Dev nD) : Fin 3 → Nat :=
  let c4_i32_1367 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v1280 : BitVec 32 := Scalar.muli c4_i32_1367 v4
  let c0_i32_1374 : BitVec 32 := 0#32
  let c0_i32_1375 : BitVec 32 := 0#32
  ![v1280.toNat, 0, 0]
def k0_dev21 (d0 : Dev nD) : Nat :=
  let c0_i32_1373 : BitVec 32 := 0#32
  let c1_i32_8 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v18 : BitVec 32 := Scalar.subi c1_i32_8 v4
  let c4_i32_9 : BitVec 32 := 4#32
  let v19 : BitVec 32 := Scalar.muli v18 c4_i32_9
  let c4_i32 : BitVec 32 := 4#32
  let v3 : BitVec 32 := Scalar.remsi v2 c4_i32
  let v20 : BitVec 32 := Scalar.addi v19 v3
  let c1_i32_1372 : BitVec 32 := 1#32
  let v1281 : BitVec 32 := Scalar.muli v20 c1_i32_1372
  let v1282 : BitVec 32 := Scalar.addi c0_i32_1373 v1281
  v1282.toNat
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x256x1024 : Shape := ⟨3, ![4, 256, 1024]⟩
abbrev S1024x8192 : Shape := ⟨2, ![1024, 8192]⟩
abbrev S4x1024x16x128 : Shape := ⟨4, ![4, 1024, 16, 128]⟩
abbrev S8192x1024 : Shape := ⟨2, ![8192, 1024]⟩
abbrev S4x256x8192 : Shape := ⟨3, ![4, 256, 8192]⟩
abbrev S4x256x64x128 : Shape := ⟨4, ![4, 256, 64, 128]⟩
abbrev S4x1024x16x4x128 : Shape := ⟨5, ![4, 1024, 16, 4, 128]⟩
abbrev S4x1024x64x128 : Shape := ⟨4, ![4, 1024, 64, 128]⟩
abbrev S_ : Shape := ⟨0, ![]⟩
abbrev S4x64x256x1 : Shape := ⟨4, ![4, 64, 256, 1]⟩
abbrev S4x64x256x1024 : Shape := ⟨4, ![4, 64, 256, 1024]⟩
abbrev S4x64x256 : Shape := ⟨3, ![4, 64, 256]⟩
abbrev S4x256x64x1 : Shape := ⟨4, ![4, 256, 64, 1]⟩
abbrev S4x64x128x256 : Shape := ⟨4, ![4, 64, 128, 256]⟩

abbrev nBuf : Space → Nat
  | .hbm => 46
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x8192, .f32⟩
  | .hbm, ⟨2, _⟩ => ⟨S4x1024x16x128, .f32⟩
  | .hbm, ⟨3, _⟩ => ⟨S4x1024x16x128, .f32⟩
  | .hbm, ⟨4, _⟩ => ⟨S8192x1024, .f32⟩
  | .hbm, ⟨5, _⟩ => ⟨S4x256x8192, .f32⟩
  | .hbm, ⟨6, _⟩ => ⟨S4x256x64x128, .f32⟩
  | .hbm, ⟨7, _⟩ => ⟨S4x1024x16x4x128, .f32⟩
  | .hbm, ⟨8, _⟩ => ⟨S4x1024x64x128, .f32⟩
  | .hbm, ⟨9, _⟩ => ⟨S4x1024x16x4x128, .f32⟩
  | .hbm, ⟨10, _⟩ => ⟨S4x1024x64x128, .f32⟩
  | .hbm, ⟨11, _⟩ => ⟨S_, .f32⟩
  | .hbm, ⟨12, _⟩ => ⟨S4x256x64x128, .f32⟩
  | .hbm, ⟨13, _⟩ => ⟨S_, .f32⟩
  | .hbm, ⟨14, _⟩ => ⟨S4x64x256x1, .f32⟩
  | .hbm, ⟨15, _⟩ => ⟨S_, .f32⟩
  | .hbm, ⟨16, _⟩ => ⟨S4x64x256x1, .f32⟩
  | .hbm, ⟨17, _⟩ => ⟨S4x64x256x1024, .f32⟩
  | .hbm, ⟨18, _⟩ => ⟨S_, .f32⟩
  | .hbm, ⟨19, _⟩ => ⟨S4x64x256x1024, .f32⟩
  | .hbm, ⟨20, _⟩ => ⟨S4x64x256x1024, .f32⟩
  | .hbm, ⟨21, _⟩ => ⟨S_, .f32⟩
  | .hbm, ⟨22, _⟩ => ⟨S4x64x256, .f32⟩
  | .hbm, ⟨23, _⟩ => ⟨S4x64x256x1, .f32⟩
  | .hbm, ⟨24, _⟩ => ⟨S4x64x256x1, .f32⟩
  | .hbm, ⟨25, _⟩ => ⟨S4x64x256x1, .f32⟩
  | .hbm, ⟨26, _⟩ => ⟨S4x64x256x1, .f32⟩
  | .hbm, ⟨27, _⟩ => ⟨S4x64x256x1024, .f32⟩
  | .hbm, ⟨28, _⟩ => ⟨S4x64x256x1024, .f32⟩
  | .hbm, ⟨29, _⟩ => ⟨S4x64x256x1024, .f32⟩
  | .hbm, ⟨30, _⟩ => ⟨S4x64x256x1, .f32⟩
  | .hbm, ⟨31, _⟩ => ⟨S_, .f32⟩
  | .hbm, ⟨32, _⟩ => ⟨S4x64x256, .f32⟩
  | .hbm, ⟨33, _⟩ => ⟨S4x64x256x1, .f32⟩
  | .hbm, ⟨34, _⟩ => ⟨S4x64x256x1, .f32⟩
  | .hbm, ⟨35, _⟩ => ⟨S4x256x64x1, .f32⟩
  | .hbm, ⟨36, _⟩ => ⟨S4x256x64x128, .f32⟩
  | .hbm, ⟨37, _⟩ => ⟨S4x256x64x128, .f32⟩
  | .hbm, ⟨38, _⟩ => ⟨S4x64x128x256, .f32⟩
  | .hbm, ⟨39, _⟩ => ⟨S4x256x64x128, .f32⟩
  | .hbm, ⟨40, _⟩ => ⟨S4x256x64x128, .f32⟩
  | .hbm, ⟨41, _⟩ => ⟨S4x256x64x1, .f32⟩
  | .hbm, ⟨42, _⟩ => ⟨S4x256x64x128, .f32⟩
  | .hbm, ⟨43, _⟩ => ⟨S4x256x64x128, .f32⟩
  | .hbm, ⟨44, _⟩ => ⟨S4x256x8192, .f32⟩
  | .hbm, ⟨45, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.KernelIdeal.Base.lean ====
/-
# The resources and the buffers of the kernel

The user algebra and the memrefs the kernel's body is called with.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.Batch
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The resource algebra: the pipeline library's rounds, the kernel's own rounds, the transfer counters -/

abbrev UB : Type := URounds (GSem nD τ sig) (Fin 3)
abbrev UU : Type := UR sig nD τ × (UB × Counters)

local notation "𝕄" => MT nD τ sig Bool (Elt F) ℕ UU ℕ

abbrev EP : Emb (UR sig nD τ) (MT nD τ sig Bool (Elt F) ℕ UU ℕ) := embL
abbrev ER : Emb UB (MT nD τ sig Bool (Elt F) ℕ UU ℕ) := (Emb.inl : Emb UB (UB × Counters)).trans embR

/-! ## The memrefs -/

abbrev xM : Memref sig .tc .vmem S4x256x1024 .f32 := win0_0.stage 0
abbrev wqM : Memref sig .tc .vmem S1024x1024 .f32 := win0_1.stage 0
abbrev woM : Memref sig .tc .vmem S1024x1024 .f32 := win0_2.stage 0
abbrev kM : Memref sig .tc .hbm S4x1024x16x128 .f32 := Memref.whole main_arg2
abbrev vM : Memref sig .tc .hbm S4x1024x16x128 .f32 := Memref.whole main_arg3
abbrev oM : Memref sig .tc .vmem S4x256x1024 .f32 := win0_3.stage 0
abbrev qM : Memref sig .tc .vmem S1024x1024 .bf16 := Memref.whole cc0_scratch6
abbrev ppM : Memref sig .tc .vmem S8x128x1024 .bf16 := Memref.whole cc0_scratch7
abbrev kvM : Memref sig .tc .vmem S2x4x2x1024x128 .f32 := Memref.whole cc0_scratch8

end Cert.KernelIdealProof
-- ==== Proof.KernelIdeal.Hold.lean ====
/-
# Holding part of a buffer at known contents

`hold c M S G`: device `c` owns, of the buffer behind the memref `M`, the elements under the index set `S`, and reads
`G` through `M` there. Regions split and join along disjoint index sets; a load, a store and a remote copy act on them.
-/
module

public import proofs.«01_k».proof.Proof.KernelIdeal.Base

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Bool (Elt F) ℕ UU ℕ

variable {sp : Space} {s : Shape} {e : EltTy}

/-- Device `c` owns the elements of `M` under `S`, holding `G`. -/
def hold (c : Dev nD) (M : Memref sig .tc sp s e) (S : Finset s.Idx) (G : s.Idx → Elt F e) : sProp 𝕄 :=
  iprop(∃ f : Buf (Elt F) (M.view.loc (c : Thread nD τ)),
    ⌜∀ x ∈ S, M.view.read (Elt F) f x = G x⌝ ∗ (M.view.loc (c : Thread nD τ) ↦[M.view.setOn S]{fullShare} f))

omit [FloatOps F] in
instance hold_storable (c : Dev nD) (M : Memref sig .tc sp s e) (S : Finset s.Idx) (G : s.Idx → Elt F e) :
    BI.Storable (upEmb : UEmb _ 𝕄) (hold c M S G) := by unfold hold; infer_instance

/-- Device `c` owns the elements of `M` under `S`, at whatever contents. -/
def holdAny (c : Dev nD) (M : Memref sig .tc sp s e) (S : Finset s.Idx) : sProp 𝕄 :=
  iprop(∃ G : s.Idx → Elt F e, hold c M S G)

omit [FloatOps F] in
instance holdAny_storable (c : Dev nD) (M : Memref sig .tc sp s e) (S : Finset s.Idx) :
    BI.Storable (upEmb : UEmb _ 𝕄) (holdAny (F := F) c M S) := by unfold holdAny; infer_instance

section
omit [FloatOps F]

theorem hold_intro (c : Dev nD) (M : Memref sig .tc sp s e) (S : Finset s.Idx) (G : s.Idx → Elt F e)
    (f : Buf (Elt F) (M.view.loc (c : Thread nD τ))) (h : ∀ x ∈ S, M.view.read (Elt F) f x = G x) :
    (M.view.loc (c : Thread nD τ) ↦[M.view.setOn S]{fullShare} f : sProp 𝕄) ⊢ hold c M S G := by
  unfold hold; iintro H; iexists f
  isplitr; · ipureintro; exact h
  iexact H

theorem hold_congr {c : Dev nD} {M : Memref sig .tc sp s e} {S : Finset s.Idx} {G G' : s.Idx → Elt F e}
    (h : ∀ x ∈ S, G x = G' x) : (hold c M S G : sProp 𝕄) ⊢ hold c M S G' := by
  unfold hold
  iintro ⟨%f, %hf, H⟩
  iexists f
  isplitr; · ipureintro; exact fun x hx => (hf x hx).trans (h x hx)
  iexact H

theorem hold_any {c : Dev nD} {M : Memref sig .tc sp s e} {S : Finset s.Idx} {G : s.Idx → Elt F e} :
    (hold c M S G : sProp 𝕄) ⊢ holdAny c M S := by
  unfold holdAny; iintro H; iexists G; iexact H

theorem setOn_disjoint {M : Memref sig .tc sp s e} {S T : Finset s.Idx} (h : Disjoint S T) :
    Disjoint (M.view.setOn S) (M.view.setOn T) := (Finset.disjoint_map _).mpr h

theorem setOn_union {M : Memref sig .tc sp s e} {S T : Finset s.Idx} :
    M.view.setOn (S ∪ T) = M.view.setOn S ∪ M.view.setOn T := Finset.map_union _ _

/-- A region falls into two disjoint ones. -/
theorem hold_split {c : Dev nD} {M : Memref sig .tc sp s e} {S T : Finset s.Idx} {G : s.Idx → Elt F e} (h : Disjoint S T) :
    (hold c M (S ∪ T) G : sProp 𝕄) ⊢ iprop(hold c M S G ∗ hold c M T G) := by
  unfold hold
  iintro ⟨%f, %hf, H⟩
  ihave H2 := (Entails.of_eq (congrArg (fun X => (M.view.loc (c : Thread nD τ) ↦[X]{fullShare} f : sProp 𝕄)) setOn_union)) $$ H
  ihave H3 := (pointsTo_union (setOn_disjoint h)).1 $$ H2
  icases H3 with ⟨H1, H2⟩
  isplitl [H1]
  · iexists f
    isplitr; · ipureintro; exact fun x hx => hf x (Finset.mem_union_left _ hx)
    iexact H1
  · iexists f
    isplitr; · ipureintro; exact fun x hx => hf x (Finset.mem_union_right _ hx)
    iexact H2

/-- Two disjoint regions make one. -/
theorem hold_join {c : Dev nD} {M : Memref sig .tc sp s e} {S T : Finset s.Idx} {G : s.Idx → Elt F e} (h : Disjoint S T) :
    iprop(hold c M S G ∗ hold c M T G) ⊢ (hold c M (S ∪ T) G : sProp 𝕄) := by
  unfold hold
  iintro ⟨⟨%f, %hf, H1⟩, ⟨%g, %hg, H2⟩⟩
  ihave H3 := (pointsTo_join (f := f) (g := g) (setOn_disjoint (M := M) h)) $$ [H1 H2]
  · isplitl [H1] <;> iassumption
  iexists ((M.view.setOn T).piecewise g f)
  isplitr
  · ipureintro
    intro x hx
    by_cases hT : x ∈ T
    · rw [M.view.read_congr_at x (Finset.piecewise_eq_of_mem _ g f (M.view.mem_setOn.mpr hT))]
      exact hg x hT
    · rw [M.view.read_congr_at x (Finset.piecewise_eq_of_notMem _ g f (fun h' => hT (M.view.mem_setOn.mp h')))]
      exact hf x ((Finset.mem_union.mp hx).resolve_right hT)
  · iapply (Entails.of_eq (congrArg (fun X => (M.view.loc (c : Thread nD τ) ↦[X]{fullShare} (M.view.setOn T).piecewise g f : sProp 𝕄)) setOn_union.symm))
    iexact H3

/-- Two disjoint regions at any contents make one at any contents. -/
theorem holdAny_join {c : Dev nD} {M : Memref sig .tc sp s e} {S T : Finset s.Idx} (h : Disjoint S T) :
    iprop(holdAny c M S ∗ holdAny c M T) ⊢ (holdAny (F := F) c M (S ∪ T) : sProp 𝕄) := by
  unfold holdAny
  iintro ⟨⟨%G, H1⟩, ⟨%G', H2⟩⟩
  ihave H1 := (hold_congr (G' := T.piecewise G' G) (fun x hx => (Finset.piecewise_eq_of_notMem _ _ _ (Finset.disjoint_left.mp h hx)).symm)) $$ H1
  ihave H2 := (hold_congr (G' := T.piecewise G' G) (fun x hx => (Finset.piecewise_eq_of_mem _ _ _ hx).symm)) $$ H2
  iexists (T.piecewise G' G)
  iapply (hold_join h)
  isplitl [H1] <;> iassumption

/-- The region under a rectangle is the whole of the memref sliced by it. -/
theorem hold_slice_eq {c : Dev nD} {M : Memref sig .tc sp s e} {r : Rect s} {hr} {G : s.Idx → Elt F e} :
    (hold c M r.set G : sProp 𝕄) = hold c (M.slice r hr) Finset.univ (fun x => G (r.emb x)) := by
  unfold hold
  refine congrArg BIBase.exists (funext fun f => ?_)
  have hset : (M.slice r hr).view.setOn Finset.univ = M.view.setOn r.set := (View.setOn_univ _).trans (View.set_slice _ _)
  have hp : (∀ x ∈ r.set, M.view.read (Elt F) f x = G x) ↔ (∀ x ∈ (Finset.univ : Finset r.shape.Idx), (M.slice r hr).view.read (Elt F) f x = G (r.emb x)) := by
    constructor
    · intro h x _; exact h (r.emb x) (r.idx_mem x)
    · intro h x hx
      obtain ⟨y, rfl⟩ := r.exists_idx_of_mem hx
      exact h y (Finset.mem_univ y)
  exact congrArg₂ BIBase.sep (congrArg BIBase.pure (propext hp)) (congrArg (fun X => (M.view.loc (c : Thread nD τ) ↦[X]{fullShare} f : sProp 𝕄)) hset.symm)

/-- A memref held in full under its whole view. -/
theorem hold_univ_eq {c : Dev nD} {M : Memref sig .tc sp s e} {G : s.Idx → Elt F e} :
    (hold c M Finset.univ G : sProp 𝕄)
      = iprop(∃ f : Buf (Elt F) (M.view.loc (c : Thread nD τ)), ⌜M.view.read (Elt F) f = G⌝ ∗ (M.view.loc (c : Thread nD τ) ↦[M.view.set]{fullShare} f)) := by
  unfold hold
  refine congrArg BIBase.exists (funext fun f => ?_)
  exact congrArg₂ BIBase.sep (congrArg BIBase.pure (propext ⟨fun h => funext fun x => h x (Finset.mem_univ x), fun h x _ => congrFun h x⟩)) rfl

end

/-! ## The effects -/

abbrev 𝒱₀ : Variants := Variants.none

/-- What the rest of a program is proved from. -/
abbrev wpk {α : Type} (c : Dev nD) (P : Prog (TpuEff nD τ sig (Elt F) Λ₀ .tc) α) (Q : α → sProp 𝕄) : sProp 𝕄 :=
  wp frame (wpE (defs₀ (F := F)) 𝒱₀ (c : Thread nD τ) none) Set.univ P Q

/-- A load within a held region reads its contents. -/
theorem hold_load {α : Type} {Q : α → sProp 𝕄} {c : Dev nD} {cs : CoreSpace} {M : Memref sig .tc cs s e} {S : Finset s.Idx} {G : s.Idx → Elt F e}
    {r : Rect s} {hl : M.view.LoadsAt r.toLoadRect} {k : (r.shape.Idx → Elt F e) → Prog (TpuEff nD τ sig (Elt F) Λ₀ .tc) α}
    (hS : r.set ⊆ S) :
    (hold c M S G : sProp 𝕄)
      ⊢ iprop((hold c M S G -∗ wpk c (k (fun x => G (r.emb x))) Q) -∗ wpk c (.op (.load M r.toLoadRect hl) k) Q) := by
  iintro H Hk
  unfold hold
  icases H with ⟨%f, %hf, H⟩
  iapply (wp_load 𝒱₀ (c : Thread nD τ) none Set.univ (m := M) (r := r.toLoadRect) (S := M.view.setOn S) (Finset.map_subset_map.mpr hS)) $$ H
  iintro H
  rw [show M.view.readAt (Elt F) r.toLoadRect f = fun x => G (r.emb x) from funext fun x => hf _ (hS (r.idx_mem x))]
  iapply Hk
  iexists f
  isplitr; · ipureintro; exact hf
  iexact H

/-- A store of a whole rectangle within a held region leaves the region at the contents that hold what was stored under
    the rectangle and what they held elsewhere. -/
theorem hold_store {α : Type} {Q : α → sProp 𝕄} {c : Dev nD} {cs : CoreSpace} {M : Memref sig .tc cs s e} {S : Finset s.Idx} {G : s.Idx → Elt F e}
    {r : Rect s} {w : r.shape.Idx → Elt F e} {hx} {hm} {k : PUnit → Prog (TpuEff nD τ sig (Elt F) Λ₀ .tc) α}
    (hS : r.set ⊆ S) (G' : s.Idx → Elt F e) (hin : ∀ x, w x = G' (r.emb x)) (hout : ∀ x ∈ S, x ∉ r.set → G x = G' x) :
    (hold c M S G : sProp 𝕄)
      ⊢ iprop((hold c M S G' -∗ wpk c (k ⟨⟩) Q) -∗ wpk c (.op (.store M r w Finset.univ hx hm) k) Q) := by
  iintro H Hk
  unfold hold
  icases H with ⟨%f, %hf, H⟩
  have hset : (M.access r).setOn Finset.univ = M.view.setOn r.set := (View.setOn_univ _).trans (View.set_slice _ _)
  iapply (wp_store 𝒱₀ (c : Thread nD τ) none Set.univ (m := M) (r := r) (Mk := Finset.univ) (by rw [hset]; exact Finset.map_subset_map.mpr hS)) $$ H
  iintro H
  iapply Hk
  iexists ((M.access r).write (Elt F) f w Finset.univ)
  isplitr
  · ipureintro
    intro x hxS
    by_cases hxr : x ∈ r.set
    · obtain ⟨y, rfl⟩ := r.exists_idx_of_mem hxr
      exact (View.read_slice_write_emb (v := M.view) r f w (Finset.mem_univ y)).trans (hin y)
    · refine (View.read_slice_write_of_not_mem (v := M.view) r f w Finset.univ ?_).trans ((hf x hxS).trans (hout x hxS hxr))
      rw [Rect.map_emb_univ]; exact hxr
  iexact H

end Cert.KernelIdealProof

end
-- ==== Proof.KernelIdeal.Proto.lean ====
/-
# The protocol of the reduce-scatter and the all-gather

The eight devices are the corners of a cube. Each of the three column parts of the partial product is reduced and
gathered along the three axes in its own order. A device tells its three neighbours that its landing windows are free
(the barrier), sends at each step the half of its rows its neighbour keeps, and takes the neighbour's half of the rows
it keeps; the gather then sends the kept rows back along the axes in the opposite order.
-/
module

public import proofs.«01_k».proof.Proof.KernelIdeal.Hold

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-! ## The cube -/

/-- The neighbour of device `c` along axis `a` of the cube. -/
def par : Fin 3 → Dev nD → Dev nD
  | 0, c => (![1, 0, 3, 2, 5, 4, 7, 6] : Fin 8 → Fin 8) c
  | 1, c => (![3, 2, 1, 0, 7, 6, 5, 4] : Fin 8 → Fin 8) c
  | 2, c => (![4, 5, 6, 7, 0, 1, 2, 3] : Fin 8 → Fin 8) c

theorem par_par (a : Fin 3) (c : Dev nD) : par a (par a c) = c := by revert a c; decide

/-- The coordinate of device `c` along axis `a`. -/
def bit : Fin 3 → Dev nD → ℕ
  | 0, c => (c.val % 4 + (c.val % 4) / 2) % 2
  | 1, c => (c.val % 4) / 2
  | 2, c => c.val / 4

/-- The rows moved at step `t`. -/
def nt : Fin 3 → ℕ | 0 => 4 | 1 => 2 | 2 => 1
/-- The first row of the landing window of step `t`. -/
def rstart : Fin 3 → ℕ | 0 => 0 | 1 => 4 | 2 => 6

/-- The axis part `p` is reduced along at step `t`. -/
abbrev ord (p t : Fin 3) : Fin 3 := p + t

/-- The first of the rows device `c` keeps of part `p` at step `t`, -/
def keepO (p t : Fin 3) (c : Dev nD) : ℕ := match t with
  | 0 => 4 * bit (ord p 0) c
  | 1 => 4 * bit (ord p 0) c + 2 * bit (ord p 1) c
  | 2 => 4 * bit (ord p 0) c + 2 * bit (ord p 1) c + bit (ord p 2) c
/-- and of those it sends. -/
def sendO (p t : Fin 3) (c : Dev nD) : ℕ := match t with
  | 0 => 4 * (1 - bit (ord p 0) c)
  | 1 => 4 * bit (ord p 0) c + 2 * (1 - bit (ord p 1) c)
  | 2 => 4 * bit (ord p 0) c + 2 * bit (ord p 1) c + (1 - bit (ord p 2) c)

theorem sendO_par (p t : Fin 3) (c : Dev nD) : sendO p t (par (ord p t) c) = keepO p t c := by revert p t c; decide
theorem keepO_le (p t : Fin 3) (c : Dev nD) : keepO p t c + nt t ≤ 8 := by revert p t c; decide
theorem sendO_le (p t : Fin 3) (c : Dev nD) : sendO p t c + nt t ≤ 8 := by revert p t c; decide

/-- The device that keeps row block `σ` of part `p` at the last step. -/
def owner (p : Fin 3) (σ : Fin 8) : Dev nD :=
  (![![0, 4, 3, 7, 1, 5, 2, 6], ![0, 1, 4, 5, 3, 2, 7, 6], ![0, 3, 1, 2, 4, 7, 5, 6]] : Fin 3 → Fin 8 → Fin 8) p σ

theorem owner_keepO (p : Fin 3) (c : Dev nD) (σ : Fin 8) (h : σ.val = keepO p 2 c) : owner p σ = c := by
  revert p c σ; decide

/-! ## The buffers and their windows -/

/-- The columns of part `p`. -/
def cw : Fin 3 → ℕ | 0 => 384 | 1 => 384 | 2 => 256

/-- The shape of part `p`'s working buffer, and of its landing buffer. -/
abbrev WS (p : Fin 3) : Shape := ⟨3, ![8, 128, cw p]⟩
abbrev RS (p : Fin 3) : Shape := ⟨3, ![7, 128, cw p]⟩

def wM : (p : Fin 3) → Memref sig .tc .vmem (WS p) .bf16
  | 0 => Memref.whole cc0_scratch0 | 1 => Memref.whole cc0_scratch1 | 2 => Memref.whole cc0_scratch2
def rM : (p : Fin 3) → Memref sig .tc .vmem (RS p) .bf16
  | 0 => Memref.whole cc0_scratch3 | 1 => Memref.whole cc0_scratch4 | 2 => Memref.whole cc0_scratch5

theorem inb_w (p t : Fin 3) (a : ℕ) (h : a + nt t ≤ 8) (i : Fin 3) :
    (![a, 0, 0] : Fin 3 → ℕ) i + (![nt t, 128, cw p] : Fin 3 → ℕ) i ≤ (WS p).size i := by
  fin_cases i
  · exact h
  · exact le_refl 128
  · exact (Nat.zero_add _).le
theorem inb_r (p t : Fin 3) (i : Fin 3) :
    (![rstart t, 0, 0] : Fin 3 → ℕ) i + (![nt t, 128, cw p] : Fin 3 → ℕ) i ≤ (RS p).size i := by
  fin_cases p <;> fin_cases t <;> fin_cases i <;> decide

/-- The rows device `c` keeps at step `t`, those it sends, and the window the neighbour's land in. -/
abbrev keepR (p t : Fin 3) (c : Dev nD) : Rect (WS p) :=
  Rect.unit (s := WS p) ![keepO p t c, 0, 0] ![nt t, 128, cw p] (inb_w p t _ (keepO_le p t c))
abbrev sendR (p t : Fin 3) (c : Dev nD) : Rect (WS p) :=
  Rect.unit (s := WS p) ![sendO p t c, 0, 0] ![nt t, 128, cw p] (inb_w p t _ (sendO_le p t c))
abbrev landR (p t : Fin 3) : Rect (RS p) :=
  Rect.unit (s := RS p) ![rstart t, 0, 0] ![nt t, 128, cw p] (inb_r p t)

theorem unit_congr {s : Shape} {o o' z : Fin s.rank → ℕ} (h : o = o') (i : ∀ a, o a + z a ≤ s.size a) (i' : ∀ a, o' a + z a ≤ s.size a) :
    (Rect.unit o z i : Rect s) = Rect.unit o' z i' := by subst h; rfl

theorem sendR_par (p t : Fin 3) (c : Dev nD) : sendR p t (par (ord p t) c) = keepR p t c :=
  unit_congr (by rw [sendO_par]) _ _
theorem keepR_par (p t : Fin 3) (c : Dev nD) : keepR p t (par (ord p t) c) = sendR p t c := by
  rw [← sendR_par, par_par]

theorem mem_rows {h w a n : ℕ} {hi} {x : (⟨3, ![h, 128, w]⟩ : Shape).Idx} :
    x ∈ (Rect.unit (s := ⟨3, ![h, 128, w]⟩) ![a, 0, 0] ![n, 128, w] hi).set ↔ a ≤ (x 0).val ∧ (x 0).val < a + n := by
  rw [Rect.mem_set_unit]
  constructor
  · intro hx; exact hx 0
  · intro hx i
    have h1 := (x 1).isLt
    have h2 := (x 2).isLt
    fin_cases i
    · exact hx
    · exact ⟨Nat.zero_le _, by simpa using h1⟩
    · exact ⟨Nat.zero_le _, by simpa using h2⟩

theorem mem_keepR {p t : Fin 3} {c : Dev nD} {x : (WS p).Idx} :
    x ∈ (keepR p t c).set ↔ keepO p t c ≤ (x 0).val ∧ (x 0).val < keepO p t c + nt t := mem_rows
theorem mem_sendR {p t : Fin 3} {c : Dev nD} {x : (WS p).Idx} :
    x ∈ (sendR p t c).set ↔ sendO p t c ≤ (x 0).val ∧ (x 0).val < sendO p t c + nt t := mem_rows

/-- The rows split: all of them at the first step, the rows kept so far at each later one. -/
theorem rows_split0 : ∀ (p : Fin 3) (c : Dev nD) (i : Fin 8), (keepO p 0 c ≤ i.val ∧ i.val < keepO p 0 c + nt 0) ↔ ¬ (sendO p 0 c ≤ i.val ∧ i.val < sendO p 0 c + nt 0) := by decide
theorem rows_split1 : ∀ (p : Fin 3) (c : Dev nD) (i : Fin 8), (keepO p 0 c ≤ i.val ∧ i.val < keepO p 0 c + nt 0)
    ↔ ((keepO p 1 c ≤ i.val ∧ i.val < keepO p 1 c + nt 1) ∨ (sendO p 1 c ≤ i.val ∧ i.val < sendO p 1 c + nt 1)) := by decide
theorem rows_split2 : ∀ (p : Fin 3) (c : Dev nD) (i : Fin 8), (keepO p 1 c ≤ i.val ∧ i.val < keepO p 1 c + nt 1)
    ↔ ((keepO p 2 c ≤ i.val ∧ i.val < keepO p 2 c + nt 2) ∨ (sendO p 2 c ≤ i.val ∧ i.val < sendO p 2 c + nt 2)) := by decide
theorem rows_apart : ∀ (p t : Fin 3) (c : Dev nD) (i : Fin 8), ¬ ((keepO p t c ≤ i.val ∧ i.val < keepO p t c + nt t) ∧ (sendO p t c ≤ i.val ∧ i.val < sendO p t c + nt t)) := by decide

theorem keep_send_disjoint (p t : Fin 3) (c : Dev nD) : Disjoint (keepR p t c).set (sendR p t c).set :=
  Finset.disjoint_left.mpr fun x h1 h2 => rows_apart p t c (x 0) ⟨mem_keepR.mp h1, mem_sendR.mp h2⟩
theorem univ_eq (p : Fin 3) (c : Dev nD) : (Finset.univ : Finset (WS p).Idx) = (keepR p 0 c).set ∪ (sendR p 0 c).set := by
  ext x
  rw [Finset.mem_union, mem_keepR, mem_sendR]
  have h := rows_split0 p c (x 0)
  exact ⟨fun _ => (Classical.em _).symm.imp_left h.mpr, fun _ => Finset.mem_univ _⟩
theorem keep0_eq (p : Fin 3) (c : Dev nD) : (keepR p 0 c).set = (keepR p 1 c).set ∪ (sendR p 1 c).set := by
  ext x; rw [Finset.mem_union, mem_keepR, mem_keepR, mem_sendR]; exact rows_split1 p c (x 0)
theorem keep1_eq (p : Fin 3) (c : Dev nD) : (keepR p 1 c).set = (keepR p 2 c).set ∪ (sendR p 2 c).set := by
  ext x; rw [Finset.mem_union, mem_keepR, mem_keepR, mem_sendR]; exact rows_split2 p c (x 0)

/-- The landing window of step `t` of part `p`. -/
abbrev landM (p t : Fin 3) : Memref sig .tc .vmem (landR p t).shape .bf16 := (rM p).slice (landR p t) (fun _ => rfl)

/-- The credit of a copy of step `t` of part `p`. -/
def N (p t : Fin 3) : ℕ := (landM p t).view.dmaCredit
theorem N_pos (p t : Fin 3) : 0 < N p t := View.dmaCredit_pos _ (by revert p t; decide)

/-! ## The semaphores -/

/-- The number of the semaphore of a step: the reduce-scatter's steps 0, 1, 2 in order, then the gather's 2, 1, 0. -/
def kn : Bool → Fin 3 → ℕ
  | false, 0 => 0 | false, 1 => 1 | false, 2 => 2 | true, 2 => 3 | true, 1 => 4 | true, 0 => 5

theorem inb_sem (ph : Bool) (p t : Fin 3) : ∀ a, (![p.val, kn ph t] : Fin 2 → ℕ) a + S1x1.size a ≤ S3x6.size a := by
  revert ph p t; decide

abbrev barS : Sem sig := (SemArray.scalar (sig.barrier 0 rfl) : Sems sig S_).sem
def sendD (ph : Bool) (p t : Fin 3) : DmaSem sig :=
  ((cc0_scratch10.slice (Rect.unit (s := S3x6) ![p.val, kn ph t] S1x1.size (inb_sem ph p t))).squeeze S_ squeezes_S1x1_S_).sem
def recvD (ph : Bool) (p t : Fin 3) : DmaSem sig :=
  ((cc0_scratch11.slice (Rect.unit (s := S3x6) ![p.val, kn ph t] S1x1.size (inb_sem ph p t))).squeeze S_ squeezes_S1x1_S_).sem

/-- The kernel's semaphores: the barrier; by (receives?, gather?, part, step) the others. -/
abbrev CI : Type := Option (Bool × Bool × Fin 3 × Fin 3)
def csem : CI → SemLoc sig
  | none => .reg barS
  | some (false, ph, p, t) => .dma (sendD ph p t)
  | some (true, ph, p, t) => .dma (recvD ph p t)

theorem csem_injective : Function.Injective csem := by decide +kernel

theorem credit_buf (b b' : Fin (sig.nNear .tc .vmem)) (s : Shape) (e : EltTy) :
    sig.dmaCredit .tc (Kind.tc.table .vmem) b s e = sig.dmaCredit .tc (Kind.tc.table .vmem) b' s e := rfl

/-- Rows of the working buffer credit what the landing window they go with does. -/
theorem credit_rows (p t : Fin 3) (o : Fin 3 → ℕ) (h : ∀ a, o a + (![nt t, 128, cw p] : Fin 3 → ℕ) a ≤ (WS p).size a) :
    ((wM p).slice (Rect.unit (s := WS p) o ![nt t, 128, cw p] h) (fun _ => rfl)).view.dmaCredit = N p t := credit_buf _ _ _ _

/-- The semaphore a location is, if it is one of the kernel's. -/
def ciOf (l : SemLoc sig) : Option CI := by
  classical exact if h : ∃ i, csem i = l then some h.choose else none
theorem ciOf_csem (i : CI) : ciOf (csem i) = some i := by
  have h : ∃ j, csem j = csem i := ⟨i, rfl⟩
  unfold ciOf
  rw [dif_pos h]
  exact congrArg some (csem_injective h.choose_spec)
theorem ciOf_none {l : SemLoc sig} (h : ∀ i, csem i ≠ l) : ciOf l = none := by
  unfold ciOf
  exact dif_neg fun ⟨i, hi⟩ => h i hi

abbrev cell (c : Dev nD) (i : CI) : GSem nD τ sig := ((c : Thread nD τ), csem i)

/-! ## Contents -/

section Contents
variable (W0 : (p : Fin 3) → Dev nD → (WS p).Idx → Elt F .bf16)

/-- Device `c`'s partial sums of part `p` after `n` steps: its own and its neighbour's of the step before. -/
def Wt : ℕ → (p : Fin 3) → Dev nD → (WS p).Idx → Elt F .bf16
  | 0, p, c => W0 p c
  | n + 1, p, c => fun x => FloatOps.addf (Wt n p c x) (Wt n p (par (p + Fin.ofNat 3 n) c) x)

/-- The full sums of part `p`: those of the device that keeps the row block. -/
def Final (p : Fin 3) (x : (WS p).Idx) : Elt F .bf16 := Wt W0 3 p (owner p (x 0)) x

theorem final_of_kept (p : Fin 3) (c : Dev nD) : ∀ x ∈ (keepR p 2 c).set, Wt W0 3 p c x = Final W0 p x := by
  intro x hx
  have h := mem_keepR.mp hx
  unfold Final
  rw [owner_keepO p c (x 0) (by have h2 : nt 2 = 1 := rfl; omega)]

/-! ## The schedule -/

/-- The landing windows device `e` frees with its signal along axis `a`: in each part, that of the step along `a`. -/
def freed (e : Dev nD) (a : Fin 3) : sProp 𝕄 :=
  iprop(holdAny (F := F) e (landM 0 (a - 0)) Finset.univ ∗ holdAny (F := F) e (landM 1 (a - 1)) Finset.univ ∗ holdAny (F := F) e (landM 2 (a - 2)) Finset.univ)

/-- What lands at device `c` at step `t` of the reduce-scatter: the neighbour's sums of the rows `c` keeps, in the landing
    window; and the neighbour's own rows, which the gather will write. -/
def landed (c : Dev nD) (p t : Fin 3) : sProp 𝕄 :=
  iprop(hold c (landM p t) Finset.univ (fun x => Wt W0 t.val p (par (ord p t) c) ((keepR p t c).emb x))
    ∗ holdAny (F := F) (par (ord p t) c) (wM p) (keepR p t c).set)

/-- What duty `a` of semaphore `i` of device `c` hands over. -/
def pay (c : Dev nD) : CI → Fin 3 → sProp 𝕄
  | none, a => freed (F := F) (par a c) a
  | some (false, false, p, t), _ => iprop(emp)
  | some (true, false, p, t), _ => landed W0 c p t
  | some (false, true, p, t), _ => hold c (wM p) (keepR p t c).set (Final W0 p)
  | some (true, true, p, t), _ => hold c (wM p) (sendR p t c).set (Final W0 p)

instance pay_storable (c : Dev nD) (i : CI) (a : Fin 3) : BI.Storable (upEmb : UEmb _ 𝕄) (pay W0 c i a) := by
  unfold pay freed landed
  split <;> infer_instance

def dutiesOf : CI → Finset (Fin 3)
  | none => Finset.univ
  | some _ => {0}
def amtOf : CI → ℕ
  | none => 1
  | some (_, _, p, t) => N p t
theorem amtOf_pos (i : CI) : 0 < amtOf i := by
  unfold amtOf; split
  · exact Nat.one_pos
  · exact N_pos _ _

/-- One round: the barrier has three duties of one unit each, every other semaphore one of its copy's credit. -/
def Rd : Rounds.Schedule (GSem nD τ sig) (Fin 3) 𝕄 where
  duties g r := if r = 0 ∧ g.1.2 = .tc then (ciOf g.2).elim ∅ dutiesOf else ∅
  unitless _ := False
  amount g _ _ := (ciOf g.2).elim 1 amtOf
  payload g _ d := (ciOf g.2).elim iprop(emp) fun i => pay W0 g.1.1 i d
  amount_pos g _ _ _ := by
    cases ciOf g.2 with
    | none => exact Nat.one_pos
    | some i => exact amtOf_pos i

instance Rd_payload_storable (g : GSem nD τ sig) (r : ℕ) (d : Fin 3) :
    BI.Storable (upEmb : UEmb _ 𝕄) ((Rd W0).payload g r d) := by
  show BI.Storable upEmb ((ciOf g.2).elim iprop(emp) fun i => pay W0 g.1.1 i d)
  cases ciOf g.2 <;> (dsimp only [Option.elim]; infer_instance)

theorem duties_cell (c : Dev nD) (i : CI) : (Rd W0).duties (cell c i) 0 = dutiesOf i := by
  show (if (0 = 0 ∧ (cell c i).1.2 = .tc) then (ciOf (csem i)).elim ∅ dutiesOf else ∅) = _
  rw [if_pos ⟨rfl, rfl⟩, ciOf_csem]; rfl
theorem duties_later (g : GSem nD τ sig) : ∀ r, 1 ≤ r → (Rd W0).duties g r = ∅ := fun r hr => by
  dsimp only [Rd]; exact if_neg fun h => by omega
theorem amount_cell (c : Dev nD) (i : CI) (r : ℕ) (d : Fin 3) : (Rd W0).amount (cell c i) r d = amtOf i := by
  show (ciOf (csem i)).elim 1 amtOf = _
  rw [ciOf_csem]; rfl
theorem payload_cell (c : Dev nD) (i : CI) (r : ℕ) (d : Fin 3) : (Rd W0).payload (cell c i) r d = pay W0 c i d := by
  show ((ciOf (csem i)).elim iprop(emp) fun i => pay W0 c i d) = _
  rw [ciOf_csem]; rfl

theorem expect_bar (c : Dev nD) : (Rd W0).expect (cell c none) 0 = 3 := by
  unfold Schedule.expect Schedule.amountOf
  rw [duties_cell, Finset.sum_congr rfl fun d _ => amount_cell W0 c none 0 d]; rfl
theorem expect_copy (c : Dev nD) (b ph : Bool) (p t : Fin 3) : (Rd W0).expect (cell c (some (b, ph, p, t))) 0 = N p t := by
  unfold Schedule.expect Schedule.amountOf
  rw [duties_cell]; exact (Finset.sum_singleton _ _).trans (amount_cell W0 c _ 0 0)

theorem rest_bar (c : Dev nD) : bigSep ((Rd W0).duties (cell c none) 0 \ ∅) (fun d => (Rd W0).payload (cell c none) 0 d)
    = iprop(freed (F := F) (par 0 c) 0 ∗ freed (F := F) (par 1 c) 1 ∗ freed (F := F) (par 2 c) 2) := by
  rw [Finset.sdiff_empty, duties_cell]
  show bigSep Finset.univ _ = _
  rw [bigSep_univ_eq_bigSepL [0, 1, 2] (by decide) (by decide), bigSepL_cons_cons, bigSepL_cons_cons, bigSepL_singleton]
  simp only [payload_cell]; rfl
theorem rest_copy (c : Dev nD) (b ph : Bool) (p t : Fin 3) :
    bigSep ((Rd W0).duties (cell c (some (b, ph, p, t))) 0 \ ∅) (fun d => (Rd W0).payload (cell c (some (b, ph, p, t))) 0 d)
      = pay W0 c (some (b, ph, p, t)) 0 := by
  rw [Finset.sdiff_empty, duties_cell]
  exact bigSep_singleton.trans (payload_cell W0 c _ 0 0)

end Contents

/-! ## What a device owes, and the order of the waits -/

/-- A payment to a neighbour: a barrier unit along an axis, or a copy. -/
inductive Ev : Type
  | bar (a : Fin 3)
  | cp (ph : Bool) (p t : Fin 3)
  deriving DecidableEq

/-- The axis a payment goes along, the semaphore it pays, and its level. -/
def Ev.ax : Ev → Fin 3 | .bar a => a | .cp _ p t => ord p t
def Ev.ci : Ev → CI | .bar _ => none | .cp ph p t => some (true, ph, p, t)

def lvOf : CI → ℕ
  | none => 1
  | some (false, _, _, _) => 0
  | some (true, false, _, t) => 2 + t.val
  | some (true, true, _, t) => 7 - t.val

theorem lvOf_recv_pos (ph : Bool) (p t : Fin 3) : 0 < lvOf (some (true, ph, p, t)) := by revert ph p t; decide

abbrev due (c : Dev nD) (e : Ev) : CellTallies nD τ sig Bool := tallyAt (cell (par e.ax c) e.ci) true (amtOf e.ci)
/-- What device `c` owes while the payments `l` are still to come. -/
def owed (c : Dev nD) : List Ev → CellTallies nD τ sig Bool
  | [] => 0
  | e :: l => owed c l + due c e

/-- Every payment of a device, in the order it makes them. -/
def evs : List Ev :=
  [.bar 0, .bar 1, .bar 2,
   .cp false 0 0, .cp false 1 0, .cp false 2 0, .cp false 0 1, .cp false 1 1, .cp false 2 1, .cp false 0 2, .cp false 1 2, .cp false 2 2,
   .cp true 0 2, .cp true 1 2, .cp true 2 2, .cp true 0 1, .cp true 1 1, .cp true 2 1, .cp true 0 0, .cp true 1 0, .cp true 2 0]

def L (g : GSem nD τ sig) : Finset Bool := if g.1.2 = .tc then Finset.univ else ∅
def lv (g : GSem nD τ sig) (b : Bool) : ℕ := if b then (ciOf g.2).elim 0 lvOf else 0

theorem L_of_ne (g : GSem nD τ sig) (h : g.1.2 ≠ .tc) : L g = ∅ := if_neg h
theorem mem_L (c : Dev nD) (sm : SemLoc sig) (b : Bool) : b ∈ L ((c : Thread nD τ), sm) := by
  unfold L; rw [if_pos rfl]; exact Finset.mem_univ _

theorem owed_pos {c : Dev nD} {l : List Ev} {g : GSem nD τ sig} {b : Bool} (h : 0 < owed c l g b) :
    b = true ∧ ∃ e ∈ l, g = cell (par e.ax c) e.ci := by
  induction l with
  | nil => exact absurd h (Nat.lt_irrefl 0)
  | cons e l ih =>
    unfold owed at h
    rw [Pi.add_apply, Finsupp.add_apply, tallyAt_apply] at h
    by_cases hg : g = cell (par e.ax c) e.ci ∧ b = true
    · exact ⟨hg.2, e, List.mem_cons_self, hg.1⟩
    · rw [if_neg hg] at h
      obtain ⟨h1, e', h2, h3⟩ := ih h
      exact ⟨h1, e', List.mem_cons_of_mem _ h2, h3⟩

/-- A wait on a semaphore of the kernel is below every payment still to come of a higher level. -/
theorem mayWait (c : Dev nD) (i : CI) (l : List Ev) (h : ∀ e ∈ l, lvOf i < lvOf e.ci) :
    (levAts L lv : sProp 𝕄) ⊢ MayWait (c : Thread nD τ) (csem i) true (owed c l) :=
  MayOwe.of_cut (L := L) (lev := lv) (lvOf i) (fun p _ => mem_L c _ _)
    (fun g u hg => by obtain ⟨_, e, _, rfl⟩ := owed_pos hg; exact mem_L _ _ _)
    (fun p hp => by rw [Finset.mem_singleton.mp hp]; unfold lv; rw [if_pos rfl, ciOf_csem]; exact le_refl _)
    (fun g u hg => by
      obtain ⟨hu, e, he, rfl⟩ := owed_pos hg
      unfold lv; rw [if_pos hu, ciOf_csem]; exact h e he)

/-- A wait for a copy within the device is below every payment. -/
theorem mayWaits_local (c : Dev nD) (l : List Ev) :
    (levAts L lv : sProp 𝕄) ⊢ Transfers.MayWaits (c : Thread nD τ) false (owed c l) := by
  unfold Transfers.MayWaits
  refine BI.BIClass.forall_intro fun sm => ?_
  exact MayOwe.of_cut (L := L) (lev := lv) 0 (fun p _ => mem_L c _ _)
    (fun g u hg => by obtain ⟨_, e, _, rfl⟩ := owed_pos hg; exact mem_L _ _ _)
    (fun p hp => by rw [Finset.mem_singleton.mp hp]; unfold lv; exact (if_neg Bool.false_ne_true).le)
    (fun g u hg => by
      obtain ⟨hu, e, he, rfl⟩ := owed_pos hg
      unfold lv; rw [if_pos hu, ciOf_csem]
      rcases e with a | ⟨ph, p, t⟩
      · exact Nat.one_pos
      · exact lvOf_recv_pos ph p t)

end Cert.KernelIdealProof

end
-- ==== Proof.KernelIdeal.Comm.lean ====
/-
# The communication, one effect at a time

Each lemma takes the resources an effect of the kernel's communication needs and gives what holds after it, at a symbolic
device and, where the kernel repeats the effect, at a symbolic part and step.
-/
module

public import proofs.«01_k».proof.Proof.KernelIdeal.Proto

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (W0 : (p : Fin 3) → Dev nD → (WS p).Idx → Elt F .bf16) (K : Dev nD × CI → ℕ)

/-! ## The records every device holds, and what a transfer needs -/

/-- Every semaphore's invariant, and that it has reached its one round. -/
def records : sProp 𝕄 :=
  iprop((bigSep Finset.univ fun ci : Dev nD × CI => cellInv ER (Rd W0) (K ci) (cell ci.1 ci.2))
    ∗ bigSep Finset.univ fun ci : Dev nD × CI => reached ER (cell ci.1 ci.2) 0)

instance records_persistent : BI.Persistent (records W0 K) := by unfold records; infer_instance

theorem records_inv (c : Dev nD) (i : CI) : records W0 K ⊢ cellInv ER (Rd W0) (K (c, i)) (cell c i) := by
  unfold records; exact sep_elim_left.trans (bigSep_elim (Finset.mem_univ (c, i)))
theorem records_reached (c : Dev nD) (i : CI) : records W0 K ⊢ (reached ER (cell c i) 0 : sProp 𝕄) := by
  unfold records; exact sep_elim_right.trans (bigSep_elim (Finset.mem_univ (c, i)))

/-- Device `c` owes the payments `l`. -/
def ow (c : Dev nD) (l : List Ev) : sProp 𝕄 := iprop(∃ W, owes (c : Thread nD τ) (owed c l) W)

/-- What a transfer needs before it starts: its two duties, the device's place at its two semaphores, and the credit of
    what will come in. -/
def ready (c : Dev nD) (ph : Bool) (p t : Fin 3) : sProp 𝕄 :=
  iprop(dutyTok ER (cell c (some (false, ph, p, t))) 0 0 ∗ dutyTok ER (cell (par (ord p t) c) (some (true, ph, p, t))) 0 0
    ∗ atPos ER (cell c (some (false, ph, p, t))) 0 ∅ 0 ∗ atPos ER (cell c (some (true, ph, p, t))) 0 ∅ 0
    ∗ cred (tallyAt (cell c (some (true, ph, p, t))) true (N p t)))
/-- What remains of it for the wait on the sender's semaphore, -/
def sent (c : Dev nD) (ph : Bool) (p t : Fin 3) : sProp 𝕄 :=
  iprop(cred (tallyAt (cell c (some (false, ph, p, t))) true (N p t)) ∗ atPos ER (cell c (some (false, ph, p, t))) 0 ∅ 0)
/-- for the wait on the receiver's, -/
def coming (c : Dev nD) (ph : Bool) (p t : Fin 3) : sProp 𝕄 :=
  iprop(cred (tallyAt (cell c (some (true, ph, p, t))) true (N p t)) ∗ atPos ER (cell c (some (true, ph, p, t))) 0 ∅ 0)
/-- and after both: the two semaphores at zero. -/
def zero2 (c : Dev nD) (ph : Bool) (p t : Fin 3) : sProp 𝕄 :=
  iprop(semVal (cell c (some (false, ph, p, t))) 0 ∗ semVal (cell c (some (true, ph, p, t))) 0)

/-! ## The barrier -/

/-- A barrier unit to the neighbour along `a`: the windows it will write are its. -/
theorem ev_signal {α : Type} {Q : α → sProp 𝕄} (c n : Dev nD) (a : Fin 3) (hn : n = par a c) (l : List Ev) (kk : ℕ) (hk : kk = 1)
    {k : PUnit → Prog (TpuEff nD τ sig (Elt F) Λ₀ .tc) α} :
    records W0 K
      ⊢ iprop(ow c (.bar a :: l) -∗ dutyTok ER (cell (par a c) none) 0 a -∗ freed (F := F) c a -∗ (ow c l -∗ wpk c (k ⟨⟩) Q) -∗ wpk c (.op (.semSignal (Dev.tc n) barS kk) k) Q) := by
  subst hn; subst hk
  unfold ow
  iintro #HR ⟨%W, HO⟩ Ht Hf Hk
  iapply (Rounds.wp_signal 𝒱₀ ER (Rd W0) (c : Thread nD τ) none (dst := (par a c : Thread nD τ)) (κ := K (par a c, none))
      (d := a) (r := 0) ((duties_cell W0 (par a c) none).symm ▸ Finset.mem_univ a) (amount_cell W0 (par a c) none 0 a) true (owed c l) rfl)
    $$ [HO Ht Hf]
  · isplitr; · iapply (records_inv W0 K (par a c) none); iexact HR
    isplitl [HO]; · iexact HO
    isplitl [Ht]; · iexact Ht
    isplitl [Hf]
    · rw [show (Rd W0).payload ((par a c : Thread nD τ), SemLoc.reg barS) 0 a = freed (F := F) (par a (par a c)) a from payload_cell W0 (par a c) none 0 a, par_par]
      iexact Hf
    iapply (records_reached W0 K (par a c) none); iexact HR
  iintro HO
  iapply Hk
  iexists W; iexact HO

/-- The wait for the three neighbours' units: their windows, and the barrier's semaphore at zero. -/
theorem ev_barrier {α : Type} {Q : α → sProp 𝕄} (c : Dev nD) (l : List Ev) (hl : ∀ e ∈ l, lvOf none < lvOf e.ci) (kk : ℕ) (hk : kk = 3)
    {k : PUnit → Prog (TpuEff nD τ sig (Elt F) Λ₀ .tc) α} :
    records W0 K
      ⊢ iprop(levAts L lv -∗ ow c l -∗ cred (tallyAt (cell c none) true 3) -∗ atPos ER (cell c none) 0 ∅ 0 -∗ (ow c l ∗ semVal (cell c none) 0 ∗ freed (F := F) (par 0 c) 0 ∗ freed (F := F) (par 1 c) 1 ∗ freed (F := F) (par 2 c) 2 -∗ wpk c (k ⟨⟩) Q)
          -∗ wpk c (.op (.semWait barS kk) k) Q) := by
  subst hk
  unfold ow
  iintro #HR #Hlev ⟨%W, HO⟩ Hc Ha Hk
  iapply (Rounds.wp_wait_rest_token 𝒱₀ ER (Rd W0) (c : Thread nD τ) none (κ := K (c, none)) (sm := csem none)
      (wpE_semWait_eq 𝒱₀ (c : Thread nD τ) none Set.univ) (Set.mem_univ _) true (O := owed c l) (W := W) (R := 0) (m := 0) (T := ∅)
      (by rw [Nat.zero_add]; exact (expect_bar W0 c).symm)) $$ [Hc HO Ha]
  · isplitr; · iapply (records_inv W0 K c none); iexact HR
    isplitl [Hc]; · iexact Hc
    isplitl [HO]; · iexact HO
    isplitr; · iapply (mayWait c none l hl); iexact Hlev
    iexact Ha
  iintro ⟨HO, Ha, -, Hp⟩
  imod (Rounds.cell_close ER (Rd W0) (Set.mem_univ (K (c, none))) (fun h => h) (R := 0 + 1) (duties_later W0 (cell c none))) $$ [Ha] with Hz
  · isplitr; · iapply (records_inv W0 K c none); iexact HR
    iexact Ha
  ihave Hp := (Entails.of_eq (rest_bar W0 c)) $$ Hp
  iapply Hk
  isplitl [HO]; · iexists _; iexact HO
  isplitl [Hz]; · iexact Hz
  iexact Hp

/-! ## A copy's waits -/

/-- A wait on one of the copies' semaphores, spelled by the semaphore's index. -/
theorem ev_wait {α : Type} {Q : α → sProp 𝕄} (c : Dev nD) (b ph : Bool) (p t : Fin 3) (l : List Ev) (hl : ∀ e ∈ l, lvOf (some (b, ph, p, t)) < lvOf e.ci)
    {w : TpuEff nD τ sig (Elt F) Λ₀ .tc PUnit} {am : ℕ} (ham : am = N p t)
    (hw : ∀ G : PUnit → sProp 𝕄, wpE (defs₀ (F := F)) 𝒱₀ (c : Thread nD τ) none Set.univ w G = waitSpec (c : Thread nD τ) Set.univ (csem (some (b, ph, p, t))) am G)
    {k : PUnit → Prog (TpuEff nD τ sig (Elt F) Λ₀ .tc) α} :
    records W0 K
      ⊢ iprop(levAts L lv -∗ ow c l -∗ cred (tallyAt (cell c (some (b, ph, p, t))) true (N p t)) -∗ atPos ER (cell c (some (b, ph, p, t))) 0 ∅ 0 -∗ (ow c l ∗ semVal (cell c (some (b, ph, p, t))) 0 ∗ pay W0 c (some (b, ph, p, t)) 0 -∗ wpk c (k ⟨⟩) Q)
          -∗ wpk c (.op w k) Q) := by
  subst ham
  unfold ow
  iintro #HR #Hlev ⟨%W, HO⟩ Hc Ha Hk
  iapply (Rounds.wp_wait_rest_token 𝒱₀ ER (Rd W0) (c : Thread nD τ) none (κ := K (c, some (b, ph, p, t))) (sm := csem (some (b, ph, p, t)))
      hw (Set.mem_univ _) true (O := owed c l) (W := W) (R := 0) (m := 0) (T := ∅)
      (by rw [Nat.zero_add]; exact (expect_copy W0 c b ph p t).symm)) $$ [Hc HO Ha]
  · isplitr; · iapply (records_inv W0 K c (some (b, ph, p, t))); iexact HR
    isplitl [Hc]; · iexact Hc
    isplitl [HO]; · iexact HO
    isplitr; · iapply (mayWait c (some (b, ph, p, t)) l hl); iexact Hlev
    iexact Ha
  iintro ⟨HO, Ha, -, Hp⟩
  imod (Rounds.cell_close ER (Rd W0) (Set.mem_univ (K (c, some (b, ph, p, t)))) (fun h => h) (R := 0 + 1) (duties_later W0 (cell c (some (b, ph, p, t))))) $$ [Ha] with Hz
  · isplitr; · iapply (records_inv W0 K c (some (b, ph, p, t))); iexact HR
    iexact Ha
  ihave Hp := (Entails.of_eq (rest_copy W0 c b ph p t)) $$ Hp
  iapply Hk
  isplitl [HO]; · iexists _; iexact HO
  isplitl [Hz]; · iexact Hz
  iexact Hp

/-! ## The copies -/

theorem unit_emb {s : Shape} {o o' n : Fin s.rank → ℕ} {h h'} (he : o = o') (x : (Rect.unit (s := s) o n h).shape.Idx) :
    (Rect.unit (s := s) o n h).emb x = (Rect.unit (s := s) o' n h').emb x := by subst he; rfl

section Payloads
variable (c : Dev nD) (p t a : Fin 3)
theorem pay_scattered : pay W0 c (some (true, false, p, t)) a = landed W0 c p t := rfl
theorem pay_scatter : pay W0 c (some (false, false, p, t)) a = iprop(emp) := rfl
theorem pay_gathered : pay W0 c (some (true, true, p, t)) a = hold c (wM p) (sendR p t c).set (Final W0 p) := rfl
theorem pay_gather : pay W0 c (some (false, true, p, t)) a = hold c (wM p) (keepR p t c).set (Final W0 p) := rfl
theorem landed_par : landed W0 (par (ord p t) c) p t
    = iprop(hold (par (ord p t) c) (landM p t) Finset.univ (fun x => Wt W0 t.val p c ((sendR p t c).emb x)) ∗ holdAny c (wM p) (sendR p t c).set) := by
  unfold landed
  rw [par_par]
  have ho : keepO p t (par (ord p t) c) = sendO p t c := by rw [← sendO_par, par_par]
  have he : ∀ x : (landR p t).shape.Idx, (keepR p t (par (ord p t) c)).emb x = (sendR p t c).emb x := fun x =>
    unit_emb (s := WS p) (n := ![nt t, 128, cw p]) (congrArg (fun o => ![o, 0, 0]) ho) x
  exact congrArg₂ _ (congrArg _ (funext fun x => congrArg _ (he x))) (by rw [keepR_par])
end Payloads

theorem hold_src {sp : Space} {s : Shape} {e : EltTy} {c : Dev nD} {M : Memref sig .tc sp s e} {G : s.Idx → Elt F e} :
    (hold c M Finset.univ G : sProp 𝕄)
      ⊢ iprop(∃ f : Buf (Elt F) (M.view.loc (c : Thread nD τ)), ⌜M.view.read (Elt F) f = G⌝ ∗ (M.view.loc (c : Thread nD τ) ↦[M.view.set]{fullShare} f)) :=
  Entails.of_eq hold_univ_eq
theorem hold_of_write {sp : Space} {s : Shape} {e : EltTy} {c : Dev nD} {M : Memref sig .tc sp s e} {w : s.Idx → Elt F e} {f : Buf (Elt F) (M.view.loc (c : Thread nD τ))} :
    (M.view.loc (c : Thread nD τ) ↦[M.view.set]{fullShare} M.view.write (Elt F) f w Finset.univ) ⊢ (hold c M Finset.univ w : sProp 𝕄) := by
  rw [hold_univ_eq]
  iintro H
  iexists (M.view.write (Elt F) f w Finset.univ)
  isplitr; · ipureintro; exact View.read_write_univ f w
  iexact H
theorem hold_of_src {sp : Space} {s : Shape} {e : EltTy} {c : Dev nD} {M : Memref sig .tc sp s e} {r : Rect s} {hr} {G : s.Idx → Elt F e}
    {f : Buf (Elt F) ((M.slice r hr).view.loc (c : Thread nD τ))} (hf : (M.slice r hr).view.read (Elt F) f = fun x => G (r.emb x)) :
    ((M.slice r hr).view.loc (c : Thread nD τ) ↦[(M.slice r hr).view.set]{fullShare} f) ⊢ (hold c M r.set G : sProp 𝕄) := by
  rw [hold_slice_eq (hr := hr), hold_univ_eq]
  iintro H
  iexists f
  isplitr; · ipureintro; exact hf
  iexact H
theorem hold_of_write_slice {sp : Space} {s : Shape} {e : EltTy} {c : Dev nD} {M : Memref sig .tc sp s e} {r : Rect s} {hr} {G : s.Idx → Elt F e}
    {f : Buf (Elt F) ((M.slice r hr).view.loc (c : Thread nD τ))} :
    ((M.slice r hr).view.loc (c : Thread nD τ) ↦[(M.slice r hr).view.set]{fullShare} (M.slice r hr).view.write (Elt F) f (fun x => G (r.emb x)) Finset.univ)
      ⊢ (hold c M r.set G : sProp 𝕄) := by
  rw [hold_slice_eq (hr := hr)]; exact hold_of_write
theorem hold_src_slice {sp : Space} {s : Shape} {e : EltTy} {c : Dev nD} {M : Memref sig .tc sp s e} {r : Rect s} {hr} {G : s.Idx → Elt F e} :
    (hold c M r.set G : sProp 𝕄)
      ⊢ iprop(∃ f : Buf (Elt F) ((M.slice r hr).view.loc (c : Thread nD τ)), ⌜(M.slice r hr).view.read (Elt F) f = fun x => G (r.emb x)⌝
          ∗ ((M.slice r hr).view.loc (c : Thread nD τ) ↦[(M.slice r hr).view.set]{fullShare} f)) :=
  (Entails.of_eq (hold_slice_eq (hr := hr))).trans hold_src

/-- A reduce-scatter copy: the rows the neighbour keeps go to its landing window, and are its to have back. -/
theorem ev_scatter {α : Type} {Q : α → sProp 𝕄} (c n : Dev nD) (p t : Fin 3) (hn : n = par (ord p t) c) (l : List Ev)
    {so : Fin 3 → ℕ} {hso} (hs : so = ![sendO p t c, 0, 0])
    {hsc} {hsrc} {hdst} {hsem} {k : PUnit → Prog (TpuEff nD τ sig (Elt F) Λ₀ .tc) α} :
    records W0 K
      ⊢ iprop(ow c (.cp false p t :: l) -∗ ready c false p t -∗ hold c (wM p) (sendR p t c).set (Wt W0 t.val p c)
        -∗ holdAny (F := F) (par (ord p t) c) (landM p t) Finset.univ -∗ (ow c l ∗ sent c false p t ∗ coming c false p t -∗ wpk c (k ⟨⟩) Q)
          -∗ wpk c (.op (.enqueueDma ((wM p).slice (Rect.unit (s := WS p) so ![nt t, 128, cw p] hso) (fun _ => rfl))
              (.remote (Dev.tc n) (landM p t) (.dma (sendD false p t)) hsc) (.dma (recvD false p t)) hsrc hdst hsem) k) Q) := by
  subst hn; subst hs
  unfold ow ready sent coming
  iintro #HR ⟨%W, HO⟩ ⟨Ht1, Ht2, Ha1, Ha2, Hc⟩ Hw Hl Hk
  ihave Hw := (hold_src_slice (hr := fun _ => rfl)) $$ Hw
  icases Hw with ⟨%fs, %hfs, Hs⟩
  unfold holdAny
  icases Hl with ⟨%G, Hl⟩
  ihave Hl := hold_src $$ Hl
  icases Hl with ⟨%fd, %hfd, Hd⟩
  iapply (Rounds.wp_send_landing_pointsTo 𝒱₀ ER (Rd W0) (c : Thread nD τ) none
    (κ₁ := K (c, some (false, false, p, t))) (κ₂ := K (par (ord p t) c, some (true, false, p, t)))
    (sS := csem (some (false, false, p, t))) (sem := csem (some (true, false, p, t)))
    (r₁ := 0) (r₂ := 0) (d₁ := 0) (d₂ := 0) (fs := fs) (fd := fd) (q := fullShare)
    (by rw [show ((c : Thread nD τ), csem (some (false, false, p, t))) = cell c (some (false, false, p, t)) from rfl, duties_cell]; exact Finset.mem_singleton_self _)
    (by rw [show (Dev.tc (par (ord p t) c), csem (some (true, false, p, t))) = cell (par (ord p t) c) (some (true, false, p, t)) from rfl, duties_cell]; exact Finset.mem_singleton_self _)
    true true (N p t) rfl (amount_cell W0 c _ 0 0) (amount_cell W0 _ _ 0 0) (owed c l) rfl (W := W)
    (by rw [show ((c : Thread nD τ), csem (some (false, false, p, t))) = cell c (some (false, false, p, t)) from rfl, payload_cell]; exact .rfl)
    (by
      rw [show (Dev.tc (par (ord p t) c), csem (some (true, false, p, t))) = cell (par (ord p t) c) (some (true, false, p, t)) from rfl, payload_cell]
      rw [pay_scattered, landed_par, hfs]
      unfold holdAny
      iintro ⟨H', H⟩
      isplitl [H']; · iapply hold_of_write; iexact H'
      iexists (Wt W0 t.val p c)
      iapply (hold_of_src hfs)
      iexact H)) $$ [HO Ht1 Ht2 Hs Hd]
  · isplitr; · iapply (records_inv W0 K c (some (false, false, p, t))); iexact HR
    isplitr; · iapply (records_inv W0 K (par (ord p t) c) (some (true, false, p, t))); iexact HR
    isplitl [Hs]; · iexact Hs
    isplitl [Hd]; · iexact Hd
    isplitl [HO]; · iexact HO
    isplitl [Ht1]; · iexact Ht1
    isplitr; · iapply (records_reached W0 K c (some (false, false, p, t))); iexact HR
    isplitl [Ht2]; · iexact Ht2
    iapply (records_reached W0 K (par (ord p t) c) (some (true, false, p, t))); iexact HR
  iintro ⟨Hcs, HO⟩
  iapply Hk
  isplitl [HO]; · iexists W; iexact HO
  isplitl [Hcs Ha1]; · isplitl [Hcs] <;> iassumption
  isplitl [Hc] <;> iassumption

/-- A gather copy: the full sums of the rows kept go to the same rows of the neighbour. -/
theorem ev_gather {α : Type} {Q : α → sProp 𝕄} (c n : Dev nD) (p t : Fin 3) (hn : n = par (ord p t) c) (l : List Ev)
    {so : Fin 3 → ℕ} {hso hso'} (hs : so = ![keepO p t c, 0, 0])
    {hsc} {hsrc} {hdst} {hsem} {k : PUnit → Prog (TpuEff nD τ sig (Elt F) Λ₀ .tc) α} :
    records W0 K
      ⊢ iprop(ow c (.cp true p t :: l) -∗ ready c true p t -∗ hold c (wM p) (keepR p t c).set (Final W0 p)
        -∗ holdAny (F := F) (par (ord p t) c) (wM p) (keepR p t c).set -∗ (ow c l ∗ sent c true p t ∗ coming c true p t -∗ wpk c (k ⟨⟩) Q)
          -∗ wpk c (.op (.enqueueDma ((wM p).slice (Rect.unit (s := WS p) so ![nt t, 128, cw p] hso) (fun _ => rfl))
              (.remote (Dev.tc n) ((wM p).slice (Rect.unit (s := WS p) so ![nt t, 128, cw p] hso') (fun _ => rfl)) (.dma (sendD true p t)) hsc) (.dma (recvD true p t)) hsrc hdst hsem) k) Q) := by
  subst hn; subst hs
  unfold ow ready sent coming
  iintro #HR ⟨%W, HO⟩ ⟨Ht1, Ht2, Ha1, Ha2, Hc⟩ Hw Hl Hk
  unfold holdAny
  icases Hl with ⟨%G, Hl⟩
  ihave Hw := (hold_src_slice (hr := fun _ => rfl)) $$ Hw
  icases Hw with ⟨%fs, %hfs, Hs⟩
  ihave Hl := (hold_src_slice (hr := fun _ => rfl)) $$ Hl
  icases Hl with ⟨%fd, %hfd, Hd⟩
  iapply (Rounds.wp_send_pointsTo 𝒱₀ ER (Rd W0) (c : Thread nD τ) none
    (κ₁ := K (c, some (false, true, p, t))) (κ₂ := K (par (ord p t) c, some (true, true, p, t)))
    (sS := csem (some (false, true, p, t))) (sem := csem (some (true, true, p, t)))
    (r₁ := 0) (r₂ := 0) (d₁ := 0) (d₂ := 0) (fs := fs) (fd := fd) (q := fullShare)
    (by rw [show ((c : Thread nD τ), csem (some (false, true, p, t))) = cell c (some (false, true, p, t)) from rfl, duties_cell]; exact Finset.mem_singleton_self _)
    (by rw [show (Dev.tc (par (ord p t) c), csem (some (true, true, p, t))) = cell (par (ord p t) c) (some (true, true, p, t)) from rfl, duties_cell]; exact Finset.mem_singleton_self _)
    true true (N p t) (credit_rows p t _ _) (amount_cell W0 c _ 0 0) (amount_cell W0 _ _ 0 0) (owed c l) rfl (W := W)
    (by
      rw [show ((c : Thread nD τ), csem (some (false, true, p, t))) = cell c (some (false, true, p, t)) from rfl, payload_cell]
      rw [pay_gather]; exact hold_of_src hfs)
    (by
      rw [show (Dev.tc (par (ord p t) c), csem (some (true, true, p, t))) = cell (par (ord p t) c) (some (true, true, p, t)) from rfl, payload_cell]
      rw [pay_gathered, sendR_par, hfs]; exact hold_of_write_slice)) $$ [HO Ht1 Ht2 Hs Hd]
  · isplitr; · iapply (records_inv W0 K c (some (false, true, p, t))); iexact HR
    isplitr; · iapply (records_inv W0 K (par (ord p t) c) (some (true, true, p, t))); iexact HR
    isplitl [Hs]; · iexact Hs
    isplitl [Hd]; · iexact Hd
    isplitl [HO]; · iexact HO
    isplitl [Ht1]; · iexact Ht1
    isplitr; · iapply (records_reached W0 K c (some (false, true, p, t))); iexact HR
    isplitl [Ht2]; · iexact Ht2
    iapply (records_reached W0 K (par (ord p t) c) (some (true, true, p, t))); iexact HR
  iintro ⟨Hcs, HO⟩
  iapply Hk
  isplitl [HO]; · iexists W; iexact HO
  isplitl [Hcs Ha1]; · isplitl [Hcs] <;> iassumption
  isplitl [Hc] <;> iassumption

/-! ## A neighbour's rows taken in -/

/-- A landing window read whole. -/
theorem land_load {α : Type} {Q : α → sProp 𝕄} {c : Dev nD} {cs : CoreSpace} {s : Shape} {e : EltTy} {M : Memref sig .tc cs s e}
    {r : Rect s} {hr} {G : r.shape.Idx → Elt F e} {hl : M.view.LoadsAt r.toLoadRect}
    {k : (r.shape.Idx → Elt F e) → Prog (TpuEff nD τ sig (Elt F) Λ₀ .tc) α} :
    (hold c (M.slice r hr) Finset.univ G : sProp 𝕄)
      ⊢ iprop((hold c (M.slice r hr) Finset.univ G -∗ wpk c (k G) Q) -∗ wpk c (.op (.load M r.toLoadRect hl) k) Q) := by
  iintro H Hk
  unfold hold
  icases H with ⟨%f, %hf, H⟩
  iapply (wp_load 𝒱₀ (c : Thread nD τ) none Set.univ (m := M) (r := r.toLoadRect) (S := (M.slice r hr).view.setOn Finset.univ)
    (by rw [View.setOn_univ]; exact (View.set_slice _ _).ge)) $$ H
  iintro H
  rw [show M.view.readAt (Elt F) r.toLoadRect f = G from funext fun x => hf x (Finset.mem_univ x)]
  iapply Hk
  iexists f
  isplitr; · ipureintro; exact hf
  iexact H

/-- A step of a part of the reduce-scatter after its copies are under way: both waits, and the neighbour's rows added to
    those kept. The rows sent are the neighbour's from here on; its own of the rows kept here come back for the gather. -/
theorem ev_reduce {α : Type} {Q : α → sProp 𝕄} (c : Dev nD) (p t : Fin 3) (l : List Ev)
    (hl : ∀ e ∈ l, lvOf (some (true, false, p, t)) < lvOf e.ci)
    {ss : DmaSem sig} (hss : ss = sendD false p t) {sr : DmaSem sig} (hsr : sr = recvD false p t)
    {so ko : Fin 3 → ℕ} {hso hko} (hk : ko = ![keepO p t c, 0, 0])
    {sp₁ sp₂ : Space} {s₁ s₂ : Shape} {e₁ e₂ : EltTy} {src₁ : Memref sig .tc sp₁ s₁ e₁} {src₂ : Memref sig .tc sp₂ s₂ e₂}
    {h1 h1' h2 h2' hl1 hl2 hl3 hx hm}
    {pl : ((landR p t).shape.Idx → Elt F .bf16) → ((landR p t).shape.Idx → Elt F .bf16) → (landR p t).shape.Idx → Elt F .bf16}
    (hpl : ∀ v v' x, pl v v' x = FloatOps.addf (v x) (v' x))
    {k : PUnit → Prog (TpuEff nD τ sig (Elt F) Λ₀ .tc) α} :
    records W0 K
      ⊢ iprop(levAts L lv -∗ ow c l -∗ sent c false p t -∗ coming c false p t -∗ hold c (wM p) (keepR p t c).set (Wt W0 t.val p c)
        -∗ (ow c l ∗ zero2 c false p t ∗ hold c (wM p) (keepR p t c).set (Wt W0 (t.val + 1) p c)
              ∗ holdAny (F := F) (par (ord p t) c) (wM p) (keepR p t c).set ∗ holdAny (F := F) c (landM p t) Finset.univ -∗ wpk c (k ⟨⟩) Q)
        -∗ wpk c (.op (.waitDma2 ss src₁ ((wM p).slice (Rect.unit (s := WS p) so ![nt t, 128, cw p] hso) (fun _ => rfl)) h1 h1') fun _ =>
            .op (.waitDma2 sr src₂ (landM p t) h2 h2') fun _ =>
            .op (.load (wM p) (Rect.unit (s := WS p) ko ![nt t, 128, cw p] hko).toLoadRect hl1) fun v =>
            .op (.load (rM p) (landR p t).toLoadRect hl2) fun v' =>
            .op (.load (wM p) (Rect.unit (s := WS p) ko ![nt t, 128, cw p] hko).toLoadRect hl3) fun _ =>
            .op (.store (wM p) (Rect.unit (s := WS p) ko ![nt t, 128, cw p] hko) (pl v v') Finset.univ hx hm) k) Q) := by
  subst hk; subst hss; subst hsr
  unfold sent coming
  iintro #HR #Hlev Ho ⟨Hcs, Has⟩ ⟨Hcr, Har⟩ Hw Hk
  iapply (ev_wait W0 K c false false p t l (fun e he => lt_of_le_of_lt (Nat.zero_le _) (hl e he)) (credit_rows p t _ _)
    (fun G => wpE_waitDma2_eq 𝒱₀ (c : Thread nD τ) none Set.univ G)) $$ HR Hlev Ho Hcs Has
  iintro ⟨Ho, Hz1, -⟩
  iapply (ev_wait W0 K c true false p t l hl rfl (fun G => wpE_waitDma2_eq 𝒱₀ (c : Thread nD τ) none Set.univ G)) $$ HR Hlev Ho Hcr Har
  rw [pay_scattered, landed]
  iintro ⟨Ho, Hz2, Hl, Hn⟩
  iapply (hold_load (le_refl _)) $$ Hw
  iintro Hw
  iapply (land_load (hr := fun _ => rfl)) $$ Hl
  iintro Hl
  iapply (hold_load (le_refl _)) $$ Hw
  iintro Hw
  iapply (hold_store (le_refl _) (Wt W0 (t.val + 1) p c) (fun x => ?_) (fun x h1 h2 => absurd h1 h2)) $$ Hw
  · rw [hpl]
    show _ = FloatOps.addf _ (Wt W0 t.val p (par (p + Fin.ofNat 3 t.val) c) _)
    rw [show Fin.ofNat 3 t.val = t from Fin.ext (Nat.mod_eq_of_lt t.isLt)]
  iintro Hw
  iapply Hk
  isplitl [Ho]; · iexact Ho
  isplitl [Hz1 Hz2]; · unfold zero2; isplitl [Hz1] <;> iassumption
  isplitl [Hw]; · iexact Hw
  isplitl [Hn]; · iexact Hn
  iapply hold_any; iexact Hl

/-- A step of a part of the gather after its copies are under way: both waits. The rows sent are the device's again, and
    those it had sent in the same step of the reduce-scatter come back in full. -/
theorem ev_spread {α : Type} {Q : α → sProp 𝕄} (c : Dev nD) (p t : Fin 3) (l : List Ev)
    (hl : ∀ e ∈ l, lvOf (some (true, true, p, t)) < lvOf e.ci)
    {ss : DmaSem sig} (hss : ss = sendD true p t) {sr : DmaSem sig} (hsr : sr = recvD true p t)
    {so so' : Fin 3 → ℕ} {hso hso'}
    {sp₁ sp₂ : Space} {s₁ s₂ : Shape} {e₁ e₂ : EltTy} {src₁ : Memref sig .tc sp₁ s₁ e₁} {src₂ : Memref sig .tc sp₂ s₂ e₂}
    {h1 h1' h2 h2'} {k : PUnit → Prog (TpuEff nD τ sig (Elt F) Λ₀ .tc) α} :
    records W0 K
      ⊢ iprop(levAts L lv -∗ ow c l -∗ sent c true p t -∗ coming c true p t
        -∗ (ow c l ∗ zero2 c true p t ∗ hold c (wM p) (keepR p t c).set (Final W0 p)
              ∗ hold c (wM p) (sendR p t c).set (Final W0 p) -∗ wpk c (k ⟨⟩) Q)
        -∗ wpk c (.op (.waitDma2 ss src₁ ((wM p).slice (Rect.unit (s := WS p) so ![nt t, 128, cw p] hso) (fun _ => rfl)) h1 h1') fun _ =>
            .op (.waitDma2 sr src₂ ((wM p).slice (Rect.unit (s := WS p) so' ![nt t, 128, cw p] hso') (fun _ => rfl)) h2 h2') k) Q) := by
  subst hss; subst hsr
  unfold sent coming
  iintro #HR #Hlev Ho ⟨Hcs, Has⟩ ⟨Hcr, Har⟩ Hk
  iapply (ev_wait W0 K c false true p t l (fun e he => lt_of_le_of_lt (Nat.zero_le _) (hl e he)) (credit_rows p t _ _)
    (fun G => wpE_waitDma2_eq 𝒱₀ (c : Thread nD τ) none Set.univ G)) $$ HR Hlev Ho Hcs Has
  rw [pay_gather]
  iintro ⟨Ho, Hz1, Hw⟩
  iapply (ev_wait W0 K c true true p t l hl (credit_rows p t _ _) (fun G => wpE_waitDma2_eq 𝒱₀ (c : Thread nD τ) none Set.univ G)) $$ HR Hlev Ho Hcr Har
  rw [pay_gathered]
  iintro ⟨Ho, Hz2, Hs⟩
  iapply Hk
  isplitl [Ho]; · iexact Ho
  isplitl [Hz1 Hz2]; · unfold zero2; isplitl [Hz1] <;> iassumption
  isplitl [Hw]; · iexact Hw
  iexact Hs

end Cert.KernelIdealProof

end
-- ==== Proof.KernelIdeal.Flat.lean ====
/-
# The kernel's body as one list of effects
-/
module

public import proofs.«01_k».proof.Proof.KernelIdeal.Base

public import Idealize.ShloMosaic.Lib.Tactic.OpenCalls

@[expose] public section

set_option maxRecDepth 16000

noncomputable section

namespace Cert.KernelIdealProof

open Cert.KernelIdeal Cert.KernelIdeal.Gen

open Idealize.ShloMosaic

set_option maxHeartbeats 2000000 in
open_calls flat := k0_part55 [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54]

end Cert.KernelIdealProof

end
-- ==== Proof.KernelIdeal.Cuts.lean ====
/-
# The kernel's effects, cut into stretches
-/
module

public import proofs.«01_k».proof.Proof.KernelIdeal.Flat
public import Idealize.ShloMosaic.Lib.Tactic.Stretches

@[expose] public section

set_option maxRecDepth 16000

noncomputable section

namespace Cert.KernelIdealProof

open Cert.KernelIdeal Cert.KernelIdeal.Gen

open Idealize.ShloMosaic

set_option maxHeartbeats 2000000 in
cut_chain st := flat at 2, 18, 22, 38, 94, 150, 154, 226, 230, 251, 272, 293, 302, 311, 320

end Cert.KernelIdealProof

end
-- ==== Proof.KernelIdeal.Steps.lean ====
/-
# The stretches of the communication

The barrier, the three steps of the reduce-scatter and the three of the all-gather. A step starts its three copies, one for
each part, then finishes them part by part.
-/
module

public import proofs.«01_k».proof.Proof.KernelIdeal.Comm
public import proofs.«01_k».proof.Proof.KernelIdeal.Cuts
public import Idealize.ShloMosaic.Lib.Pipeline.Value

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-- The neighbour's rows are added entry by entry. -/
theorem sum_back {s : Shape} {h : s.ShapeCasts s} (v v' : FVec F s .bf16) (x : s.Idx) : shapeCast s (addf v v') h x = FloatOps.addf (v x) (v' x) :=
  congrFun (shapeCast_self (addf v v') h) x

/-! ## The devices and rows named in the program -/

theorem dev_bar (c : Dev nD) : (⟨k0_dev1 c, k0_dev1_lt c⟩ : Dev nD) = par 0 c
    ∧ (⟨k0_dev2 c, k0_dev2_lt c⟩ : Dev nD) = par 1 c
    ∧ (⟨k0_dev3 c, k0_dev3_lt c⟩ : Dev nD) = par 2 c := by revert c; decide
theorem dev_scatter0 (c : Dev nD) : (⟨k0_dev4 c, k0_dev4_lt c⟩ : Dev nD) = par (ord 0 0) c
    ∧ (⟨k0_dev5 c, k0_dev5_lt c⟩ : Dev nD) = par (ord 1 0) c
    ∧ (⟨k0_dev6 c, k0_dev6_lt c⟩ : Dev nD) = par (ord 2 0) c := by revert c; decide
theorem dev_scatter1 (c : Dev nD) : (⟨k0_dev7 c, k0_dev7_lt c⟩ : Dev nD) = par (ord 0 1) c
    ∧ (⟨k0_dev8 c, k0_dev8_lt c⟩ : Dev nD) = par (ord 1 1) c
    ∧ (⟨k0_dev9 c, k0_dev9_lt c⟩ : Dev nD) = par (ord 2 1) c := by revert c; decide
theorem dev_scatter2 (c : Dev nD) : (⟨k0_dev10 c, k0_dev10_lt c⟩ : Dev nD) = par (ord 0 2) c
    ∧ (⟨k0_dev11 c, k0_dev11_lt c⟩ : Dev nD) = par (ord 1 2) c
    ∧ (⟨k0_dev12 c, k0_dev12_lt c⟩ : Dev nD) = par (ord 2 2) c := by revert c; decide
theorem dev_gather0 (c : Dev nD) : (⟨k0_dev19 c, k0_dev19_lt c⟩ : Dev nD) = par (ord 0 0) c
    ∧ (⟨k0_dev20 c, k0_dev20_lt c⟩ : Dev nD) = par (ord 1 0) c
    ∧ (⟨k0_dev21 c, k0_dev21_lt c⟩ : Dev nD) = par (ord 2 0) c := by revert c; decide
theorem dev_gather1 (c : Dev nD) : (⟨k0_dev16 c, k0_dev16_lt c⟩ : Dev nD) = par (ord 0 1) c
    ∧ (⟨k0_dev17 c, k0_dev17_lt c⟩ : Dev nD) = par (ord 1 1) c
    ∧ (⟨k0_dev18 c, k0_dev18_lt c⟩ : Dev nD) = par (ord 2 1) c := by revert c; decide
theorem dev_gather2 (c : Dev nD) : (⟨k0_dev13 c, k0_dev13_lt c⟩ : Dev nD) = par (ord 0 2) c
    ∧ (⟨k0_dev14 c, k0_dev14_lt c⟩ : Dev nD) = par (ord 1 2) c
    ∧ (⟨k0_dev15 c, k0_dev15_lt c⟩ : Dev nD) = par (ord 2 2) c := by revert c; decide
theorem off_send0 (c : Dev nD) : k0_off5 c = ![sendO 0 0 c, 0, 0]
    ∧ k0_off6 c = ![sendO 1 0 c, 0, 0]
    ∧ k0_off7 c = ![sendO 2 0 c, 0, 0] := by revert c; decide
theorem off_keep0 (c : Dev nD) : k0_off8 c = ![keepO 0 0 c, 0, 0]
    ∧ k0_off9 c = ![keepO 1 0 c, 0, 0]
    ∧ k0_off10 c = ![keepO 2 0 c, 0, 0] := by revert c; decide
theorem off_send1 (c : Dev nD) : k0_off11 c = ![sendO 0 1 c, 0, 0]
    ∧ k0_off12 c = ![sendO 1 1 c, 0, 0]
    ∧ k0_off13 c = ![sendO 2 1 c, 0, 0] := by revert c; decide
theorem off_keep1 (c : Dev nD) : k0_off14 c = ![keepO 0 1 c, 0, 0]
    ∧ k0_off15 c = ![keepO 1 1 c, 0, 0]
    ∧ k0_off16 c = ![keepO 2 1 c, 0, 0] := by revert c; decide
theorem off_send2 (c : Dev nD) : k0_off17 c = ![sendO 0 2 c, 0, 0]
    ∧ k0_off18 c = ![sendO 1 2 c, 0, 0]
    ∧ k0_off19 c = ![sendO 2 2 c, 0, 0] := by revert c; decide
theorem off_keep2 (c : Dev nD) : k0_off20 c = ![keepO 0 2 c, 0, 0]
    ∧ k0_off21 c = ![keepO 1 2 c, 0, 0]
    ∧ k0_off22 c = ![keepO 2 2 c, 0, 0] := by revert c; decide
theorem off_spread0 (c : Dev nD) : k0_off29 c = ![keepO 0 0 c, 0, 0]
    ∧ k0_off30 c = ![keepO 1 0 c, 0, 0]
    ∧ k0_off31 c = ![keepO 2 0 c, 0, 0] := by revert c; decide
theorem off_spread1 (c : Dev nD) : k0_off26 c = ![keepO 0 1 c, 0, 0]
    ∧ k0_off27 c = ![keepO 1 1 c, 0, 0]
    ∧ k0_off28 c = ![keepO 2 1 c, 0, 0] := by revert c; decide
theorem off_spread2 (c : Dev nD) : k0_off23 c = ![keepO 0 2 c, 0, 0]
    ∧ k0_off24 c = ![keepO 1 2 c, 0, 0]
    ∧ k0_off25 c = ![keepO 2 2 c, 0, 0] := by revert c; decide

variable (W0 : (p : Fin 3) → Dev nD → (WS p).Idx → Elt F .bf16) (K : Dev nD × CI → ℕ)

/-! ## What a step needs of a part, and gives -/

def rsIn (c : Dev nD) (p t : Fin 3) : sProp 𝕄 :=
  iprop(ready c false p t ∗ hold c (wM p) (sendR p t c).set (Wt W0 t.val p c) ∗ hold c (wM p) (keepR p t c).set (Wt W0 t.val p c)
    ∗ holdAny (F := F) (par (ord p t) c) (landM p t) Finset.univ)
def rsOut (c : Dev nD) (p t : Fin 3) : sProp 𝕄 :=
  iprop(zero2 c false p t ∗ hold c (wM p) (keepR p t c).set (Wt W0 (t.val + 1) p c)
    ∗ holdAny (F := F) (par (ord p t) c) (wM p) (keepR p t c).set ∗ holdAny (F := F) c (landM p t) Finset.univ)
def agIn (c : Dev nD) (p t : Fin 3) : sProp 𝕄 :=
  iprop(ready c true p t ∗ hold c (wM p) (keepR p t c).set (Final W0 p) ∗ holdAny (F := F) (par (ord p t) c) (wM p) (keepR p t c).set)
def agOut (c : Dev nD) (p t : Fin 3) : sProp 𝕄 :=
  iprop(zero2 c true p t ∗ hold c (wM p) (keepR p t c).set (Final W0 p) ∗ hold c (wM p) (sendR p t c).set (Final W0 p))

/-! ## The barrier -/

theorem run_barrier {α : Type} {Q : α → sProp 𝕄} (c : Dev nD) (l : List Ev) (hl : ∀ e ∈ l, lvOf none < lvOf e.ci)
    {κ : Prog (TpuEff nD τ sig (Elt F) Λ₀ .tc) α} :
    records W0 K
      ⊢ iprop(levAts L lv -∗ ow c (.bar 0 :: .bar 1 :: .bar 2 :: l)
        -∗ (dutyTok ER (cell (par 0 c) none) 0 0 ∗ dutyTok ER (cell (par 1 c) none) 0 1 ∗ dutyTok ER (cell (par 2 c) none) 0 2)
        -∗ (freed (F := F) c 0 ∗ freed (F := F) c 1 ∗ freed (F := F) c 2)
        -∗ cred (tallyAt (cell c none) true 3) -∗ atPos ER (cell c none) 0 ∅ 0
        -∗ (ow c l ∗ semVal (cell c none) 0 ∗ freed (F := F) (par 0 c) 0 ∗ freed (F := F) (par 1 c) 1 ∗ freed (F := F) (par 2 c) 2 -∗ wpk c κ Q)
        -∗ wpk c (st9 c κ) Q) := by
  unfold st9
  simp only [semSignalWord, semWaitWord, Prog.lift, Prog.bind_op, Prog.bind_ret]
  iintro #HR #Hlev Ho ⟨Ht0, Ht1, Ht2⟩ ⟨Hf0, Hf1, Hf2⟩ Hc Ha Hk
  iapply (ev_signal W0 K c _ 0 (by exact (dev_bar c).1) _ _ (by rfl)) $$ HR Ho Ht0 Hf0; iintro Ho
  iapply (ev_signal W0 K c _ 1 (by exact (dev_bar c).2.1) _ _ (by rfl)) $$ HR Ho Ht1 Hf1; iintro Ho
  iapply (ev_signal W0 K c _ 2 (by exact (dev_bar c).2.2) _ _ (by rfl)) $$ HR Ho Ht2 Hf2; iintro Ho
  iapply (ev_barrier W0 K c l hl _ (by rfl)) $$ HR Hlev Ho Hc Ha
  iexact Hk

/-! ## The reduce-scatter -/

theorem run_scatter0 {α : Type} {Q : α → sProp 𝕄} (c : Dev nD) (l : List Ev) (hl : ∀ p, ∀ e ∈ l, lvOf (some (true, false, p, 0)) < lvOf e.ci)
    {h0 : (wM 0).IsWhole} {h1 : (wM 1).IsWhole} {h2 : (wM 2).IsWhole} {h3 : (rM 0).IsWhole} {h4 : (rM 1).IsWhole} {h5 : (rM 2).IsWhole}
    {κ : Prog (TpuEff nD τ sig (Elt F) Λ₀ .tc) α} :
    records W0 K
      ⊢ iprop(levAts L lv -∗ ow c (.cp false 0 0 :: .cp false 1 0 :: .cp false 2 0 :: l)
        -∗ rsIn W0 c 0 0 -∗ rsIn W0 c 1 0 -∗ rsIn W0 c 2 0
        -∗ (ow c l -∗ rsOut W0 c 0 0 -∗ rsOut W0 c 1 0 -∗ rsOut W0 c 2 0 -∗ wpk c κ Q)
        -∗ wpk c (st10 (wM 0) h0 (wM 1) h1 (wM 2) h2 (rM 0) h3 (rM 1) h4 (rM 2) h5 cc0_scratch10 cc0_scratch11 c κ) Q) := by
  unfold st10 rsIn
  simp only [Prog.lift, Prog.bind_op, Prog.bind_ret]
  iintro #HR #Hlev Ho ⟨Hr0, Hs0, Hk0, Hl0⟩ ⟨Hr1, Hs1, Hk1, Hl1⟩ ⟨Hr2, Hs2, Hk2, Hl2⟩ Hk
  iapply (ev_scatter W0 K c _ 0 0 (by exact (dev_scatter0 c).1) _ (by exact (off_send0 c).1)) $$ HR Ho Hr0 Hs0 Hl0; iintro ⟨Ho, Hs0, Hl0⟩
  iapply (ev_scatter W0 K c _ 1 0 (by exact (dev_scatter0 c).2.1) _ (by exact (off_send0 c).2.1)) $$ HR Ho Hr1 Hs1 Hl1; iintro ⟨Ho, Hs1, Hl1⟩
  iapply (ev_scatter W0 K c _ 2 0 (by exact (dev_scatter0 c).2.2) _ (by exact (off_send0 c).2.2)) $$ HR Ho Hr2 Hs2 Hl2; iintro ⟨Ho, Hs2, Hl2⟩
  iapply (ev_reduce W0 K c 0 0 l (hl 0) (by rfl) (by rfl) (by exact (off_keep0 c).1) (by intro v v' x; exact sum_back (s := S4x128x384) v v' x)) $$ HR Hlev Ho Hs0 Hl0 Hk0; iintro ⟨Ho, Ho0⟩
  iapply (ev_reduce W0 K c 1 0 l (hl 1) (by rfl) (by rfl) (by exact (off_keep0 c).2.1) (by intro v v' x; exact sum_back (s := S4x128x384) v v' x)) $$ HR Hlev Ho Hs1 Hl1 Hk1; iintro ⟨Ho, Ho1⟩
  iapply (ev_reduce W0 K c 2 0 l (hl 2) (by rfl) (by rfl) (by exact (off_keep0 c).2.2) (by intro v v' x; exact sum_back (s := S4x128x256) v v' x)) $$ HR Hlev Ho Hs2 Hl2 Hk2; iintro ⟨Ho, Ho2⟩
  iapply Hk $$ Ho [Ho0] [Ho1] [Ho2]
  · unfold rsOut; iexact Ho0
  · unfold rsOut; iexact Ho1
  · unfold rsOut; iexact Ho2

theorem run_scatter1 {α : Type} {Q : α → sProp 𝕄} (c : Dev nD) (l : List Ev) (hl : ∀ p, ∀ e ∈ l, lvOf (some (true, false, p, 1)) < lvOf e.ci)
    {h0 : (wM 0).IsWhole} {h1 : (wM 1).IsWhole} {h2 : (wM 2).IsWhole} {h3 : (rM 0).IsWhole} {h4 : (rM 1).IsWhole} {h5 : (rM 2).IsWhole}
    {κ : Prog (TpuEff nD τ sig (Elt F) Λ₀ .tc) α} :
    records W0 K
      ⊢ iprop(levAts L lv -∗ ow c (.cp false 0 1 :: .cp false 1 1 :: .cp false 2 1 :: l)
        -∗ rsIn W0 c 0 1 -∗ rsIn W0 c 1 1 -∗ rsIn W0 c 2 1
        -∗ (ow c l -∗ rsOut W0 c 0 1 -∗ rsOut W0 c 1 1 -∗ rsOut W0 c 2 1 -∗ wpk c κ Q)
        -∗ wpk c (st11 (wM 0) h0 (wM 1) h1 (wM 2) h2 (rM 0) h3 (rM 1) h4 (rM 2) h5 cc0_scratch10 cc0_scratch11 c κ) Q) := by
  unfold st11 rsIn
  simp only [Prog.lift, Prog.bind_op, Prog.bind_ret]
  iintro #HR #Hlev Ho ⟨Hr0, Hs0, Hk0, Hl0⟩ ⟨Hr1, Hs1, Hk1, Hl1⟩ ⟨Hr2, Hs2, Hk2, Hl2⟩ Hk
  iapply (ev_scatter W0 K c _ 0 1 (by exact (dev_scatter1 c).1) _ (by exact (off_send1 c).1)) $$ HR Ho Hr0 Hs0 Hl0; iintro ⟨Ho, Hs0, Hl0⟩
  iapply (ev_scatter W0 K c _ 1 1 (by exact (dev_scatter1 c).2.1) _ (by exact (off_send1 c).2.1)) $$ HR Ho Hr1 Hs1 Hl1; iintro ⟨Ho, Hs1, Hl1⟩
  iapply (ev_scatter W0 K c _ 2 1 (by exact (dev_scatter1 c).2.2) _ (by exact (off_send1 c).2.2)) $$ HR Ho Hr2 Hs2 Hl2; iintro ⟨Ho, Hs2, Hl2⟩
  iapply (ev_reduce W0 K c 0 1 l (hl 0) (by rfl) (by rfl) (by exact (off_keep1 c).1) (by intro v v' x; exact sum_back (s := S2x128x384) v v' x)) $$ HR Hlev Ho Hs0 Hl0 Hk0; iintro ⟨Ho, Ho0⟩
  iapply (ev_reduce W0 K c 1 1 l (hl 1) (by rfl) (by rfl) (by exact (off_keep1 c).2.1) (by intro v v' x; exact sum_back (s := S2x128x384) v v' x)) $$ HR Hlev Ho Hs1 Hl1 Hk1; iintro ⟨Ho, Ho1⟩
  iapply (ev_reduce W0 K c 2 1 l (hl 2) (by rfl) (by rfl) (by exact (off_keep1 c).2.2) (by intro v v' x; exact sum_back (s := S2x128x256) v v' x)) $$ HR Hlev Ho Hs2 Hl2 Hk2; iintro ⟨Ho, Ho2⟩
  iapply Hk $$ Ho [Ho0] [Ho1] [Ho2]
  · unfold rsOut; iexact Ho0
  · unfold rsOut; iexact Ho1
  · unfold rsOut; iexact Ho2

theorem run_scatter2 {α : Type} {Q : α → sProp 𝕄} (c : Dev nD) (l : List Ev) (hl : ∀ p, ∀ e ∈ l, lvOf (some (true, false, p, 2)) < lvOf e.ci)
    {h0 : (wM 0).IsWhole} {h1 : (wM 1).IsWhole} {h2 : (wM 2).IsWhole} {h3 : (rM 0).IsWhole} {h4 : (rM 1).IsWhole} {h5 : (rM 2).IsWhole}
    {κ : Prog (TpuEff nD τ sig (Elt F) Λ₀ .tc) α} :
    records W0 K
      ⊢ iprop(levAts L lv -∗ ow c (.cp false 0 2 :: .cp false 1 2 :: .cp false 2 2 :: l)
        -∗ rsIn W0 c 0 2 -∗ rsIn W0 c 1 2 -∗ rsIn W0 c 2 2
        -∗ (ow c l -∗ rsOut W0 c 0 2 -∗ rsOut W0 c 1 2 -∗ rsOut W0 c 2 2 -∗ wpk c κ Q)
        -∗ wpk c (st12 (wM 0) h0 (wM 1) h1 (wM 2) h2 (rM 0) h3 (rM 1) h4 (rM 2) h5 cc0_scratch10 cc0_scratch11 c κ) Q) := by
  unfold st12 rsIn
  simp only [Prog.lift, Prog.bind_op, Prog.bind_ret]
  iintro #HR #Hlev Ho ⟨Hr0, Hs0, Hk0, Hl0⟩ ⟨Hr1, Hs1, Hk1, Hl1⟩ ⟨Hr2, Hs2, Hk2, Hl2⟩ Hk
  iapply (ev_scatter W0 K c _ 0 2 (by exact (dev_scatter2 c).1) _ (by exact (off_send2 c).1)) $$ HR Ho Hr0 Hs0 Hl0; iintro ⟨Ho, Hs0, Hl0⟩
  iapply (ev_scatter W0 K c _ 1 2 (by exact (dev_scatter2 c).2.1) _ (by exact (off_send2 c).2.1)) $$ HR Ho Hr1 Hs1 Hl1; iintro ⟨Ho, Hs1, Hl1⟩
  iapply (ev_scatter W0 K c _ 2 2 (by exact (dev_scatter2 c).2.2) _ (by exact (off_send2 c).2.2)) $$ HR Ho Hr2 Hs2 Hl2; iintro ⟨Ho, Hs2, Hl2⟩
  iapply (ev_reduce W0 K c 0 2 l (hl 0) (by rfl) (by rfl) (by exact (off_keep2 c).1) (by intro v v' x; exact sum_back (s := S1x128x384) v v' x)) $$ HR Hlev Ho Hs0 Hl0 Hk0; iintro ⟨Ho, Ho0⟩
  iapply (ev_reduce W0 K c 1 2 l (hl 1) (by rfl) (by rfl) (by exact (off_keep2 c).2.1) (by intro v v' x; exact sum_back (s := S1x128x384) v v' x)) $$ HR Hlev Ho Hs1 Hl1 Hk1; iintro ⟨Ho, Ho1⟩
  iapply (ev_reduce W0 K c 2 2 l (hl 2) (by rfl) (by rfl) (by exact (off_keep2 c).2.2) (by intro v v' x; exact sum_back (s := S1x128x256) v v' x)) $$ HR Hlev Ho Hs2 Hl2 Hk2; iintro ⟨Ho, Ho2⟩
  iapply Hk $$ Ho [Ho0] [Ho1] [Ho2]
  · unfold rsOut; iexact Ho0
  · unfold rsOut; iexact Ho1
  · unfold rsOut; iexact Ho2

/-! ## The all-gather -/

theorem run_gather2 {α : Type} {Q : α → sProp 𝕄} (c : Dev nD) (l : List Ev) (hl : ∀ p, ∀ e ∈ l, lvOf (some (true, true, p, 2)) < lvOf e.ci)
    {h0 : (wM 0).IsWhole} {h1 : (wM 1).IsWhole} {h2 : (wM 2).IsWhole}
    {κ : Prog (TpuEff nD τ sig (Elt F) Λ₀ .tc) α} :
    records W0 K
      ⊢ iprop(levAts L lv -∗ ow c (.cp true 0 2 :: .cp true 1 2 :: .cp true 2 2 :: l)
        -∗ agIn W0 c 0 2 -∗ agIn W0 c 1 2 -∗ agIn W0 c 2 2
        -∗ (ow c l -∗ agOut W0 c 0 2 -∗ agOut W0 c 1 2 -∗ agOut W0 c 2 2 -∗ wpk c κ Q)
        -∗ wpk c (st13 (wM 0) h0 (wM 1) h1 (wM 2) h2 cc0_scratch10 cc0_scratch11 c κ) Q) := by
  unfold st13 agIn
  simp only [Prog.lift, Prog.bind_op, Prog.bind_ret]
  iintro #HR #Hlev Ho ⟨Hr0, Hk0, Hl0⟩ ⟨Hr1, Hk1, Hl1⟩ ⟨Hr2, Hk2, Hl2⟩ Hk
  iapply (ev_gather W0 K c _ 0 2 (by exact (dev_gather2 c).1) _ (by exact (off_spread2 c).1)) $$ HR Ho Hr0 Hk0 Hl0; iintro ⟨Ho, Hs0, Hl0⟩
  iapply (ev_gather W0 K c _ 1 2 (by exact (dev_gather2 c).2.1) _ (by exact (off_spread2 c).2.1)) $$ HR Ho Hr1 Hk1 Hl1; iintro ⟨Ho, Hs1, Hl1⟩
  iapply (ev_gather W0 K c _ 2 2 (by exact (dev_gather2 c).2.2) _ (by exact (off_spread2 c).2.2)) $$ HR Ho Hr2 Hk2 Hl2; iintro ⟨Ho, Hs2, Hl2⟩
  iapply (ev_spread W0 K c 0 2 l (hl 0) (by rfl) (by rfl)) $$ HR Hlev Ho Hs0 Hl0; iintro ⟨Ho, Ho0⟩
  iapply (ev_spread W0 K c 1 2 l (hl 1) (by rfl) (by rfl)) $$ HR Hlev Ho Hs1 Hl1; iintro ⟨Ho, Ho1⟩
  iapply (ev_spread W0 K c 2 2 l (hl 2) (by rfl) (by rfl)) $$ HR Hlev Ho Hs2 Hl2; iintro ⟨Ho, Ho2⟩
  iapply Hk $$ Ho [Ho0] [Ho1] [Ho2]
  · unfold agOut; iexact Ho0
  · unfold agOut; iexact Ho1
  · unfold agOut; iexact Ho2

theorem run_gather1 {α : Type} {Q : α → sProp 𝕄} (c : Dev nD) (l : List Ev) (hl : ∀ p, ∀ e ∈ l, lvOf (some (true, true, p, 1)) < lvOf e.ci)
    {h0 : (wM 0).IsWhole} {h1 : (wM 1).IsWhole} {h2 : (wM 2).IsWhole}
    {κ : Prog (TpuEff nD τ sig (Elt F) Λ₀ .tc) α} :
    records W0 K
      ⊢ iprop(levAts L lv -∗ ow c (.cp true 0 1 :: .cp true 1 1 :: .cp true 2 1 :: l)
        -∗ agIn W0 c 0 1 -∗ agIn W0 c 1 1 -∗ agIn W0 c 2 1
        -∗ (ow c l -∗ agOut W0 c 0 1 -∗ agOut W0 c 1 1 -∗ agOut W0 c 2 1 -∗ wpk c κ Q)
        -∗ wpk c (st14 (wM 0) h0 (wM 1) h1 (wM 2) h2 cc0_scratch10 cc0_scratch11 c κ) Q) := by
  unfold st14 agIn
  simp only [Prog.lift, Prog.bind_op, Prog.bind_ret]
  iintro #HR #Hlev Ho ⟨Hr0, Hk0, Hl0⟩ ⟨Hr1, Hk1, Hl1⟩ ⟨Hr2, Hk2, Hl2⟩ Hk
  iapply (ev_gather W0 K c _ 0 1 (by exact (dev_gather1 c).1) _ (by exact (off_spread1 c).1)) $$ HR Ho Hr0 Hk0 Hl0; iintro ⟨Ho, Hs0, Hl0⟩
  iapply (ev_gather W0 K c _ 1 1 (by exact (dev_gather1 c).2.1) _ (by exact (off_spread1 c).2.1)) $$ HR Ho Hr1 Hk1 Hl1; iintro ⟨Ho, Hs1, Hl1⟩
  iapply (ev_gather W0 K c _ 2 1 (by exact (dev_gather1 c).2.2) _ (by exact (off_spread1 c).2.2)) $$ HR Ho Hr2 Hk2 Hl2; iintro ⟨Ho, Hs2, Hl2⟩
  iapply (ev_spread W0 K c 0 1 l (hl 0) (by rfl) (by rfl)) $$ HR Hlev Ho Hs0 Hl0; iintro ⟨Ho, Ho0⟩
  iapply (ev_spread W0 K c 1 1 l (hl 1) (by rfl) (by rfl)) $$ HR Hlev Ho Hs1 Hl1; iintro ⟨Ho, Ho1⟩
  iapply (ev_spread W0 K c 2 1 l (hl 2) (by rfl) (by rfl)) $$ HR Hlev Ho Hs2 Hl2; iintro ⟨Ho, Ho2⟩
  iapply Hk $$ Ho [Ho0] [Ho1] [Ho2]
  · unfold agOut; iexact Ho0
  · unfold agOut; iexact Ho1
  · unfold agOut; iexact Ho2

theorem run_gather0 {α : Type} {Q : α → sProp 𝕄} (c : Dev nD) (l : List Ev) (hl : ∀ p, ∀ e ∈ l, lvOf (some (true, true, p, 0)) < lvOf e.ci)
    {h0 : (wM 0).IsWhole} {h1 : (wM 1).IsWhole} {h2 : (wM 2).IsWhole}
    {κ : Prog (TpuEff nD τ sig (Elt F) Λ₀ .tc) α} :
    records W0 K
      ⊢ iprop(levAts L lv -∗ ow c (.cp true 0 0 :: .cp true 1 0 :: .cp true 2 0 :: l)
        -∗ agIn W0 c 0 0 -∗ agIn W0 c 1 0 -∗ agIn W0 c 2 0
        -∗ (ow c l -∗ agOut W0 c 0 0 -∗ agOut W0 c 1 0 -∗ agOut W0 c 2 0 -∗ wpk c κ Q)
        -∗ wpk c (st15 (wM 0) h0 (wM 1) h1 (wM 2) h2 cc0_scratch10 cc0_scratch11 c κ) Q) := by
  unfold st15 agIn
  simp only [Prog.lift, Prog.bind_op, Prog.bind_ret]
  iintro #HR #Hlev Ho ⟨Hr0, Hk0, Hl0⟩ ⟨Hr1, Hk1, Hl1⟩ ⟨Hr2, Hk2, Hl2⟩ Hk
  iapply (ev_gather W0 K c _ 0 0 (by exact (dev_gather0 c).1) _ (by exact (off_spread0 c).1)) $$ HR Ho Hr0 Hk0 Hl0; iintro ⟨Ho, Hs0, Hl0⟩
  iapply (ev_gather W0 K c _ 1 0 (by exact (dev_gather0 c).2.1) _ (by exact (off_spread0 c).2.1)) $$ HR Ho Hr1 Hk1 Hl1; iintro ⟨Ho, Hs1, Hl1⟩
  iapply (ev_gather W0 K c _ 2 0 (by exact (dev_gather0 c).2.2) _ (by exact (off_spread0 c).2.2)) $$ HR Ho Hr2 Hk2 Hl2; iintro ⟨Ho, Hs2, Hl2⟩
  iapply (ev_spread W0 K c 0 0 l (hl 0) (by rfl) (by rfl)) $$ HR Hlev Ho Hs0 Hl0; iintro ⟨Ho, Ho0⟩
  iapply (ev_spread W0 K c 1 0 l (hl 1) (by rfl) (by rfl)) $$ HR Hlev Ho Hs1 Hl1; iintro ⟨Ho, Ho1⟩
  iapply (ev_spread W0 K c 2 0 l (hl 2) (by rfl) (by rfl)) $$ HR Hlev Ho Hs2 Hl2; iintro ⟨Ho, Ho2⟩
  iapply Hk $$ Ho [Ho0] [Ho1] [Ho2]
  · unfold agOut; iexact Ho0
  · unfold agOut; iexact Ho1
  · unfold agOut; iexact Ho2

end Cert.KernelIdealProof

end
-- ==== Proof.KernelIdeal.Fetch.lean ====
/-
# Bringing the heads' keys and values in

Sixteen local copies on one semaphore bring, for each batch entry and each of the device's two head groups, the keys and
then the values from the device's own blocks. They are all started before the first is waited for.
-/
module

public import proofs.«01_k».proof.Proof.KernelIdeal.Comm
public import Idealize.ShloMosaic.Lib.Pointwise.Reshape
public import Idealize.ShloMosaic.Lib.ValueLayout

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-- The transfer counters of the device's own copies. -/
abbrev EC : UEmb Counters (MT nD τ sig Bool (Elt F) ℕ UU ℕ) := countersEmb

/-! ## The blocks -/

theorem inb_src (c : Dev nD) (t : Fin 16) (a : Fin 4) :
    (![t.val / 4, 0, 2 * c.val + t.val / 2 % 2, 0] : Fin 4 → ℕ) a + S1x1024x1x128.size a ≤ S4x1024x16x128.size a := by
  revert c t a; decide
theorem inb_kv (t : Fin 16) (a : Fin 5) :
    (![t.val % 2, t.val / 4, t.val / 2 % 2, 0, 0] : Fin 5 → ℕ) a + S1x1x1x1024x128.size a ≤ S2x4x2x1024x128.size a := by
  revert t a; decide

/-- Where copy `t` reads, -/
abbrev srcR (c : Dev nD) (t : Fin 16) : Rect S4x1024x16x128 :=
  Rect.unit (s := S4x1024x16x128) ![t.val / 4, 0, 2 * c.val + t.val / 2 % 2, 0] S1x1024x1x128.size (inb_src c t)
/-- and where it writes. -/
abbrev kvR (t : Fin 16) : Rect S2x4x2x1024x128 :=
  Rect.unit (s := S2x4x2x1024x128) ![t.val % 2, t.val / 4, t.val / 2 % 2, 0, 0] S1x1x1x1024x128.size (inb_kv t)

theorem mem_srcR {c : Dev nD} {t : Fin 16} {x : S4x1024x16x128.Idx} :
    x ∈ (srcR c t).set ↔ (x 0).val = t.val / 4 ∧ (x 2).val = 2 * c.val + t.val / 2 % 2 := by
  rw [Rect.mem_set_unit]
  have h1 := (x 1).isLt
  have h3 := (x 3).isLt
  constructor
  · intro h
    have h0 := h 0
    have h2 := h 2
    simp at h0 h2
    omega
  · rintro ⟨h0, h2⟩ a
    fin_cases a <;> simp at * <;> omega

theorem mem_kvR {t : Fin 16} {x : S2x4x2x1024x128.Idx} :
    x ∈ (kvR t).set ↔ (x 0).val = t.val % 2 ∧ (x 1).val = t.val / 4 ∧ (x 2).val = t.val / 2 % 2 := by
  rw [Rect.mem_set_unit]
  have h3 := (x 3).isLt
  have h4 := (x 4).isLt
  constructor
  · intro h
    have h0 := h 0
    have h1 := h 1
    have h2 := h 2
    simp at h0 h1 h2
    omega
  · rintro ⟨h0, h1, h2⟩ a
    fin_cases a <;> simp at * <;> omega

/-- The elements of a source (0: keys, 1: values) no copy before number `n` has taken, -/
def leftS (c : Dev nD) (n i : ℕ) : Finset S4x1024x16x128.Idx :=
  Finset.univ.filter fun x => ¬ ((x 2).val / 2 = c.val ∧ 4 * (x 0).val + 2 * ((x 2).val % 2) + i < n)
/-- and those of the target. -/
def leftD (n : ℕ) : Finset S2x4x2x1024x128.Idx :=
  Finset.univ.filter fun x => n ≤ 4 * (x 1).val + 2 * (x 2).val + (x 0).val

theorem mem_leftS {c : Dev nD} {n i : ℕ} {x : S4x1024x16x128.Idx} :
    x ∈ leftS c n i ↔ ¬ ((x 2).val / 2 = c.val ∧ 4 * (x 0).val + 2 * ((x 2).val % 2) + i < n) := by simp [leftS]
theorem mem_leftD {n : ℕ} {x : S2x4x2x1024x128.Idx} : x ∈ leftD n ↔ n ≤ 4 * (x 1).val + 2 * (x 2).val + (x 0).val := by simp [leftD]

theorem leftS_zero (c : Dev nD) (i : ℕ) : leftS c 0 i = Finset.univ := by
  ext x; rw [mem_leftS]; simp
theorem leftD_zero : leftD 0 = Finset.univ := by
  ext x; rw [mem_leftD]; simp

theorem leftS_take (c : Dev nD) (t : Fin 16) : leftS c t.val (t.val % 2) = (srcR c t).set ∪ leftS c (t.val + 1) (t.val % 2) := by
  ext x
  rw [Finset.mem_union, mem_leftS, mem_leftS, mem_srcR]
  have h := t.isLt
  omega
theorem leftS_apart (c : Dev nD) (t : Fin 16) : Disjoint (srcR c t).set (leftS c (t.val + 1) (t.val % 2)) := by
  rw [Finset.disjoint_left]
  intro x h1 h2
  rw [mem_leftS] at h2
  rw [mem_srcR] at h1
  have h := t.isLt
  omega
theorem leftS_other (c : Dev nD) (t : Fin 16) (i : ℕ) (hi : i % 2 ≠ t.val % 2) : leftS c (t.val + 1) i = leftS c t.val i := by
  ext x
  rw [mem_leftS, mem_leftS]
  omega
theorem leftD_take (t : Fin 16) : leftD t.val = (kvR t).set ∪ leftD (t.val + 1) := by
  ext x
  rw [Finset.mem_union, mem_leftD, mem_leftD, mem_kvR]
  have h := t.isLt
  have h0 : (x 0).val < 2 := (x 0).isLt
  have h1 : (x 1).val < 4 := (x 1).isLt
  have h2 : (x 2).val < 2 := (x 2).isLt
  omega
theorem leftD_apart (t : Fin 16) : Disjoint (kvR t).set (leftD (t.val + 1)) := by
  rw [Finset.disjoint_left]
  intro x h1 h2
  rw [mem_leftD] at h2
  rw [mem_kvR] at h1
  omega
theorem leftD_none : leftD 16 = ∅ := by
  ext x
  rw [mem_leftD]
  have h0 : (x 0).val < 2 := (x 0).isLt
  have h1 : (x 1).val < 4 := (x 1).isLt
  have h2 : (x 2).val < 2 := (x 2).isLt
  simp
  omega

/-! ## What the copies bring -/

/-- Where an element of the fetched blocks comes from. -/
def srcIdx (c : Dev nD) (x : S2x4x2x1024x128.Idx) : S4x1024x16x128.Idx :=
  ix4 (⟨(x 1).val, (x 1).isLt⟩ : Fin 4) (⟨(x 3).val, (x 3).isLt⟩ : Fin 1024)
    (⟨2 * c.val + (x 2).val, by have h : (x 2).val < 2 := (x 2).isLt; have hc : c.val < 8 := c.isLt; omega⟩ : Fin 16)
    (⟨(x 4).val, (x 4).isLt⟩ : Fin 128)

/-- The fetched blocks. -/
def kvOf (c : Dev nD) (K V : S4x1024x16x128.Idx → Elt F .f32) (x : S2x4x2x1024x128.Idx) : Elt F .f32 :=
  if (x 0).val = 0 then K (srcIdx c x) else V (srcIdx c x)

/-- The squeezed blocks' indices. -/
def sq5 (x : S1024x128.Idx) : S1x1x1x1024x128.Idx := ix5 (0 : Fin 1) (0 : Fin 1) (0 : Fin 1) (x 0) (x 1)
def sq4 (x : S1024x128.Idx) : S1x1024x1x128.Idx := ix4 (0 : Fin 1) (x 0) (0 : Fin 1) (x 1)

theorem sq5_eq (h : S1024x128.numel = S1x1x1x1024x128.numel) (x : S1024x128.Idx) : Shape.reshapeEquiv h x = sq5 x :=
  Shape.reshapeEquiv_eq_of_vals h x _ _ _ (rowMajor_val5 _ 131072 131072 131072 128 rfl rfl rfl rfl)
    (rowMajor_val2 _ 128 rfl) (by show 0 * 131072 + 0 * 131072 + 0 * 131072 + (x 0).val * 128 + (x 1).val = _; omega)
theorem sq4_eq (h : S1024x128.numel = S1x1024x1x128.numel) (x : S1024x128.Idx) : Shape.reshapeEquiv h x = sq4 x :=
  Shape.reshapeEquiv_eq_of_vals h x _ _ _ (rowMajor_val4 _ 131072 128 128 rfl rfl rfl)
    (rowMajor_val2 _ 128 rfl) (by show 0 * 131072 + (x 0).val * 128 + 0 * 128 + (x 1).val = _; omega)

theorem srcIdx_sq (c : Dev nD) (t : Fin 16) (x : S1024x128.Idx) : srcIdx c ((kvR t).emb (sq5 x)) = (srcR c t).emb (sq4 x) := by
  funext a
  refine Fin.ext ?_
  fin_cases a
  all_goals
    show _ = _
    simp [srcIdx, sq5, sq4, ix4, ix5]

/-! ## The copies -/

/-- The piece of its source copy `t` holds while it runs. -/
def srcHold (c : Dev nD) (K V : S4x1024x16x128.Idx → Elt F .f32) (t : Fin 16) : sProp 𝕄 :=
  if t.val % 2 = 0 then hold c kM (srcR c t).set K else hold c vM (srcR c t).set V

/-- What copy `t` hands over when it has landed. -/
def gotF (c : Dev nD) (K V : S4x1024x16x128.Idx → Elt F .f32) (t : Fin 16) : sProp 𝕄 :=
  iprop(hold c kvM (kvR t).set (kvOf c K V) ∗ srcHold c K V t)

omit [FloatOps F] in
instance gotF_storable (c : Dev nD) (K V : S4x1024x16x128.Idx → Elt F .f32) (t : Fin 16) :
    BI.Storable (upEmb : UEmb _ 𝕄) (gotF (F := F) c K V t) := by
  unfold gotF srcHold; split <;> infer_instance

/-- The units one copy credits. -/
abbrev NF : ℕ := ((kvM.slice (kvR 0) (fun _ => rfl)).squeeze S1024x128 squeezes_S1x1x1x1024x128_S1024x128).view.dmaCredit
theorem NF_pos : 0 < NF := View.dmaCredit_pos _ (by decide)

/-- The blocks of copy `t` as flat matrices. -/
abbrev srcQ (M : Memref sig .tc .hbm S4x1024x16x128 .f32) (c : Dev nD) (t : Fin 16) : Memref sig .tc .hbm S1024x128 .f32 :=
  (M.slice (srcR c t) (fun _ => rfl)).squeeze S1024x128 squeezes_S1x1024x1x128_S1024x128
abbrev dstQ (t : Fin 16) : Memref sig .tc .vmem S1024x128 .f32 :=
  (kvM.slice (kvR t) (fun _ => rfl)).squeeze S1024x128 squeezes_S1x1x1x1024x128_S1024x128

theorem srcQ_set (M : Memref sig .tc .hbm S4x1024x16x128 .f32) (c : Dev nD) (t : Fin 16) : (srcQ M c t).view.set = M.view.setOn (srcR c t).set :=
  (View.set_reshape _ _).trans (View.set_slice _ _)
theorem dstQ_set (t : Fin 16) : (dstQ t).view.set = kvM.view.setOn (kvR t).set :=
  (View.set_reshape _ _).trans (View.set_slice _ _)

abbrev fetchS : SemLoc sig := .dma (cc0_scratch9 : DmaSems sig S_).sem

/-- Before copy `n` is started: the parts of the sources and of the target not yet taken, and the copies under way. -/
def fetching (c : Dev nD) (K V : S4x1024x16x128.Idx → Elt F .f32) (n : ℕ) : sProp 𝕄 :=
  iprop(hold c kM (leftS c n 0) K ∗ hold c vM (leftS c n 1) V ∗ holdAny (F := F) c kvM (leftD n)
    ∗ Transfers.Batch EC (c : Thread nD τ) fetchS false NF (gotF c K V) n 0)

/-- A landed copy leaves the target block at the elements it came from. -/
theorem copied {c : Dev nD} {M : Memref sig .tc .hbm S4x1024x16x128 .f32} {G : S4x1024x16x128.Idx → Elt F .f32}
    {KV : S2x4x2x1024x128.Idx → Elt F .f32} (t : Fin 16)
    (hKV : ∀ x ∈ (kvR t).set, KV x = G (srcIdx c x))
    (fs : Buf (Elt F) (M.view.loc (c : Thread nD τ))) (hfs : ∀ x ∈ (srcR c t).set, M.view.read (Elt F) fs x = G x)
    (fd : Buf (Elt F) (kvM.view.loc (c : Thread nD τ))) :
    iprop(((dstQ t).view.loc (c : Thread nD τ)
          ↦[(dstQ t).view.set]{fullShare}
            ((dstQ t).view.write (Elt F) fd
              ((srcQ M c t).view.read (Elt F) fs) Finset.univ))
        ∗ ((srcQ M c t).view.loc (c : Thread nD τ)
          ↦[(srcQ M c t).view.set]{fullShare} fs))
      ⊢ (iprop(hold c kvM (kvR t).set KV ∗ hold c M (srcR c t).set G) : sProp 𝕄) := by
  rw [srcQ_set, dstQ_set]
  iintro ⟨Hd, Hs⟩
  isplitl [Hd]
  · iapply (hold_intro c kvM (kvR t).set KV _ ?_) $$ Hd
    intro x hx
    obtain ⟨y, rfl⟩ := (kvR t).exists_idx_of_mem hx
    obtain ⟨z, rfl⟩ := (Shape.reshapeEquiv (squeezes_S1x1x1x1024x128_S1024x128).numel_eq).surjective y
    refine (congrFun (View.read_write_univ (v := (dstQ t).view) fd
      ((srcQ M c t).view.read (Elt F) fs)) z).trans ?_
    rw [hKV _ hx]
    have h3 : srcIdx c ((kvR t).idx (Shape.reshapeEquiv (squeezes_S1x1x1x1024x128_S1024x128).numel_eq z))
        = (srcR c t).emb (Shape.reshapeEquiv (squeezes_S1x1024x1x128_S1024x128).numel_eq z) := by
      rw [sq5_eq, sq4_eq]; exact srcIdx_sq c t z
    rw [h3]
    exact hfs _ ((srcR c t).idx_mem _)
  · iapply (hold_intro c M (srcR c t).set G fs hfs) $$ Hs

/-- Starting a copy, the source `M` being either of the two. -/
theorem fetch_start {α : Type} {Q : α → sProp 𝕄} (c : Dev nD) (K V : S4x1024x16x128.Idx → Elt F .f32)
    {M : Memref sig .tc .hbm S4x1024x16x128 .f32} {G : S4x1024x16x128.Idx → Elt F .f32} (t : Fin 16)
    (hKV : ∀ x ∈ (kvR t).set, kvOf c K V x = G (srcIdx c x))
    (hG : hold c M (srcR c t).set G ⊢ (srcHold c K V t : sProp 𝕄))
    {os : Fin 4 → ℕ} {od : Fin 5 → ℕ} {is id} {hsrc hdst hsem}
    (hs : os = ![t.val / 4, 0, 2 * c.val + t.val / 2 % 2, 0]) (hd : od = ![t.val % 2, t.val / 4, t.val / 2 % 2, 0, 0])
    {k : PUnit → Prog (TpuEff nD τ sig (Elt F) Λ₀ .tc) α} :
    iprop(hold c M (srcR c t).set G ∗ holdAny (F := F) c kvM (kvR t).set ∗ Transfers.Batch EC (c : Thread nD τ) fetchS false NF (gotF c K V) t.val 0)
      ⊢ iprop((Transfers.Batch EC (c : Thread nD τ) fetchS false NF (gotF c K V) (t.val + 1) 0 -∗ wpk c (k ⟨⟩) Q)
        -∗ wpk c (.op (.enqueueDma ((M.slice (Rect.unit (s := S4x1024x16x128) os S1x1024x1x128.size is) (fun _ => rfl)).squeeze S1024x128 squeezes_S1x1024x1x128_S1024x128)
            (.here ((kvM.slice (Rect.unit (s := S2x4x2x1024x128) od S1x1x1x1024x128.size id) (fun _ => rfl)).squeeze S1024x128 squeezes_S1x1x1x1024x128_S1024x128))
            fetchS hsrc hdst hsem) k) Q) := by
  subst hs; subst hd
  unfold holdAny hold
  iintro ⟨⟨%fs, %hfs, Hs⟩, ⟨%G', %fd, %hfd, Hd⟩, HB⟩ Hk
  iapply (Transfers.wp_dmaBatch EC 𝒱₀ (c : Thread nD τ) none (sm := fetchS) (D := gotF c K V) (j := t.val) (u := 0)
    (src := srcQ M c t)
    (dst := dstQ t)
    (via := .same) (q := fullShare) (fs := fs) (fd := fd)
    (Sd := (dstQ t).view.set)
    false NF rfl (Finset.Subset.refl _) t.isLt (Nat.zero_le _) ?_) $$ [Hs Hd HB]
  · iintro H
    unfold gotF
    ihave H2 := (copied (M := M) (G := G) (KV := kvOf c K V) t hKV fs hfs fd) $$ H
    icases H2 with ⟨Ha, Hb⟩
    isplitl [Ha]; · iexact Ha
    iapply hG $$ Hb
  · rw [srcQ_set, dstQ_set]
    isplitl [Hs]; · iexact Hs
    isplitl [Hd]; · iexact Hd
    iexact HB
  iexact Hk

/-- The next piece of a region. -/
theorem hold_take {sp : Space} {s : Shape} {e : EltTy} {c : Dev nD} {M : Memref sig .tc sp s e} {S T U : Finset s.Idx} {G : s.Idx → Elt F e}
    (hS : S = T ∪ U) (h : Disjoint T U) : (hold c M S G : sProp 𝕄) ⊢ iprop(hold c M T G ∗ hold c M U G) := by
  subst hS; exact hold_split h
theorem hold_put {sp : Space} {s : Shape} {e : EltTy} {c : Dev nD} {M : Memref sig .tc sp s e} {S T U : Finset s.Idx} {G : s.Idx → Elt F e}
    (hS : S = T ∪ U) (h : Disjoint T U) : iprop(hold c M T G ∗ hold c M U G) ⊢ (hold c M S G : sProp 𝕄) := by
  subst hS; exact hold_join h
theorem holdAny_take {sp : Space} {s : Shape} {e : EltTy} {c : Dev nD} {M : Memref sig .tc sp s e} {S T U : Finset s.Idx}
    (hS : S = T ∪ U) (h : Disjoint T U) : (holdAny (F := F) c M S : sProp 𝕄) ⊢ iprop(holdAny (F := F) c M T ∗ holdAny (F := F) c M U) := by
  unfold holdAny
  iintro ⟨%G, H⟩
  ihave H2 := (hold_take hS h) $$ H
  icases H2 with ⟨H1, H2⟩
  isplitl [H1]
  · iexists G; iexact H1
  · iexists G; iexact H2

/-- Copy `t` of keys is started. -/
theorem ev_fetchK {α : Type} {Q : α → sProp 𝕄} (c : Dev nD) (K V : S4x1024x16x128.Idx → Elt F .f32) (t : Fin 16) (ht : t.val % 2 = 0)
    {os : Fin 4 → ℕ} {od : Fin 5 → ℕ} {is id} {hsrc hdst hsem}
    (hs : os = ![t.val / 4, 0, 2 * c.val + t.val / 2 % 2, 0]) (hd : od = ![t.val % 2, t.val / 4, t.val / 2 % 2, 0, 0])
    {k : PUnit → Prog (TpuEff nD τ sig (Elt F) Λ₀ .tc) α} :
    fetching c K V t.val
      ⊢ iprop((fetching c K V (t.val + 1) -∗ wpk c (k ⟨⟩) Q)
        -∗ wpk c (.op (.enqueueDma ((kM.slice (Rect.unit (s := S4x1024x16x128) os S1x1024x1x128.size is) (fun _ => rfl)).squeeze S1024x128 squeezes_S1x1024x1x128_S1024x128)
            (.here ((kvM.slice (Rect.unit (s := S2x4x2x1024x128) od S1x1x1x1024x128.size id) (fun _ => rfl)).squeeze S1024x128 squeezes_S1x1x1x1024x128_S1024x128))
            fetchS hsrc hdst hsem) k) Q) := by
  unfold fetching
  iintro ⟨HK, HV, HD, HB⟩ Hk
  ihave HK := (hold_take (ht ▸ leftS_take c t) (ht ▸ leftS_apart c t)) $$ HK
  ihave HD := (holdAny_take (leftD_take t) (leftD_apart t)) $$ HD
  icases HK with ⟨HK1, HK⟩
  icases HD with ⟨HD1, HD⟩
  iapply (fetch_start c K V (M := kM) (G := K) t
    (fun x hx => by unfold kvOf; rw [if_pos ((mem_kvR.mp hx).1.trans ht)]) (by unfold srcHold; rw [if_pos ht]) hs hd) $$ [HK1 HD1 HB]
  · isplitl [HK1]; · iexact HK1
    isplitl [HD1]; · iexact HD1
    iexact HB
  iintro HB
  iapply Hk
  isplitl [HK]; · iexact HK
  isplitl [HV]; · rw [leftS_other c t 1 (by omega)]; iexact HV
  isplitl [HD]; · iexact HD
  iexact HB

/-- Copy `t` of values is started. -/
theorem ev_fetchV {α : Type} {Q : α → sProp 𝕄} (c : Dev nD) (K V : S4x1024x16x128.Idx → Elt F .f32) (t : Fin 16) (ht : t.val % 2 = 1)
    {os : Fin 4 → ℕ} {od : Fin 5 → ℕ} {is id} {hsrc hdst hsem}
    (hs : os = ![t.val / 4, 0, 2 * c.val + t.val / 2 % 2, 0]) (hd : od = ![t.val % 2, t.val / 4, t.val / 2 % 2, 0, 0])
    {k : PUnit → Prog (TpuEff nD τ sig (Elt F) Λ₀ .tc) α} :
    fetching c K V t.val
      ⊢ iprop((fetching c K V (t.val + 1) -∗ wpk c (k ⟨⟩) Q)
        -∗ wpk c (.op (.enqueueDma ((vM.slice (Rect.unit (s := S4x1024x16x128) os S1x1024x1x128.size is) (fun _ => rfl)).squeeze S1024x128 squeezes_S1x1024x1x128_S1024x128)
            (.here ((kvM.slice (Rect.unit (s := S2x4x2x1024x128) od S1x1x1x1024x128.size id) (fun _ => rfl)).squeeze S1024x128 squeezes_S1x1x1x1024x128_S1024x128))
            fetchS hsrc hdst hsem) k) Q) := by
  unfold fetching
  iintro ⟨HK, HV, HD, HB⟩ Hk
  ihave HV := (hold_take (ht ▸ leftS_take c t) (ht ▸ leftS_apart c t)) $$ HV
  ihave HD := (holdAny_take (leftD_take t) (leftD_apart t)) $$ HD
  icases HV with ⟨HV1, HV⟩
  icases HD with ⟨HD1, HD⟩
  have ht0 : t.val % 2 ≠ 0 := by omega
  iapply (fetch_start c K V (M := vM) (G := V) t
    (fun x hx => by unfold kvOf; rw [if_neg (fun h => ht0 ((mem_kvR.mp hx).1.symm.trans h))]) (by unfold srcHold; rw [if_neg ht0]) hs hd) $$ [HV1 HD1 HB]
  · isplitl [HV1]; · iexact HV1
    isplitl [HD1]; · iexact HD1
    iexact HB
  iintro HB
  iapply Hk
  isplitl [HK]; · rw [leftS_other c t 0 (by omega)]; iexact HK
  isplitl [HV]; · iexact HV
  isplitl [HD]; · iexact HD
  iexact HB

/-! ## The waits -/

/-- While the copies are waited for, `n` waits done. -/
def draining (c : Dev nD) (K V : S4x1024x16x128.Idx → Elt F .f32) (n : ℕ) : sProp 𝕄 :=
  iprop(hold c kM (leftS c 16 0) K ∗ hold c vM (leftS c 16 1) V ∗ holdAny (F := F) c kvM (leftD 16)
    ∗ Transfers.Batch EC (c : Thread nD τ) fetchS false NF (gotF c K V) 16 (n * NF))

theorem fetched (c : Dev nD) (K V : S4x1024x16x128.Idx → Elt F .f32) : fetching c K V 16 ⊢ draining c K V 0 := by
  unfold fetching draining; rw [Nat.zero_mul]

theorem local_wait (c : Dev nD) (l : List Ev) : (levAts L lv : sProp 𝕄) ⊢ MayWait (c : Thread nD τ) fetchS false (owed c l) :=
  (mayWaits_local c l).trans (by unfold Transfers.MayWaits; exact BI.BIClass.forall_elim _)

/-- A wait that is not the last. -/
theorem ev_drain {α : Type} {Q : α → sProp 𝕄} (c : Dev nD) (K V : S4x1024x16x128.Idx → Elt F .f32) (n : ℕ) (hn : n < 15) (l : List Ev)
    {M : Memref sig .tc .hbm S4x1024x16x128 .f32}
    {os : Fin 4 → ℕ} {od : Fin 5 → ℕ} {is id} {hsrc hdst}
    {k : PUnit → Prog (TpuEff nD τ sig (Elt F) Λ₀ .tc) α} :
    levAts L lv ⊢ iprop(ow c l -∗ draining c K V n
      -∗ (ow c l ∗ draining c K V (n + 1) -∗ wpk c (k ⟨⟩) Q)
        -∗ wpk c (.op (.waitDma2 (cc0_scratch9 : DmaSems sig S_).sem ((M.slice (Rect.unit (s := S4x1024x16x128) os S1x1024x1x128.size is) (fun _ => rfl)).squeeze S1024x128 squeezes_S1x1024x1x128_S1024x128)
            ((kvM.slice (Rect.unit (s := S2x4x2x1024x128) od S1x1x1x1024x128.size id) (fun _ => rfl)).squeeze S1024x128 squeezes_S1x1x1x1024x128_S1024x128)
            hsrc hdst) k) Q) := by
  unfold draining ow
  iintro #Hlev ⟨%W, HO⟩ ⟨HK, HV, HD, HB⟩ Hk
  iapply (Transfers.wp_waitBatchO EC 𝒱₀ (c : Thread nD τ) none (D := gotF c K V)
    (srcw := (M.slice (Rect.unit (s := S4x1024x16x128) os S1x1024x1x128.size is) (fun _ => rfl)).squeeze S1024x128 squeezes_S1x1024x1x128_S1024x128)
    (dstw := (kvM.slice (Rect.unit (s := S2x4x2x1024x128) od S1x1x1x1024x128.size id) (fun _ => rfl)).squeeze S1024x128 squeezes_S1x1x1x1024x128_S1024x128)
    (hsrc := hsrc) (hdst := hdst) (sem := (cc0_scratch9 : DmaSems sig S_).sem) false (N := NF) rfl (u := n * NF)
    (by rw [Nat.mul_comm NF 16, ← Nat.succ_mul]; exact Nat.mul_lt_mul_of_pos_right (by omega) NF_pos) (O := owed c l) (W := W)) $$ [HB HO]
  · isplitl [HB]; · iexact HB
    isplitl [HO]; · iexact HO
    iapply (local_wait c l); iexact Hlev
  iintro ⟨HB, HO⟩
  iapply Hk
  isplitl [HO]; · iexists _; iexact HO
  isplitl [HK]; · iexact HK
  isplitl [HV]; · iexact HV
  isplitl [HD]; · iexact HD
  rw [show n * NF + NF = (n + 1) * NF from (Nat.succ_mul _ _).symm]
  iexact HB

/-- Putting the landed blocks and the sources back together, from copy `n` on. -/
theorem gather_back (c : Dev nD) (K V : S4x1024x16x128.Idx → Elt F .f32) (n : ℕ) (hn : n ≤ 16) :
    iprop(bigSep (Transfers.pending (n := 16) n) (gotF c K V) ∗ hold c kM (leftS c 16 0) K ∗ hold c vM (leftS c 16 1) V ∗ hold c kvM (leftD 16) (kvOf c K V))
      ⊢ (iprop(hold c kM (leftS c n 0) K ∗ hold c vM (leftS c n 1) V ∗ hold c kvM (leftD n) (kvOf c K V)) : sProp 𝕄) := by
  obtain ⟨k, hk⟩ := Nat.exists_eq_add_of_le hn
  clear hn
  induction k generalizing n with
  | zero =>
    obtain rfl : n = 16 := by omega
    iintro ⟨-, H⟩; iexact H
  | succ k ih =>
    have hn : n < 16 := by omega
    have ih := ih (n + 1) (by omega)
    have hb : bigSep (Transfers.pending (n := 16) n) (gotF c K V) ⊢ (iprop(gotF c K V ⟨n, hn⟩ ∗ bigSep (Transfers.pending (n := 16) (n + 1)) (gotF c K V)) : sProp 𝕄) :=
      Entails.of_eq (by rw [Transfers.pending_succ hn, bigSep_insert (Transfers.not_mem_pending_succ hn)]; rfl)
    iintro ⟨HP, HR⟩
    ihave HP := hb $$ HP
    icases HP with ⟨Ht, HP⟩
    ihave H := ih $$ [HP HR]
    · isplitl [HP]; · iexact HP
      iexact HR
    icases H with ⟨HK, HV, HD⟩
    unfold gotF
    icases Ht with ⟨Hd, Hs⟩
    ihave HD := (hold_put (leftD_take ⟨n, hn⟩) (leftD_apart ⟨n, hn⟩)) $$ [Hd HD]
    · isplitl [Hd]; · iexact Hd
      iexact HD
    by_cases h2 : n % 2 = 0
    · ihave Hs := (Entails.of_eq (show (srcHold c K V ⟨n, hn⟩ : sProp 𝕄) = hold c kM (srcR c ⟨n, hn⟩).set K from if_pos h2)) $$ Hs
      have h3 : leftS c (n + 1) 1 = leftS c n 1 := leftS_other c ⟨n, hn⟩ 1 (by simp; omega)
      have h4 := leftS_take c ⟨n, hn⟩
      have h5 := leftS_apart c ⟨n, hn⟩
      simp only [h2] at h4 h5
      ihave HV := (Entails.of_eq (congrArg (fun S => (hold c vM S V : sProp 𝕄)) h3)) $$ HV
      ihave HK := (hold_put h4 h5) $$ [Hs HK]
      · isplitl [Hs]; · iexact Hs
        iexact HK
      isplitl [HK]; · iexact HK
      isplitl [HV]; · iexact HV
      iexact HD
    · ihave Hs := (Entails.of_eq (show (srcHold c K V ⟨n, hn⟩ : sProp 𝕄) = hold c vM (srcR c ⟨n, hn⟩).set V from if_neg h2)) $$ Hs
      have h2' : n % 2 = 1 := by omega
      have h3 : leftS c (n + 1) 0 = leftS c n 0 := leftS_other c ⟨n, hn⟩ 0 (by simp; omega)
      have h4 := leftS_take c ⟨n, hn⟩
      have h5 := leftS_apart c ⟨n, hn⟩
      simp only [h2'] at h4 h5
      ihave HK := (Entails.of_eq (congrArg (fun S => (hold c kM S K : sProp 𝕄)) h3)) $$ HK
      ihave HV := (hold_put h4 h5) $$ [Hs HV]
      · isplitl [Hs]; · iexact Hs
        iexact HV
      isplitl [HK]; · iexact HK
      isplitl [HV]; · iexact HV
      iexact HD

/-- The last wait: everything has landed. -/
theorem ev_drained {α : Type} {Q : α → sProp 𝕄} (c : Dev nD) (K V : S4x1024x16x128.Idx → Elt F .f32) (l : List Ev)
    {M : Memref sig .tc .hbm S4x1024x16x128 .f32}
    {os : Fin 4 → ℕ} {od : Fin 5 → ℕ} {is id} {hsrc hdst}
    {k : PUnit → Prog (TpuEff nD τ sig (Elt F) Λ₀ .tc) α} :
    levAts L lv ⊢ iprop(ow c l -∗ draining c K V 15
      -∗ (ow c l ∗ semVal ((c : Thread nD τ), fetchS) 0 ∗ hold c kM Finset.univ K ∗ hold c vM Finset.univ V ∗ hold c kvM Finset.univ (kvOf c K V) -∗ wpk c (k ⟨⟩) Q)
        -∗ wpk c (.op (.waitDma2 (cc0_scratch9 : DmaSems sig S_).sem ((M.slice (Rect.unit (s := S4x1024x16x128) os S1x1024x1x128.size is) (fun _ => rfl)).squeeze S1024x128 squeezes_S1x1024x1x128_S1024x128)
            ((kvM.slice (Rect.unit (s := S2x4x2x1024x128) od S1x1x1x1024x128.size id) (fun _ => rfl)).squeeze S1024x128 squeezes_S1x1x1x1024x128_S1024x128)
            hsrc hdst) k) Q) := by
  unfold draining ow
  iintro #Hlev ⟨%W, HO⟩ ⟨HK, HV, HD, HB⟩ Hk
  iapply (Transfers.wp_waitBatchLastO EC 𝒱₀ (c : Thread nD τ) none (D := gotF c K V)
    (srcw := (M.slice (Rect.unit (s := S4x1024x16x128) os S1x1024x1x128.size is) (fun _ => rfl)).squeeze S1024x128 squeezes_S1x1024x1x128_S1024x128)
    (dstw := (kvM.slice (Rect.unit (s := S2x4x2x1024x128) od S1x1x1x1024x128.size id) (fun _ => rfl)).squeeze S1024x128 squeezes_S1x1x1x1024x128_S1024x128)
    (hsrc := hsrc) (hdst := hdst) (sem := (cc0_scratch9 : DmaSems sig S_).sem) false (N := NF) rfl NF_pos (u := 15 * NF)
    (by omega) (O := owed c l) (W := W)) $$ [HB HO]
  · isplitl [HB]; · iexact HB
    isplitl [HO]; · iexact HO
    iapply (local_wait c l); iexact Hlev
  iintro ⟨HG, Hz, HO⟩
  unfold holdAny
  icases HD with ⟨%G, HD⟩
  ihave HD := (hold_congr (G' := kvOf c K V) (fun x hx => by rw [leftD_none] at hx; exact absurd hx (Finset.notMem_empty _))) $$ HD
  ihave H := (gather_back c K V 0 (by omega)) $$ [HG HK HV HD]
  · rw [Transfers.pending_zero]
    isplitl [HG]; · iexact HG
    isplitl [HK]; · iexact HK
    isplitl [HV]; · iexact HV
    iexact HD
  rw [leftS_zero, leftS_zero, leftD_zero]
  icases H with ⟨HK, HV, HD⟩
  iapply Hk
  isplitl [HO]; · iexists _; iexact HO
  isplitl [Hz]; · iexact Hz
  isplitl [HK]; · iexact HK
  isplitl [HV]; · iexact HV
  iexact HD

/-- Before the first copy. -/
theorem fetch_ready (c : Dev nD) (K V : S4x1024x16x128.Idx → Elt F .f32) :
    iprop(semVal ((c : Thread nD τ), fetchS) 0 ∗ hold c kM Finset.univ K ∗ hold c vM Finset.univ V ∗ holdAny (F := F) c kvM Finset.univ)
      ⊢ (|={Set.univ}=> fetching c K V 0 : sProp 𝕄) := by
  iintro ⟨Hz, HK, HV, HD⟩
  imod (Transfers.batch_alloc' EC (c : Thread nD τ) (sm := fetchS) false NF (gotF c K V) (E := Set.univ)) $$ Hz with HB
  imodintro
  unfold fetching
  rw [leftS_zero, leftS_zero, leftD_zero]
  isplitl [HK]; · iexact HK
  isplitl [HV]; · iexact HV
  isplitl [HD]; · iexact HD
  iexact HB

end Cert.KernelIdealProof

end
-- ==== Proof.KernelIdeal.Glue.lean ====
/-
# Between the steps

How the rows and windows a step leaves are cut and put together for the next one.
-/
module

public import proofs.«01_k».proof.Proof.KernelIdeal.Steps
public import proofs.«01_k».proof.Proof.KernelIdeal.Fetch

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-! ## The landing buffer and its three windows -/

theorem slice_any {sp : Space} {s : Shape} {e : EltTy} {c : Dev nD} {M : Memref sig .tc sp s e} {r : Rect s} {hr} :
    (holdAny (F := F) c M r.set : sProp 𝕄) ⊢ holdAny (F := F) c (M.slice r hr) Finset.univ := by
  unfold holdAny
  iintro ⟨%G, H⟩
  ihave H := (Entails.of_eq (hold_slice_eq (hr := hr))) $$ H
  iexists _; iexact H

theorem any_slice {sp : Space} {s : Shape} {e : EltTy} {c : Dev nD} {M : Memref sig .tc sp s e} {r : Rect s} {hr} :
    (holdAny (F := F) c (M.slice r hr) Finset.univ : sProp 𝕄) ⊢ holdAny (F := F) c M r.set := by
  unfold holdAny hold
  iintro ⟨%G, ⟨%f, %hf, H⟩⟩
  iexists (M.view.read (Elt F) f)
  iexists f
  isplitr; · ipureintro; exact fun _ _ => rfl
  iapply (Entails.of_eq (congrArg (fun X => (M.view.loc (c : Thread nD τ) ↦[X]{fullShare} f : sProp 𝕄))
    ((View.setOn_univ _).trans (View.set_slice _ _) : (M.slice r hr).view.setOn Finset.univ = M.view.setOn r.set)))
  iexact H

theorem mem_landR {p t : Fin 3} {x : (RS p).Idx} : x ∈ (landR p t).set ↔ rstart t ≤ (x 0).val ∧ (x 0).val < rstart t + nt t := mem_rows

theorem lands_eq (p : Fin 3) : (Finset.univ : Finset (RS p).Idx) = (landR p 0).set ∪ ((landR p 1).set ∪ (landR p 2).set) := by
  ext x
  rw [Finset.mem_union, Finset.mem_union, mem_landR, mem_landR, mem_landR]
  have h : (x 0).val < 7 := (x 0).isLt
  refine ⟨fun _ => ?_, fun _ => Finset.mem_univ _⟩
  simp only [rstart, nt]
  omega
theorem lands_apart0 (p : Fin 3) : Disjoint (landR p 0).set ((landR p 1).set ∪ (landR p 2).set) :=
  Finset.disjoint_left.mpr fun x h1 h2 => by
    rw [Finset.mem_union, mem_landR, mem_landR] at h2
    rw [mem_landR] at h1
    simp only [rstart, nt] at h1 h2
    omega
theorem lands_apart1 (p : Fin 3) : Disjoint (landR p 1).set (landR p 2).set :=
  Finset.disjoint_left.mpr fun x h1 h2 => by
    rw [mem_landR] at h1 h2
    simp only [rstart, nt] at h1 h2
    omega

theorem lands_cut (c : Dev nD) (p : Fin 3) : (holdAny (F := F) c (rM p) Finset.univ : sProp 𝕄)
    ⊢ iprop(holdAny (F := F) c (landM p 0) Finset.univ ∗ holdAny (F := F) c (landM p 1) Finset.univ ∗ holdAny (F := F) c (landM p 2) Finset.univ) := by
  iintro H
  ihave H := (holdAny_take (lands_eq p) (lands_apart0 p)) $$ H
  icases H with ⟨H0, H⟩
  ihave H := (holdAny_take rfl (lands_apart1 p)) $$ H
  icases H with ⟨H1, H2⟩
  isplitl [H0]; · iapply slice_any; iexact H0
  isplitl [H1]; · iapply slice_any; iexact H1
  iapply slice_any; iexact H2
theorem lands_put (c : Dev nD) (p : Fin 3) :
    iprop(holdAny (F := F) c (landM p 0) Finset.univ ∗ holdAny (F := F) c (landM p 1) Finset.univ ∗ holdAny (F := F) c (landM p 2) Finset.univ)
      ⊢ (holdAny (F := F) c (rM p) Finset.univ : sProp 𝕄) := by
  iintro ⟨H0, H1, H2⟩
  ihave H0 := any_slice $$ H0
  ihave H1 := any_slice $$ H1
  ihave H2 := any_slice $$ H2
  iapply (Entails.of_eq (congrArg (fun S => (holdAny (F := F) c (rM p) S : sProp 𝕄)) (lands_eq p).symm))
  iapply (holdAny_join (lands_apart0 p))
  isplitl [H0]; · iexact H0
  iapply (holdAny_join (lands_apart1 p))
  isplitl [H1] <;> iassumption

/-! ## The windows a signal frees -/

theorem freed_at0 (e : Dev nD) : (freed (F := F) e 0 : sProp 𝕄)
    = iprop(holdAny (F := F) e (landM 0 0) Finset.univ ∗ holdAny (F := F) e (landM 1 2) Finset.univ ∗ holdAny (F := F) e (landM 2 1) Finset.univ) := rfl
theorem freed_at1 (e : Dev nD) : (freed (F := F) e 1 : sProp 𝕄)
    = iprop(holdAny (F := F) e (landM 0 1) Finset.univ ∗ holdAny (F := F) e (landM 1 0) Finset.univ ∗ holdAny (F := F) e (landM 2 2) Finset.univ) := rfl
theorem freed_at2 (e : Dev nD) : (freed (F := F) e 2 : sProp 𝕄)
    = iprop(holdAny (F := F) e (landM 0 2) Finset.univ ∗ holdAny (F := F) e (landM 1 1) Finset.univ ∗ holdAny (F := F) e (landM 2 0) Finset.univ) := rfl

/-- A neighbour's landing window of part `p` for step `t`. -/
def there (c : Dev nD) (p t : Fin 3) : sProp 𝕄 := holdAny (F := F) (par (ord p t) c) (landM p t) Finset.univ

theorem there_of (c : Dev nD) {p t a : Fin 3} (h : ord p t = a) : (holdAny (F := F) (par a c) (landM p t) Finset.univ : sProp 𝕄) ⊢ there (F := F) c p t := by
  subst h; exact .rfl

/-- The three landing buffers free a window for each neighbour; -/
theorem free_all (c : Dev nD) :
    iprop(holdAny (F := F) c (rM 0) Finset.univ ∗ holdAny (F := F) c (rM 1) Finset.univ ∗ holdAny (F := F) c (rM 2) Finset.univ)
      ⊢ (iprop(freed (F := F) c 0 ∗ freed (F := F) c 1 ∗ freed (F := F) c 2) : sProp 𝕄) := by
  rw [freed_at0, freed_at1, freed_at2]
  iintro ⟨H0, H1, H2⟩
  ihave H0 := (lands_cut c 0) $$ H0
  ihave H1 := (lands_cut c 1) $$ H1
  ihave H2 := (lands_cut c 2) $$ H2
  icases H0 with ⟨H00, H01, H02⟩
  icases H1 with ⟨H10, H11, H12⟩
  icases H2 with ⟨H20, H21, H22⟩
  isplitl [H00 H12 H21]
  · isplitl [H00]; · iexact H00
    isplitl [H12] <;> iassumption
  isplitl [H01 H10 H22]
  · isplitl [H01]; · iexact H01
    isplitl [H10] <;> iassumption
  isplitl [H02]; · iexact H02
  isplitl [H11] <;> iassumption

/-- and the neighbours' signals bring theirs, one for each part and step. -/
theorem freed_there (c : Dev nD) :
    (iprop(freed (F := F) (par 0 c) 0 ∗ freed (F := F) (par 1 c) 1 ∗ freed (F := F) (par 2 c) 2) : sProp 𝕄)
      ⊢ iprop((there (F := F) c 0 0 ∗ there (F := F) c 1 0 ∗ there (F := F) c 2 0) ∗ (there (F := F) c 0 1 ∗ there (F := F) c 1 1 ∗ there (F := F) c 2 1)
          ∗ (there (F := F) c 0 2 ∗ there (F := F) c 1 2 ∗ there (F := F) c 2 2)) := by
  rw [freed_at0, freed_at1, freed_at2]
  iintro ⟨⟨H00, H12, H21⟩, ⟨H01, H10, H22⟩, ⟨H02, H11, H20⟩⟩
  isplitl [H00 H10 H20]
  · isplitl [H00]; · iapply (there_of c (by rfl)); iexact H00
    isplitl [H10]; · iapply (there_of c (by rfl)); iexact H10
    iapply (there_of c (by rfl)); iexact H20
  isplitl [H01 H11 H21]
  · isplitl [H01]; · iapply (there_of c (by rfl)); iexact H01
    isplitl [H11]; · iapply (there_of c (by rfl)); iexact H11
    iapply (there_of c (by rfl)); iexact H21
  isplitl [H02]; · iapply (there_of c (by rfl)); iexact H02
  isplitl [H12]; · iapply (there_of c (by rfl)); iexact H12
  iapply (there_of c (by rfl)); iexact H22

/-! ## From step to step, part by part -/

variable (W0 : (p : Fin 3) → Dev nD → (WS p).Idx → Elt F .bf16)

/-- What a step of the reduce-scatter leaves aside: the neighbour's rows the gather will write. -/
def aside (c : Dev nD) (p t : Fin 3) : sProp 𝕄 := holdAny (F := F) (par (ord p t) c) (wM p) (keepR p t c).set
/-- What it is done with: its semaphores at zero and its landing window. -/
def spent (c : Dev nD) (p t : Fin 3) : sProp 𝕄 := iprop(zero2 c false p t ∗ holdAny (F := F) c (landM p t) Finset.univ)

theorem into_first (c : Dev nD) (p : Fin 3) :
    iprop(ready c false p 0 ∗ hold c (wM p) Finset.univ (W0 p c) ∗ there (F := F) c p 0) ⊢ (rsIn W0 c p 0 : sProp 𝕄) := by
  unfold rsIn there
  iintro ⟨Hr, Hw, Hl⟩
  ihave Hw := (hold_take (univ_eq p c) (keep_send_disjoint p 0 c)) $$ Hw
  icases Hw with ⟨Hk, Hs⟩
  isplitl [Hr]; · iexact Hr
  isplitl [Hs]; · iexact Hs
  isplitl [Hk]; · iexact Hk
  iexact Hl

theorem into_second (c : Dev nD) (p : Fin 3) :
    iprop(rsOut W0 c p 0 ∗ ready c false p 1 ∗ there (F := F) c p 1) ⊢ (iprop(rsIn W0 c p 1 ∗ aside (F := F) c p 0 ∗ spent (F := F) c p 0) : sProp 𝕄) := by
  unfold rsIn rsOut there aside spent
  iintro ⟨⟨Hz, Hw, Ha, Hd⟩, Hr, Hl⟩
  ihave Hw := (hold_take (keep0_eq p c) (keep_send_disjoint p 1 c)) $$ Hw
  icases Hw with ⟨Hk, Hs⟩
  isplitl [Hr Hs Hk Hl]
  · isplitl [Hr]; · iexact Hr
    isplitl [Hs]; · iexact Hs
    isplitl [Hk]; · iexact Hk
    iexact Hl
  isplitl [Ha]; · iexact Ha
  isplitl [Hz] <;> iassumption

theorem into_third (c : Dev nD) (p : Fin 3) :
    iprop(rsOut W0 c p 1 ∗ ready c false p 2 ∗ there (F := F) c p 2) ⊢ (iprop(rsIn W0 c p 2 ∗ aside (F := F) c p 1 ∗ spent (F := F) c p 1) : sProp 𝕄) := by
  unfold rsIn rsOut there aside spent
  iintro ⟨⟨Hz, Hw, Ha, Hd⟩, Hr, Hl⟩
  ihave Hw := (hold_take (keep1_eq p c) (keep_send_disjoint p 2 c)) $$ Hw
  icases Hw with ⟨Hk, Hs⟩
  isplitl [Hr Hs Hk Hl]
  · isplitl [Hr]; · iexact Hr
    isplitl [Hs]; · iexact Hs
    isplitl [Hk]; · iexact Hk
    iexact Hl
  isplitl [Ha]; · iexact Ha
  isplitl [Hz] <;> iassumption

theorem into_gather2 (c : Dev nD) (p : Fin 3) :
    iprop(rsOut W0 c p 2 ∗ ready c true p 2) ⊢ (iprop(agIn W0 c p 2 ∗ spent (F := F) c p 2) : sProp 𝕄) := by
  unfold agIn rsOut spent
  iintro ⟨⟨Hz, Hw, Ha, Hd⟩, Hr⟩
  ihave Hw := (hold_congr (G := Wt W0 ((2 : Fin 3).val + 1) p c) (G' := Final W0 p) (final_of_kept W0 p c)) $$ Hw
  isplitl [Hr Hw Ha]
  · isplitl [Hr]; · iexact Hr
    isplitl [Hw]; · iexact Hw
    iexact Ha
  isplitl [Hz] <;> iassumption

theorem into_gather1 (c : Dev nD) (p : Fin 3) :
    iprop(agOut W0 c p 2 ∗ ready c true p 1 ∗ aside (F := F) c p 1) ⊢ (iprop(agIn W0 c p 1 ∗ zero2 c true p 2) : sProp 𝕄) := by
  unfold agIn agOut aside
  iintro ⟨⟨Hz, Hk, Hs⟩, Hr, Ha⟩
  isplitr [Hz]
  · isplitl [Hr]; · iexact Hr
    isplitl [Hk Hs]
    · iapply (hold_put (keep1_eq p c) (keep_send_disjoint p 2 c))
      isplitl [Hk] <;> iassumption
    iexact Ha
  iexact Hz

theorem into_gather0 (c : Dev nD) (p : Fin 3) :
    iprop(agOut W0 c p 1 ∗ ready c true p 0 ∗ aside (F := F) c p 0) ⊢ (iprop(agIn W0 c p 0 ∗ zero2 c true p 1) : sProp 𝕄) := by
  unfold agIn agOut aside
  iintro ⟨⟨Hz, Hk, Hs⟩, Hr, Ha⟩
  isplitr [Hz]
  · isplitl [Hr]; · iexact Hr
    isplitl [Hk Hs]
    · iapply (hold_put (keep0_eq p c) (keep_send_disjoint p 1 c))
      isplitl [Hk] <;> iassumption
    iexact Ha
  iexact Hz

theorem gathered (c : Dev nD) (p : Fin 3) :
    (agOut W0 c p 0 : sProp 𝕄) ⊢ iprop(hold c (wM p) Finset.univ (Final W0 p) ∗ zero2 c true p 0) := by
  unfold agOut
  iintro ⟨Hz, Hk, Hs⟩
  isplitr [Hz]
  · iapply (hold_put (univ_eq p c) (keep_send_disjoint p 0 c))
    isplitl [Hk] <;> iassumption
  iexact Hz

/-- A part's semaphores, and its landing buffer, at the end. -/
def ended (c : Dev nD) (p : Fin 3) : sProp 𝕄 :=
  iprop((zero2 (F := F) c false p 0 ∗ zero2 (F := F) c false p 1 ∗ zero2 (F := F) c false p 2 ∗ zero2 (F := F) c true p 0 ∗ zero2 (F := F) c true p 1 ∗ zero2 (F := F) c true p 2)
    ∗ holdAny (F := F) c (rM p) Finset.univ)

theorem end_all (c : Dev nD) (p : Fin 3) :
    (iprop(spent (F := F) c p 0 ∗ spent (F := F) c p 1 ∗ spent (F := F) c p 2 ∗ zero2 c true p 0 ∗ zero2 c true p 1 ∗ zero2 c true p 2) : sProp 𝕄) ⊢ ended c p := by
  unfold spent ended
  iintro ⟨⟨Hz0, H0⟩, ⟨Hz1, H1⟩, ⟨Hz2, H2⟩, Hy0, Hy1, Hy2⟩
  isplitr [H0 H1 H2]
  · isplitl [Hz0]; · iexact Hz0
    isplitl [Hz1]; · iexact Hz1
    isplitl [Hz2]; · iexact Hz2
    isplitl [Hy0]; · iexact Hy0
    isplitl [Hy1] <;> iassumption
  iapply (lands_put c p)
  isplitl [H0]; · iexact H0
  isplitl [H1] <;> iassumption

end Cert.KernelIdealProof

end
-- ==== Proof.KernelIdeal.Compute.lean ====
/-
# The device's own arithmetic

The queries, the thirty-two heads that overwrite them with their attention outputs one block at a time, the partial
product, its copies into the working buffers, and the writes of the output.
-/
module

public import proofs.«01_k».proof.Proof.KernelIdeal.Fetch

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-! ## Whole buffers -/

theorem unit_whole_emb {s : Shape} {o : Fin s.rank → ℕ} {h} (ho : ∀ a, o a = 0) (x : s.Idx) :
    (Rect.unit (s := s) o s.size h).emb x = x := by
  funext a
  refine Fin.ext ?_
  show o a + 1 * (x a).val = (x a).val
  rw [ho, Nat.zero_add, Nat.one_mul]

/-- A load of a whole buffer reads its contents. -/
theorem load_whole {α : Type} {Q : α → sProp 𝕄} {c : Dev nD} {cs : CoreSpace} {s : Shape} {e : EltTy} {M : Memref sig .tc cs s e} {G : s.Idx → Elt F e}
    {o : Fin s.rank → ℕ} {h} (ho : ∀ a, o a = 0)
    {hl : M.view.LoadsAt (Rect.unit (s := s) o s.size h).toLoadRect} {k : (s.Idx → Elt F e) → Prog (TpuEff nD τ sig (Elt F) Λ₀ .tc) α} :
    (hold c M Finset.univ G : sProp 𝕄)
      ⊢ iprop((hold c M Finset.univ G -∗ wpk c (k G) Q) -∗ wpk c (.op (.load M (Rect.unit (s := s) o s.size h).toLoadRect hl) k) Q) := by
  have hg : (fun x => G ((Rect.unit (s := s) o s.size h).emb x)) = G := funext fun x => congrArg G (unit_whole_emb ho x)
  have h0 := hold_load (c := c) (Q := Q) (M := M) (G := G) (k := k) (hl := hl) (r := Rect.unit (s := s) o s.size h) (Finset.subset_univ _)
  rwa [hg] at h0

/-- A store over a whole buffer leaves what was stored. -/
theorem store_whole {α : Type} {Q : α → sProp 𝕄} {c : Dev nD} {cs : CoreSpace} {s : Shape} {e : EltTy} {M : Memref sig .tc cs s e}
    {o : Fin s.rank → ℕ} {h} (ho : ∀ a, o a = 0)
    {w : s.Idx → Elt F e} {hx} {hm} {k : PUnit → Prog (TpuEff nD τ sig (Elt F) Λ₀ .tc) α} :
    (holdAny c M Finset.univ : sProp 𝕄)
      ⊢ iprop((hold c M Finset.univ w -∗ wpk c (k ⟨⟩) Q) -∗ wpk c (.op (.store M (Rect.unit (s := s) o s.size h) w Finset.univ hx hm) k) Q) := by
  unfold holdAny
  iintro ⟨%G, H⟩ Hk
  iapply (hold_store (M := M) (r := Rect.unit (s := s) o s.size h) (Finset.subset_univ _) w
    (fun x => congrArg w (unit_whole_emb ho x).symm) (fun x _ hx => absurd ((Rect.mem_set_unit).mpr fun a => ?_) hx)) $$ H
  · rw [ho a]; exact ⟨Nat.zero_le _, by rw [Nat.zero_add]; exact (x a).isLt⟩
  iexact Hk

/-- A load whose value is dropped. -/
theorem load_any {α : Type} {Q : α → sProp 𝕄} {c : Dev nD} {cs : CoreSpace} {s : Shape} {e : EltTy} {M : Memref sig .tc cs s e}
    {r : Rect s} {hl : M.view.LoadsAt r.toLoadRect} {k : Prog (TpuEff nD τ sig (Elt F) Λ₀ .tc) α} :
    (holdAny c M Finset.univ : sProp 𝕄)
      ⊢ iprop((holdAny c M Finset.univ -∗ wpk c k Q) -∗ wpk c (.op (.load M r.toLoadRect hl) fun _ => k) Q) := by
  unfold holdAny
  iintro ⟨%G, H⟩ Hk
  iapply (hold_load (M := M) (r := r) (k := fun _ => k) (Finset.subset_univ _)) $$ H
  iintro H
  iapply Hk
  iexists G; iexact H

/-! ## The heads -/

/-- A fetched block, as the kernel reads it. -/
def kvB (c : Dev nD) (K V : S4x1024x16x128.Idx → Elt F .f32) (t : Fin 16) : S1x1x1x1024x128.Idx → Elt F .f32 :=
  fun x => kvOf c K V ((kvR t).emb x)

/-- Reading block `t`. -/
theorem ev_kv {α : Type} {Q : α → sProp 𝕄} (c : Dev nD) (K V : S4x1024x16x128.Idx → Elt F .f32) (t : Fin 16)
    {o : Fin 5 → ℕ} {h} (ho : o = ![t.val % 2, t.val / 4, t.val / 2 % 2, 0, 0])
    {hl : kvM.view.LoadsAt (Rect.unit (s := S2x4x2x1024x128) o S1x1x1x1024x128.size h).toLoadRect}
    {k : (S1x1x1x1024x128.Idx → Elt F .f32) → Prog (TpuEff nD τ sig (Elt F) Λ₀ .tc) α} :
    (hold c kvM Finset.univ (kvOf c K V) : sProp 𝕄)
      ⊢ iprop((hold c kvM Finset.univ (kvOf c K V) -∗ wpk c (k (kvB c K V t)) Q)
        -∗ wpk c (.op (.load kvM (Rect.unit (s := S2x4x2x1024x128) o S1x1x1x1024x128.size h).toLoadRect hl) k) Q) := by
  subst ho
  exact hold_load (M := kvM) (k := k) (r := kvR t) (Finset.subset_univ _)

theorem inb_q (n : Fin 32) (a : Fin 2) : (![256 * (n.val / 8), 128 * (n.val % 8)] : Fin 2 → ℕ) a + S256x128.size a ≤ S1024x1024.size a := by
  revert n a; decide
/-- The block of the queries of head `n` (eight heads to a batch entry). -/
abbrev qR (n : Fin 32) : Rect S1024x1024 := Rect.unit (s := S1024x1024) ![256 * (n.val / 8), 128 * (n.val % 8)] S256x128.size (inb_q n)

/-- The number of the block an element lies in, and its place there. -/
def blk (x : S1024x1024.Idx) : ℕ := 8 * ((x 0).val / 256) + (x 1).val / 128
theorem blk_lt (x : S1024x1024.Idx) : blk x < 32 := by
  have h0 : (x 0).val < 1024 := (x 0).isLt
  have h1 : (x 1).val < 1024 := (x 1).isLt
  unfold blk; omega
def inBlk (x : S1024x1024.Idx) : S256x128.Idx :=
  ix2 (⟨(x 0).val % 256, Nat.mod_lt _ (by omega)⟩ : Fin 256) (⟨(x 1).val % 128, Nat.mod_lt _ (by omega)⟩ : Fin 128)

theorem mem_qR {n : Fin 32} {x : S1024x1024.Idx} : x ∈ (qR n).set ↔ blk x = n.val := by
  rw [Rect.mem_set_unit]
  have hn := n.isLt
  have h0 : (x 0).val < 1024 := (x 0).isLt
  have h1 : (x 1).val < 1024 := (x 1).isLt
  unfold blk
  constructor
  · intro h
    have h0 := h 0
    have h1 := h 1
    simp at h0 h1
    omega
  · intro h a
    fin_cases a <;> simp <;> omega

theorem inBlk_emb (n : Fin 32) (x : (qR n).shape.Idx) : inBlk ((qR n).emb x) = x := by
  have h0 : (x 0).val < 256 := (x 0).isLt
  have h1 : (x 1).val < 128 := (x 1).isLt
  have e0 : (((qR n).emb x) 0).val = 256 * (n.val / 8) + 1 * (x 0).val := rfl
  have e1 : (((qR n).emb x) 1).val = 128 * (n.val % 8) + 1 * (x 1).val := rfl
  funext a
  refine Fin.ext ?_
  fin_cases a
  · show (((qR n).emb x) 0).val % 256 = (x 0).val
    omega
  · show (((qR n).emb x) 1).val % 128 = (x 1).val
    omega

/-- What head `n` writes: its attention output over its queries. -/
def headV (c : Dev nD) (K V : S4x1024x16x128.Idx → Elt F .f32) (Q0 : S1024x1024.Idx → Elt F .bf16) (n : Fin 32) : S256x128.Idx → Elt F .bf16 :=
  k0_pay7 (k0_pay3 (kvB c K V ⟨2 * (n.val / 4), by have := n.isLt; omega⟩))
    (k0_pay4 (kvB c K V ⟨2 * (n.val / 4) + 1, by have := n.isLt; omega⟩)) (fun x => Q0 ((qR n).emb x))

/-- The attention output. -/
def Att (c : Dev nD) (K V : S4x1024x16x128.Idx → Elt F .f32) (Q0 : S1024x1024.Idx → Elt F .bf16) (x : S1024x1024.Idx) : Elt F .bf16 :=
  headV c K V Q0 ⟨blk x, blk_lt x⟩ (inBlk x)

/-- The buffer after `n` heads. -/
def Qst (c : Dev nD) (K V : S4x1024x16x128.Idx → Elt F .f32) (Q0 : S1024x1024.Idx → Elt F .bf16) (n : ℕ) (x : S1024x1024.Idx) : Elt F .bf16 :=
  if blk x < n then Att c K V Q0 x else Q0 x

theorem Qst_zero (c : Dev nD) (K V : S4x1024x16x128.Idx → Elt F .f32) (Q0 : S1024x1024.Idx → Elt F .bf16) : Qst c K V Q0 0 = Q0 :=
  funext fun x => if_neg (Nat.not_lt_zero _)
theorem Qst_all (c : Dev nD) (K V : S4x1024x16x128.Idx → Elt F .f32) (Q0 : S1024x1024.Idx → Elt F .bf16) : Qst c K V Q0 32 = Att c K V Q0 :=
  funext fun x => if_pos (blk_lt x)

/-- Head `n`: its queries are read, and its output stored over them. -/
theorem ev_head {α : Type} {Q : α → sProp 𝕄} (c : Dev nD) (K V : S4x1024x16x128.Idx → Elt F .f32) (Q0 : S1024x1024.Idx → Elt F .bf16) (n : Fin 32)
    {o : Fin 2 → ℕ} {h h' h''} (ho : o = ![256 * (n.val / 8), 128 * (n.val % 8)])
    {hl hl' hx hm} {pl : (S256x128.Idx → Elt F .bf16) → S256x128.Idx → Elt F .bf16}
    (hpl : ∀ v, pl v = k0_pay7 (k0_pay3 (kvB c K V ⟨2 * (n.val / 4), by have := n.isLt; omega⟩))
      (k0_pay4 (kvB c K V ⟨2 * (n.val / 4) + 1, by have := n.isLt; omega⟩)) v)
    {k : PUnit → Prog (TpuEff nD τ sig (Elt F) Λ₀ .tc) α} :
    (hold c qM Finset.univ (Qst c K V Q0 n.val) : sProp 𝕄)
      ⊢ iprop((hold c qM Finset.univ (Qst c K V Q0 (n.val + 1)) -∗ wpk c (k ⟨⟩) Q)
        -∗ wpk c (.op (.load qM (Rect.unit (s := S1024x1024) o S256x128.size h).toLoadRect hl) fun v =>
            .op (.load qM (Rect.unit (s := S1024x1024) o S256x128.size h').toLoadRect hl') fun _ =>
            .op (.store qM (Rect.unit (s := S1024x1024) o S256x128.size h'') (pl v) Finset.univ hx hm) k) Q) := by
  subst ho
  iintro H Hk
  iapply (hold_load (M := qM) (r := qR n) (Finset.subset_univ _)) $$ H
  iintro H
  iapply (hold_load (M := qM) (r := qR n) (Finset.subset_univ _)) $$ H
  iintro H
  iapply (hold_store (M := qM) (r := qR n) (Finset.subset_univ _) (Qst c K V Q0 (n.val + 1)) ?_ ?_) $$ H
  · intro x
    have hb : blk ((qR n).emb x) = n.val := mem_qR.mp ((qR n).idx_mem x)
    have hn : (⟨blk ((qR n).emb x), blk_lt _⟩ : Fin 32) = n := Fin.ext hb
    unfold Qst Att
    rw [if_pos (by omega), hn, inBlk_emb, hpl]
    unfold headV
    refine congrFun (congrArg _ (funext fun y => if_neg ?_)) x
    have hy : blk ((qR n).emb y) = n.val := mem_qR.mp ((qR n).idx_mem y)
    rw [hy]; exact Nat.lt_irrefl _
  · intro x _ hx
    have hb : blk x ≠ n.val := fun h => hx (mem_qR.mpr h)
    unfold Qst
    by_cases h : blk x < n.val
    · rw [if_pos h, if_pos (by omega)]
    · rw [if_neg h, if_neg (by omega)]
  iexact Hk

/-! ## The working buffers' first contents -/

/-- The first column of part `p`. -/
def colo : Fin 3 → ℕ | 0 => 0 | 1 => 384 | 2 => 768
theorem colo_le (p : Fin 3) : colo p + cw p ≤ 1024 := by revert p; decide

/-- Where row chunk `m` of part `p` lies in its working buffer, and which chunk lies at a place. -/
def slotOf (p : Fin 3) (m : Fin 8) : Fin 8 :=
  (![![0, 1, 2, 3, 4, 5, 6, 7], ![0, 2, 4, 6, 1, 3, 5, 7], ![0, 4, 1, 5, 2, 6, 3, 7]] : Fin 3 → Fin 8 → Fin 8) p m
def chunkOf (p : Fin 3) (m : Fin 8) : Fin 8 :=
  (![![0, 1, 2, 3, 4, 5, 6, 7], ![0, 4, 1, 5, 2, 6, 3, 7], ![0, 2, 4, 6, 1, 3, 5, 7]] : Fin 3 → Fin 8 → Fin 8) p m
theorem chunk_slot (p : Fin 3) (m : Fin 8) : chunkOf p (slotOf p m) = m := by revert p m; decide
theorem slot_chunk (p : Fin 3) (m : Fin 8) : slotOf p (chunkOf p m) = m := by revert p m; decide

/-- Part `p` of the partial product, in the order of its working buffer. -/
def W0of (PP : Dev nD → S8x128x1024.Idx → Elt F .bf16) (p : Fin 3) (c : Dev nD) (x : (WS p).Idx) : Elt F .bf16 :=
  PP c (ix3 (chunkOf p (x 0)) (⟨(x 1).val, (x 1).isLt⟩ : Fin 128)
    (⟨colo p + (x 2).val, by have h : (x 2).val < cw p := (x 2).isLt; have := colo_le p; omega⟩ : Fin 1024))

/-- The working buffer of part `p` after `m` chunks. -/
def Wst (PP : Dev nD → S8x128x1024.Idx → Elt F .bf16) (p : Fin 3) (c : Dev nD) (G0 : (WS p).Idx → Elt F .bf16) (m : ℕ) (x : (WS p).Idx) : Elt F .bf16 :=
  if (chunkOf p (x 0)).val < m then W0of PP p c x else G0 x

/-- The working buffer while it is filled. -/
def filling (PP : Dev nD → S8x128x1024.Idx → Elt F .bf16) (p : Fin 3) (c : Dev nD) (m : ℕ) : sProp 𝕄 :=
  iprop(∃ G0, hold c (wM p) Finset.univ (Wst PP p c G0 m))

theorem fill_start (PP : Dev nD → S8x128x1024.Idx → Elt F .bf16) (p : Fin 3) (c : Dev nD) :
    (holdAny c (wM p) Finset.univ : sProp 𝕄) ⊢ filling PP p c 0 := by
  unfold holdAny filling
  iintro ⟨%G, H⟩
  iexists G
  iapply (hold_congr (fun x _ => (if_neg (Nat.not_lt_zero _)).symm)) $$ H
theorem fill_end (PP : Dev nD → S8x128x1024.Idx → Elt F .bf16) (p : Fin 3) (c : Dev nD) :
    (filling PP p c 8 : sProp 𝕄) ⊢ hold c (wM p) Finset.univ (W0of PP p c) := by
  unfold filling
  iintro ⟨%G, H⟩
  iapply (hold_congr (fun x _ => if_pos (chunkOf p (x 0)).isLt)) $$ H

theorem inb_pp (p : Fin 3) (m : Fin 8) (a : Fin 3) :
    (![m.val, 0, colo p] : Fin 3 → ℕ) a + (![1, 128, cw p] : Fin 3 → ℕ) a ≤ S8x128x1024.size a := by revert p m a; decide
theorem inb_slot (p : Fin 3) (m : Fin 8) (a : Fin 3) :
    (![m.val, 0, 0] : Fin 3 → ℕ) a + (![1, 128, cw p] : Fin 3 → ℕ) a ≤ (WS p).size a := by revert p m a; decide

theorem ix3_ext {a b d : ℕ} {x y : (⟨3, ![a, b, d]⟩ : Shape).Idx} (h0 : (x 0).val = (y 0).val) (h1 : (x 1).val = (y 1).val) (h2 : (x 2).val = (y 2).val) : x = y := by
  funext i
  refine Fin.ext ?_
  fin_cases i
  · exact h0
  · exact h1
  · exact h2

/-- Chunk `m` of part `p` is copied into the working buffer. -/
theorem ev_copy {α : Type} {Q : α → sProp 𝕄} (PP : Dev nD → S8x128x1024.Idx → Elt F .bf16) (c : Dev nD) (p : Fin 3) (m : Fin 8)
    {op : Fin 3 → ℕ} {ow : Fin 3 → ℕ} {h h' h''} (hop : op = ![m.val, 0, colo p]) (how : ow = ![(slotOf p m).val, 0, 0])
    {hl hl' hx hm} {pl : ((⟨3, ![1, 128, cw p]⟩ : Shape).Idx → Elt F .bf16) → (⟨3, ![1, 128, cw p]⟩ : Shape).Idx → Elt F .bf16}
    (hpl : ∀ v, pl v = v)
    {k : PUnit → Prog (TpuEff nD τ sig (Elt F) Λ₀ .tc) α} :
    (hold c ppM Finset.univ (PP c) : sProp 𝕄)
      ⊢ iprop(filling PP p c m.val -∗ (hold c ppM Finset.univ (PP c) -∗ filling PP p c (m.val + 1) -∗ wpk c (k ⟨⟩) Q)
        -∗ wpk c (.op (.load ppM (Rect.unit (s := S8x128x1024) op ![1, 128, cw p] h).toLoadRect hl) fun v =>
            .op (.load (wM p) (Rect.unit (s := WS p) ow ![1, 128, cw p] h').toLoadRect hl') fun _ =>
            .op (.store (wM p) (Rect.unit (s := WS p) ow ![1, 128, cw p] h'') (pl v) Finset.univ hx hm) k) Q) := by
  subst hop; subst how
  unfold filling
  iintro Hp ⟨%G0, H⟩ Hk
  iapply (hold_load (M := ppM) (r := Rect.unit (s := S8x128x1024) ![m.val, 0, colo p] ![1, 128, cw p] h) (Finset.subset_univ _)) $$ Hp
  iintro Hp
  iapply (hold_load (M := wM p) (r := Rect.unit (s := WS p) ![(slotOf p m).val, 0, 0] ![1, 128, cw p] h') (Finset.subset_univ _)) $$ H
  iintro H
  iapply (hold_store (M := wM p) (r := Rect.unit (s := WS p) ![(slotOf p m).val, 0, 0] ![1, 128, cw p] h'') (Finset.subset_univ _) (Wst PP p c G0 (m.val + 1)) ?_ ?_) $$ H
  · intro x
    have hx0 : (x 0).val = 0 := Nat.lt_one_iff.mp (x 0).isLt
    have e0 : ((Rect.unit (s := WS p) ![(slotOf p m).val, 0, 0] ![1, 128, cw p] h'').emb x) 0 = slotOf p m := Fin.ext (by
      show (slotOf p m).val + 1 * (x 0).val = _
      omega)
    rw [hpl]
    unfold Wst
    rw [e0, chunk_slot, if_pos (Nat.lt_succ_self _)]
    unfold W0of
    rw [e0, chunk_slot]
    refine congrArg (PP c) (ix3_ext ?_ ?_ ?_)
    · show m.val + 1 * (x 0).val = m.val
      omega
    · show 0 + 1 * (x 1).val = 0 + 1 * (x 1).val
      rfl
    · show colo p + 1 * (x 2).val = colo p + (0 + 1 * (x 2).val)
      omega
  · intro x _ hx
    have hne : chunkOf p (x 0) ≠ m := fun h => hx (mem_rows.mpr (by
      have e : x 0 = slotOf p m := (slot_chunk p (x 0)).symm.trans (congrArg (slotOf p) h)
      have e' : (x 0).val = (slotOf p m).val := congrArg Fin.val e
      omega))
    have hne' : (chunkOf p (x 0)).val ≠ m.val := fun h => hne (Fin.ext h)
    unfold Wst
    by_cases h : (chunkOf p (x 0)).val < m.val
    · rw [if_pos h, if_pos (by omega)]
    · rw [if_neg h, if_neg (by omega)]
  iintro H
  iapply Hk $$ Hp
  iexists G0; iexact H

/-! ## The output -/

/-- The part a column belongs to. -/
def partOf (j : ℕ) : Fin 3 := if j < 384 then 0 else if j < 768 then 1 else 2
theorem partOf_of {p : Fin 3} {j : ℕ} (h : colo p ≤ j) (h' : j < colo p + cw p) : partOf j = p := by
  unfold partOf
  fin_cases p
  · rw [if_pos (by simpa [colo, cw] using h')]; rfl
  · rw [if_neg (by simpa [colo, cw] using h), if_pos (by simpa [colo, cw] using h')]; rfl
  · simp only [colo, cw] at h h'
    rw [if_neg (by omega), if_neg (by omega)]; rfl
theorem partOf_spec {j : ℕ} (hj : j < 1024) : colo (partOf j) ≤ j ∧ j < colo (partOf j) + cw (partOf j) := by
  unfold partOf
  split
  · exact ⟨Nat.zero_le _, by simpa [colo, cw]⟩
  · split
    · show 384 ≤ j ∧ j < 384 + 384
      omega
    · show 768 ≤ j ∧ j < 768 + 256
      omega

/-- The row chunk of an output element, and its number in the order of the writes. -/
def ochunk (x : S4x256x1024.Idx) : Fin 8 :=
  ⟨2 * (x 0).val + (x 1).val / 128, by
    have h0 : (x 0).val < 4 := (x 0).isLt
    have h1 : (x 1).val < 256 := (x 1).isLt
    omega⟩
def onum (x : S4x256x1024.Idx) : ℕ := 8 * (partOf (x 2).val).val + (ochunk x).val

theorem onum_lt (x : S4x256x1024.Idx) : onum x < 24 := by
  have h := (partOf (x 2).val).isLt
  have h' := (ochunk x).isLt
  unfold onum; omega

section Out
variable (W0 : (p : Fin 3) → Dev nD → (WS p).Idx → Elt F .bf16)

/-- The output: the full sums, put back in the order of the rows and widened. -/
def Out (x : S4x256x1024.Idx) : Elt F .f32 :=
  FloatOps.extf .f32 bitsLt_bf16_f32 (Final W0 (partOf (x 2).val)
    (ix3 (slotOf (partOf (x 2).val) (ochunk x)) (⟨(x 1).val % 128, Nat.mod_lt _ (by omega)⟩ : Fin 128)
      (⟨(x 2).val - colo (partOf (x 2).val), by
        have h2 : (x 2).val < 1024 := (x 2).isLt
        have := partOf_spec h2
        omega⟩ : Fin (cw (partOf (x 2).val)))))

theorem Out_eq {p : Fin 3} {x : S4x256x1024.Idx} (hp : partOf (x 2).val = p) (z : (WS p).Idx) (h0 : (z 0).val = (slotOf p (ochunk x)).val)
    (h1 : (z 1).val = (x 1).val % 128) (h2 : (z 2).val = (x 2).val - colo p) :
    Out W0 x = FloatOps.extf .f32 bitsLt_bf16_f32 (Final W0 p z) := by
  subst hp
  unfold Out
  exact congrArg (fun y => FloatOps.extf .f32 bitsLt_bf16_f32 (Final W0 _ y)) (ix3_ext h0.symm h1.symm h2.symm)

/-- The output buffer after `n` writes. -/
def Ost (O0 : S4x256x1024.Idx → Elt F .f32) (n : ℕ) (x : S4x256x1024.Idx) : Elt F .f32 := if onum x < n then Out W0 x else O0 x

def writing (c : Dev nD) (n : ℕ) : sProp 𝕄 := iprop(∃ O0, hold c oM Finset.univ (Ost W0 O0 n))

theorem write_start (c : Dev nD) : (holdAny c oM Finset.univ : sProp 𝕄) ⊢ writing W0 c 0 := by
  unfold holdAny writing
  iintro ⟨%G, H⟩
  iexists G
  iapply (hold_congr (fun x _ => (if_neg (Nat.not_lt_zero _)).symm)) $$ H
theorem write_end (c : Dev nD) : (writing W0 c 24 : sProp 𝕄) ⊢ hold c oM Finset.univ (Out W0) := by
  unfold writing
  iintro ⟨%G, H⟩
  iapply (hold_congr (G := Ost W0 G 24) (G' := Out W0) (fun x _ => if_pos (onum_lt x))) $$ H

theorem inb_out (p : Fin 3) (m : Fin 8) (a : Fin 3) :
    (![m.val / 2, 128 * (m.val % 2), colo p] : Fin 3 → ℕ) a + (![1, 128, cw p] : Fin 3 → ℕ) a ≤ S4x256x1024.size a := by revert p m a; decide

theorem mem_out {p : Fin 3} {m : Fin 8} {h} {x : S4x256x1024.Idx} :
    x ∈ (Rect.unit (s := S4x256x1024) ![m.val / 2, 128 * (m.val % 2), colo p] ![1, 128, cw p] h).set ↔ onum x = 8 * p.val + m.val := by
  have h0 : (x 0).val < 4 := (x 0).isLt
  have h1 : (x 1).val < 256 := (x 1).isLt
  have h2 : (x 2).val < 1024 := (x 2).isLt
  have hm := m.isLt
  rw [Rect.mem_set_unit]
  unfold onum
  have ho : (ochunk x).val = 2 * (x 0).val + (x 1).val / 128 := rfl
  constructor
  · intro h
    have e0 := h 0
    have e1 := h 1
    have e2 := h 2
    simp at e0 e1 e2
    rw [partOf_of e2.1 e2.2]
    omega
  · intro h
    have hp : partOf (x 2).val = p := Fin.ext (by omega)
    have hs := partOf_spec h2
    rw [hp] at hs
    rw [hp] at h
    intro a
    fin_cases a <;> simp <;> omega

/-- Row chunk `m` of part `p` is written out. -/
theorem ev_out {α : Type} {Q : α → sProp 𝕄} (c : Dev nD) (p : Fin 3) (m : Fin 8)
    {os oo : Fin 3 → ℕ} {h h' h''} (hos : os = ![(slotOf p m).val, 0, 0]) (hoo : oo = ![m.val / 2, 128 * (m.val % 2), colo p])
    {hl hl' hx hm} {pl : ((⟨3, ![1, 128, cw p]⟩ : Shape).Idx → Elt F .bf16) → (⟨3, ![1, 128, cw p]⟩ : Shape).Idx → Elt F .f32}
    (hpl : ∀ v, pl v = fun x => FloatOps.extf .f32 bitsLt_bf16_f32 (v x))
    {k : PUnit → Prog (TpuEff nD τ sig (Elt F) Λ₀ .tc) α} :
    (hold c (wM p) Finset.univ (Final W0 p) : sProp 𝕄)
      ⊢ iprop(writing W0 c (8 * p.val + m.val) -∗ (hold c (wM p) Finset.univ (Final W0 p) -∗ writing W0 c (8 * p.val + m.val + 1) -∗ wpk c (k ⟨⟩) Q)
        -∗ wpk c (.op (.load (wM p) (Rect.unit (s := WS p) os ![1, 128, cw p] h).toLoadRect hl) fun v =>
            .op (.load oM (Rect.unit (s := S4x256x1024) oo ![1, 128, cw p] h').toLoadRect hl') fun _ =>
            .op (.store oM (Rect.unit (s := S4x256x1024) oo ![1, 128, cw p] h'') (pl v) Finset.univ hx hm) k) Q) := by
  subst hos; subst hoo
  unfold writing
  iintro Hw ⟨%O0, H⟩ Hk
  iapply (hold_load (M := wM p) (r := Rect.unit (s := WS p) ![(slotOf p m).val, 0, 0] ![1, 128, cw p] h) (Finset.subset_univ _)) $$ Hw
  iintro Hw
  iapply (hold_load (M := oM) (r := Rect.unit (s := S4x256x1024) ![m.val / 2, 128 * (m.val % 2), colo p] ![1, 128, cw p] h') (Finset.subset_univ _)) $$ H
  iintro H
  iapply (hold_store (M := oM) (r := Rect.unit (s := S4x256x1024) ![m.val / 2, 128 * (m.val % 2), colo p] ![1, 128, cw p] h'') (Finset.subset_univ _) (Ost W0 O0 (8 * p.val + m.val + 1)) ?_ ?_) $$ H
  · intro x
    have hm8 := m.isLt
    have hx0 : (x 0).val = 0 := Nat.lt_one_iff.mp (x 0).isLt
    have hx1 : (x 1).val < 128 := (x 1).isLt
    have hx2 : (x 2).val < cw p := (x 2).isLt
    have hn : onum ((Rect.unit (s := S4x256x1024) ![m.val / 2, 128 * (m.val % 2), colo p] ![1, 128, cw p] h'').emb x) = 8 * p.val + m.val :=
      mem_out.mp ((Rect.unit (s := S4x256x1024) ![m.val / 2, 128 * (m.val % 2), colo p] ![1, 128, cw p] h'').toLoadRect.idx_mem x)
    have e0 : (((Rect.unit (s := S4x256x1024) ![m.val / 2, 128 * (m.val % 2), colo p] ![1, 128, cw p] h'').emb x) 0).val = m.val / 2 + 1 * (x 0).val := rfl
    have e1 : (((Rect.unit (s := S4x256x1024) ![m.val / 2, 128 * (m.val % 2), colo p] ![1, 128, cw p] h'').emb x) 1).val = 128 * (m.val % 2) + 1 * (x 1).val := rfl
    have e2 : (((Rect.unit (s := S4x256x1024) ![m.val / 2, 128 * (m.val % 2), colo p] ![1, 128, cw p] h'').emb x) 2).val = colo p + 1 * (x 2).val := rfl
    generalize hy : (Rect.unit (s := S4x256x1024) ![m.val / 2, 128 * (m.val % 2), colo p] ![1, 128, cw p] h'').emb x = y at hn e0 e1 e2 ⊢
    have hc : ochunk y = m := Fin.ext (by
      show 2 * (y 0).val + (y 1).val / 128 = m.val
      omega)
    rw [hpl]
    unfold Ost
    rw [if_pos (by omega)]
    refine (Out_eq W0 (partOf_of (by omega) (by omega)) _ ?_ ?_ ?_).symm
    · rw [hc]
      show (slotOf p m).val + 1 * (x 0).val = (slotOf p m).val
      omega
    · show 0 + 1 * (x 1).val = (y 1).val % 128
      omega
    · show 0 + 1 * (x 2).val = (y 2).val - colo p
      omega
  · intro x _ hx
    have hne : onum x ≠ 8 * p.val + m.val := fun h => hx (mem_out.mpr h)
    unfold Ost
    by_cases h : onum x < 8 * p.val + m.val
    · rw [if_pos h, if_pos (by omega)]
    · rw [if_neg h, if_neg (by omega)]
  iintro H
  iapply Hk $$ Hw
  iexists O0; iexact H

end Out

/-- Reshaping there and back leaves a block as it was, -/
theorem copy_back {s t : Shape} {α : Type} {h : s.ShapeCasts t} {h' : t.ShapeCasts s} (v : s.Idx → α) : shapeCast s (shapeCast t v h) h' = v :=
  shapeCast_shapeCast v h h'
/-- and widens it if it is widened between. -/
theorem widen_back {s t : Shape} {h : s.ShapeCasts t} {h' : t.ShapeCasts s} (v : FVec F s .bf16) :
    shapeCast s (extf .f32 (shapeCast t v h) bitsLt_bf16_f32) h' = fun x => FloatOps.extf .f32 bitsLt_bf16_f32 (v x) :=
  congrArg (fun (w : FVec F s .bf16) => (fun x => FloatOps.extf .f32 bitsLt_bf16_f32 (w x) : FVec F s .f32)) (shapeCast_shapeCast v h h')

end Cert.KernelIdealProof

end
-- ==== Proof.KernelIdeal.Local.lean ====
/-
# The stretches before the communication

Each lemma runs one stretch of the kernel's effects: from what it needs and a proof of what follows under what it gives.
-/
module

public import proofs.«01_k».proof.Proof.KernelIdeal.Compute
public import proofs.«01_k».proof.Proof.KernelIdeal.Cuts

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-! ## The fetch of the keys and values -/

theorem off_1 (c : Dev nD) : k0_off1 c 0#32 = ![0, 0, 2 * c.val + 0, 0] ∧ k0_off1 c 1#32 = ![0, 0, 2 * c.val + 1, 0] := by revert c; decide
theorem off_2 (c : Dev nD) : k0_off2 c 0#32 = ![1, 0, 2 * c.val + 0, 0] ∧ k0_off2 c 1#32 = ![1, 0, 2 * c.val + 1, 0] := by revert c; decide
theorem off_3 (c : Dev nD) : k0_off3 c 0#32 = ![2, 0, 2 * c.val + 0, 0] ∧ k0_off3 c 1#32 = ![2, 0, 2 * c.val + 1, 0] := by revert c; decide
theorem off_4 (c : Dev nD) : k0_off4 c 0#32 = ![3, 0, 2 * c.val + 0, 0] ∧ k0_off4 c 1#32 = ![3, 0, 2 * c.val + 1, 0] := by revert c; decide

theorem run_fetch {α : Type} {Q : α → sProp 𝕄} (c : Dev nD) (K V : S4x1024x16x128.Idx → Elt F .f32)
    {κ : Prog (TpuEff nD τ sig (Elt F) Λ₀ .tc) α} :
    fetching c K V 0 ⊢ iprop((fetching c K V 16 -∗ wpk c κ Q) -∗ wpk c (st2 kM vM kvM cc0_scratch9 c κ) Q) := by
  unfold st2
  simp only [Prog.lift, Prog.bind_op, Prog.bind_ret]
  iintro H Hk
  iapply (ev_fetchK c K V ⟨0, by decide⟩ rfl (by exact (off_1 c).1) (by rfl)) $$ H; iintro H
  iapply (ev_fetchV c K V ⟨1, by decide⟩ rfl (by exact (off_1 c).1) (by rfl)) $$ H; iintro H
  iapply (ev_fetchK c K V ⟨2, by decide⟩ rfl (by exact (off_1 c).2) (by rfl)) $$ H; iintro H
  iapply (ev_fetchV c K V ⟨3, by decide⟩ rfl (by exact (off_1 c).2) (by rfl)) $$ H; iintro H
  iapply (ev_fetchK c K V ⟨4, by decide⟩ rfl (by exact (off_2 c).1) (by rfl)) $$ H; iintro H
  iapply (ev_fetchV c K V ⟨5, by decide⟩ rfl (by exact (off_2 c).1) (by rfl)) $$ H; iintro H
  iapply (ev_fetchK c K V ⟨6, by decide⟩ rfl (by exact (off_2 c).2) (by rfl)) $$ H; iintro H
  iapply (ev_fetchV c K V ⟨7, by decide⟩ rfl (by exact (off_2 c).2) (by rfl)) $$ H; iintro H
  iapply (ev_fetchK c K V ⟨8, by decide⟩ rfl (by exact (off_3 c).1) (by rfl)) $$ H; iintro H
  iapply (ev_fetchV c K V ⟨9, by decide⟩ rfl (by exact (off_3 c).1) (by rfl)) $$ H; iintro H
  iapply (ev_fetchK c K V ⟨10, by decide⟩ rfl (by exact (off_3 c).2) (by rfl)) $$ H; iintro H
  iapply (ev_fetchV c K V ⟨11, by decide⟩ rfl (by exact (off_3 c).2) (by rfl)) $$ H; iintro H
  iapply (ev_fetchK c K V ⟨12, by decide⟩ rfl (by exact (off_4 c).1) (by rfl)) $$ H; iintro H
  iapply (ev_fetchV c K V ⟨13, by decide⟩ rfl (by exact (off_4 c).1) (by rfl)) $$ H; iintro H
  iapply (ev_fetchK c K V ⟨14, by decide⟩ rfl (by exact (off_4 c).2) (by rfl)) $$ H; iintro H
  iapply (ev_fetchV c K V ⟨15, by decide⟩ rfl (by exact (off_4 c).2) (by rfl)) $$ H; iintro H
  iapply Hk; iexact H

theorem run_query {α : Type} {Q : α → sProp 𝕄} (c : Dev nD) (X : S4x256x1024.Idx → Elt F .f32) (Wq : S1024x1024.Idx → Elt F .f32)
    {h : qM.IsWhole} {κ : Prog (TpuEff nD τ sig (Elt F) Λ₀ .tc) α} :
    iprop(hold c xM Finset.univ X ∗ hold c wqM Finset.univ Wq ∗ holdAny (F := F) c qM Finset.univ)
      ⊢ iprop((hold c xM Finset.univ X ∗ hold c wqM Finset.univ Wq ∗ hold c qM Finset.univ (k0_pay2 X Wq) -∗ wpk c κ Q) -∗ wpk c (st3 xM wqM qM h κ) Q) := by
  unfold st3
  simp only [Prog.lift, Prog.bind_op, Prog.bind_ret]
  iintro ⟨Hx, Hw, Hq⟩ Hk
  iapply (load_whole (by decide)) $$ Hx; iintro Hx
  iapply (load_whole (by decide)) $$ Hw; iintro Hw
  iapply load_any $$ Hq; iintro Hq
  iapply (store_whole (by decide)) $$ Hq; iintro Hq
  iapply Hk
  isplitl [Hx]; · iexact Hx
  isplitl [Hw]; · iexact Hw
  iexact Hq

theorem run_drain {α : Type} {Q : α → sProp 𝕄} (c : Dev nD) (K V : S4x1024x16x128.Idx → Elt F .f32) (l : List Ev)
    {κ : Prog (TpuEff nD τ sig (Elt F) Λ₀ .tc) α} :
    levAts L lv ⊢ iprop(ow c l -∗ fetching c K V 16
      -∗ (ow c l ∗ semVal ((c : Thread nD τ), fetchS) 0 ∗ hold c kM Finset.univ K ∗ hold c vM Finset.univ V ∗ hold c kvM Finset.univ (kvOf c K V) -∗ wpk c κ Q)
      -∗ wpk c (st4 kM vM kvM cc0_scratch9 c κ) Q) := by
  unfold st4
  simp only [Prog.lift, Prog.bind_op, Prog.bind_ret]
  iintro #Hlev Ho H Hk
  ihave H := (fetched c K V) $$ H
  iapply (ev_drain c K V 0 (by decide) l) $$ Hlev Ho H; iintro ⟨Ho, H⟩
  iapply (ev_drain c K V 1 (by decide) l) $$ Hlev Ho H; iintro ⟨Ho, H⟩
  iapply (ev_drain c K V 2 (by decide) l) $$ Hlev Ho H; iintro ⟨Ho, H⟩
  iapply (ev_drain c K V 3 (by decide) l) $$ Hlev Ho H; iintro ⟨Ho, H⟩
  iapply (ev_drain c K V 4 (by decide) l) $$ Hlev Ho H; iintro ⟨Ho, H⟩
  iapply (ev_drain c K V 5 (by decide) l) $$ Hlev Ho H; iintro ⟨Ho, H⟩
  iapply (ev_drain c K V 6 (by decide) l) $$ Hlev Ho H; iintro ⟨Ho, H⟩
  iapply (ev_drain c K V 7 (by decide) l) $$ Hlev Ho H; iintro ⟨Ho, H⟩
  iapply (ev_drain c K V 8 (by decide) l) $$ Hlev Ho H; iintro ⟨Ho, H⟩
  iapply (ev_drain c K V 9 (by decide) l) $$ Hlev Ho H; iintro ⟨Ho, H⟩
  iapply (ev_drain c K V 10 (by decide) l) $$ Hlev Ho H; iintro ⟨Ho, H⟩
  iapply (ev_drain c K V 11 (by decide) l) $$ Hlev Ho H; iintro ⟨Ho, H⟩
  iapply (ev_drain c K V 12 (by decide) l) $$ Hlev Ho H; iintro ⟨Ho, H⟩
  iapply (ev_drain c K V 13 (by decide) l) $$ Hlev Ho H; iintro ⟨Ho, H⟩
  iapply (ev_drain c K V 14 (by decide) l) $$ Hlev Ho H; iintro ⟨Ho, H⟩
  iapply (ev_drained c K V l) $$ Hlev Ho H
  iexact Hk

/-! ## The heads -/

section Heads
variable (c : Dev nD) (K V : S4x1024x16x128.Idx → Elt F .f32) (Q0 : S1024x1024.Idx → Elt F .bf16)

theorem run_heads_lo {α : Type} {Q : α → sProp 𝕄} {h : qM.IsWhole} {κ : Prog (TpuEff nD τ sig (Elt F) Λ₀ .tc) α} :
    iprop(hold c kvM Finset.univ (kvOf c K V) ∗ hold c qM Finset.univ (Qst c K V Q0 0))
      ⊢ iprop((hold c kvM Finset.univ (kvOf c K V) ∗ hold c qM Finset.univ (Qst c K V Q0 16) -∗ wpk c κ Q) -∗ wpk c (st5 qM h kvM κ) Q) := by
  unfold st5
  simp only [Prog.lift, Prog.bind_op, Prog.bind_ret]
  iintro ⟨Hkv, H⟩ Hk
  iapply (ev_kv c K V 0 (by rfl)) $$ Hkv; iintro Hkv
  iapply (ev_kv c K V 1 (by rfl)) $$ Hkv; iintro Hkv
  iapply (ev_head c K V Q0 ⟨0, by decide⟩ (by rfl) (by exact fun _ => rfl)) $$ H; iintro H
  iapply (ev_head c K V Q0 ⟨1, by decide⟩ (by rfl) (by exact fun _ => rfl)) $$ H; iintro H
  iapply (ev_head c K V Q0 ⟨2, by decide⟩ (by rfl) (by exact fun _ => rfl)) $$ H; iintro H
  iapply (ev_head c K V Q0 ⟨3, by decide⟩ (by rfl) (by exact fun _ => rfl)) $$ H; iintro H
  iapply (ev_kv c K V 2 (by rfl)) $$ Hkv; iintro Hkv
  iapply (ev_kv c K V 3 (by rfl)) $$ Hkv; iintro Hkv
  iapply (ev_head c K V Q0 ⟨4, by decide⟩ (by rfl) (by exact fun _ => rfl)) $$ H; iintro H
  iapply (ev_head c K V Q0 ⟨5, by decide⟩ (by rfl) (by exact fun _ => rfl)) $$ H; iintro H
  iapply (ev_head c K V Q0 ⟨6, by decide⟩ (by rfl) (by exact fun _ => rfl)) $$ H; iintro H
  iapply (ev_head c K V Q0 ⟨7, by decide⟩ (by rfl) (by exact fun _ => rfl)) $$ H; iintro H
  iapply (ev_kv c K V 4 (by rfl)) $$ Hkv; iintro Hkv
  iapply (ev_kv c K V 5 (by rfl)) $$ Hkv; iintro Hkv
  iapply (ev_head c K V Q0 ⟨8, by decide⟩ (by rfl) (by exact fun _ => rfl)) $$ H; iintro H
  iapply (ev_head c K V Q0 ⟨9, by decide⟩ (by rfl) (by exact fun _ => rfl)) $$ H; iintro H
  iapply (ev_head c K V Q0 ⟨10, by decide⟩ (by rfl) (by exact fun _ => rfl)) $$ H; iintro H
  iapply (ev_head c K V Q0 ⟨11, by decide⟩ (by rfl) (by exact fun _ => rfl)) $$ H; iintro H
  iapply (ev_kv c K V 6 (by rfl)) $$ Hkv; iintro Hkv
  iapply (ev_kv c K V 7 (by rfl)) $$ Hkv; iintro Hkv
  iapply (ev_head c K V Q0 ⟨12, by decide⟩ (by rfl) (by exact fun _ => rfl)) $$ H; iintro H
  iapply (ev_head c K V Q0 ⟨13, by decide⟩ (by rfl) (by exact fun _ => rfl)) $$ H; iintro H
  iapply (ev_head c K V Q0 ⟨14, by decide⟩ (by rfl) (by exact fun _ => rfl)) $$ H; iintro H
  iapply (ev_head c K V Q0 ⟨15, by decide⟩ (by rfl) (by exact fun _ => rfl)) $$ H; iintro H
  iapply Hk
  isplitl [Hkv]; · iexact Hkv
  iexact H

theorem run_heads_hi {α : Type} {Q : α → sProp 𝕄} {h : qM.IsWhole} {κ : Prog (TpuEff nD τ sig (Elt F) Λ₀ .tc) α} :
    iprop(hold c kvM Finset.univ (kvOf c K V) ∗ hold c qM Finset.univ (Qst c K V Q0 16))
      ⊢ iprop((hold c kvM Finset.univ (kvOf c K V) ∗ hold c qM Finset.univ (Qst c K V Q0 32) -∗ wpk c κ Q) -∗ wpk c (st6 qM h kvM κ) Q) := by
  unfold st6
  simp only [Prog.lift, Prog.bind_op, Prog.bind_ret]
  iintro ⟨Hkv, H⟩ Hk
  iapply (ev_kv c K V 8 (by rfl)) $$ Hkv; iintro Hkv
  iapply (ev_kv c K V 9 (by rfl)) $$ Hkv; iintro Hkv
  iapply (ev_head c K V Q0 ⟨16, by decide⟩ (by rfl) (by exact fun _ => rfl)) $$ H; iintro H
  iapply (ev_head c K V Q0 ⟨17, by decide⟩ (by rfl) (by exact fun _ => rfl)) $$ H; iintro H
  iapply (ev_head c K V Q0 ⟨18, by decide⟩ (by rfl) (by exact fun _ => rfl)) $$ H; iintro H
  iapply (ev_head c K V Q0 ⟨19, by decide⟩ (by rfl) (by exact fun _ => rfl)) $$ H; iintro H
  iapply (ev_kv c K V 10 (by rfl)) $$ Hkv; iintro Hkv
  iapply (ev_kv c K V 11 (by rfl)) $$ Hkv; iintro Hkv
  iapply (ev_head c K V Q0 ⟨20, by decide⟩ (by rfl) (by exact fun _ => rfl)) $$ H; iintro H
  iapply (ev_head c K V Q0 ⟨21, by decide⟩ (by rfl) (by exact fun _ => rfl)) $$ H; iintro H
  iapply (ev_head c K V Q0 ⟨22, by decide⟩ (by rfl) (by exact fun _ => rfl)) $$ H; iintro H
  iapply (ev_head c K V Q0 ⟨23, by decide⟩ (by rfl) (by exact fun _ => rfl)) $$ H; iintro H
  iapply (ev_kv c K V 12 (by rfl)) $$ Hkv; iintro Hkv
  iapply (ev_kv c K V 13 (by rfl)) $$ Hkv; iintro Hkv
  iapply (ev_head c K V Q0 ⟨24, by decide⟩ (by rfl) (by exact fun _ => rfl)) $$ H; iintro H
  iapply (ev_head c K V Q0 ⟨25, by decide⟩ (by rfl) (by exact fun _ => rfl)) $$ H; iintro H
  iapply (ev_head c K V Q0 ⟨26, by decide⟩ (by rfl) (by exact fun _ => rfl)) $$ H; iintro H
  iapply (ev_head c K V Q0 ⟨27, by decide⟩ (by rfl) (by exact fun _ => rfl)) $$ H; iintro H
  iapply (ev_kv c K V 14 (by rfl)) $$ Hkv; iintro Hkv
  iapply (ev_kv c K V 15 (by rfl)) $$ Hkv; iintro Hkv
  iapply (ev_head c K V Q0 ⟨28, by decide⟩ (by rfl) (by exact fun _ => rfl)) $$ H; iintro H
  iapply (ev_head c K V Q0 ⟨29, by decide⟩ (by rfl) (by exact fun _ => rfl)) $$ H; iintro H
  iapply (ev_head c K V Q0 ⟨30, by decide⟩ (by rfl) (by exact fun _ => rfl)) $$ H; iintro H
  iapply (ev_head c K V Q0 ⟨31, by decide⟩ (by rfl) (by exact fun _ => rfl)) $$ H; iintro H
  iapply Hk
  isplitl [Hkv]; · iexact Hkv
  iexact H

end Heads

/-! ## The partial product, and its copies -/

theorem run_partial {α : Type} {Q : α → sProp 𝕄} (c : Dev nD) (A : S1024x1024.Idx → Elt F .bf16) (Wo : S1024x1024.Idx → Elt F .f32)
    {h : ppM.IsWhole} {κ : Prog (TpuEff nD τ sig (Elt F) Λ₀ .tc) α} :
    iprop(hold c qM Finset.univ A ∗ hold c woM Finset.univ Wo ∗ holdAny (F := F) c ppM Finset.univ)
      ⊢ iprop((hold c qM Finset.univ A ∗ hold c woM Finset.univ Wo ∗ hold c ppM Finset.univ (k0_pay65 A Wo) -∗ wpk c κ Q) -∗ wpk c (st7 woM qM ppM h κ) Q) := by
  unfold st7
  simp only [Prog.lift, Prog.bind_op, Prog.bind_ret]
  iintro ⟨Hq, Hw, Hp⟩ Hk
  iapply (load_whole (by decide)) $$ Hq; iintro Hq
  iapply (load_whole (by decide)) $$ Hw; iintro Hw
  iapply load_any $$ Hp; iintro Hp
  iapply (store_whole (by decide)) $$ Hp; iintro Hp
  iapply Hk
  isplitl [Hq]; · iexact Hq
  isplitl [Hw]; · iexact Hw
  iexact Hp

theorem run_copies {α : Type} {Q : α → sProp 𝕄} (PP : Dev nD → S8x128x1024.Idx → Elt F .bf16) (c : Dev nD)
    {h0 : (wM 0).IsWhole} {h1 : (wM 1).IsWhole} {h2 : (wM 2).IsWhole} {κ : Prog (TpuEff nD τ sig (Elt F) Λ₀ .tc) α} :
    iprop(hold c ppM Finset.univ (PP c) ∗ filling PP 0 c 0 ∗ filling PP 1 c 0 ∗ filling PP 2 c 0)
      ⊢ iprop((hold c ppM Finset.univ (PP c) ∗ filling PP 0 c 8 ∗ filling PP 1 c 8 ∗ filling PP 2 c 8 -∗ wpk c κ Q)
        -∗ wpk c (st8 (wM 0) h0 (wM 1) h1 (wM 2) h2 ppM κ) Q) := by
  unfold st8
  simp only [Prog.lift, Prog.bind_op, Prog.bind_ret]
  iintro ⟨Hp, H0, H1, H2⟩ Hk
  iapply (ev_copy PP c 0 ⟨0, by decide⟩ (by rfl) (by rfl) (by intro v; exact copy_back (s := S1x128x384) (t := S128x384) (α := Elt F .bf16) v)) $$ Hp H0; iintro Hp H0
  iapply (ev_copy PP c 0 ⟨1, by decide⟩ (by rfl) (by rfl) (by intro v; exact copy_back (s := S1x128x384) (t := S128x384) (α := Elt F .bf16) v)) $$ Hp H0; iintro Hp H0
  iapply (ev_copy PP c 0 ⟨2, by decide⟩ (by rfl) (by rfl) (by intro v; exact copy_back (s := S1x128x384) (t := S128x384) (α := Elt F .bf16) v)) $$ Hp H0; iintro Hp H0
  iapply (ev_copy PP c 0 ⟨3, by decide⟩ (by rfl) (by rfl) (by intro v; exact copy_back (s := S1x128x384) (t := S128x384) (α := Elt F .bf16) v)) $$ Hp H0; iintro Hp H0
  iapply (ev_copy PP c 0 ⟨4, by decide⟩ (by rfl) (by rfl) (by intro v; exact copy_back (s := S1x128x384) (t := S128x384) (α := Elt F .bf16) v)) $$ Hp H0; iintro Hp H0
  iapply (ev_copy PP c 0 ⟨5, by decide⟩ (by rfl) (by rfl) (by intro v; exact copy_back (s := S1x128x384) (t := S128x384) (α := Elt F .bf16) v)) $$ Hp H0; iintro Hp H0
  iapply (ev_copy PP c 0 ⟨6, by decide⟩ (by rfl) (by rfl) (by intro v; exact copy_back (s := S1x128x384) (t := S128x384) (α := Elt F .bf16) v)) $$ Hp H0; iintro Hp H0
  iapply (ev_copy PP c 0 ⟨7, by decide⟩ (by rfl) (by rfl) (by intro v; exact copy_back (s := S1x128x384) (t := S128x384) (α := Elt F .bf16) v)) $$ Hp H0; iintro Hp H0
  iapply (ev_copy PP c 1 ⟨0, by decide⟩ (by rfl) (by rfl) (by intro v; exact copy_back (s := S1x128x384) (t := S128x384) (α := Elt F .bf16) v)) $$ Hp H1; iintro Hp H1
  iapply (ev_copy PP c 1 ⟨1, by decide⟩ (by rfl) (by rfl) (by intro v; exact copy_back (s := S1x128x384) (t := S128x384) (α := Elt F .bf16) v)) $$ Hp H1; iintro Hp H1
  iapply (ev_copy PP c 1 ⟨2, by decide⟩ (by rfl) (by rfl) (by intro v; exact copy_back (s := S1x128x384) (t := S128x384) (α := Elt F .bf16) v)) $$ Hp H1; iintro Hp H1
  iapply (ev_copy PP c 1 ⟨3, by decide⟩ (by rfl) (by rfl) (by intro v; exact copy_back (s := S1x128x384) (t := S128x384) (α := Elt F .bf16) v)) $$ Hp H1; iintro Hp H1
  iapply (ev_copy PP c 1 ⟨4, by decide⟩ (by rfl) (by rfl) (by intro v; exact copy_back (s := S1x128x384) (t := S128x384) (α := Elt F .bf16) v)) $$ Hp H1; iintro Hp H1
  iapply (ev_copy PP c 1 ⟨5, by decide⟩ (by rfl) (by rfl) (by intro v; exact copy_back (s := S1x128x384) (t := S128x384) (α := Elt F .bf16) v)) $$ Hp H1; iintro Hp H1
  iapply (ev_copy PP c 1 ⟨6, by decide⟩ (by rfl) (by rfl) (by intro v; exact copy_back (s := S1x128x384) (t := S128x384) (α := Elt F .bf16) v)) $$ Hp H1; iintro Hp H1
  iapply (ev_copy PP c 1 ⟨7, by decide⟩ (by rfl) (by rfl) (by intro v; exact copy_back (s := S1x128x384) (t := S128x384) (α := Elt F .bf16) v)) $$ Hp H1; iintro Hp H1
  iapply (ev_copy PP c 2 ⟨0, by decide⟩ (by rfl) (by rfl) (by intro v; exact copy_back (s := S1x128x256) (t := S128x256) (α := Elt F .bf16) v)) $$ Hp H2; iintro Hp H2
  iapply (ev_copy PP c 2 ⟨1, by decide⟩ (by rfl) (by rfl) (by intro v; exact copy_back (s := S1x128x256) (t := S128x256) (α := Elt F .bf16) v)) $$ Hp H2; iintro Hp H2
  iapply (ev_copy PP c 2 ⟨2, by decide⟩ (by rfl) (by rfl) (by intro v; exact copy_back (s := S1x128x256) (t := S128x256) (α := Elt F .bf16) v)) $$ Hp H2; iintro Hp H2
  iapply (ev_copy PP c 2 ⟨3, by decide⟩ (by rfl) (by rfl) (by intro v; exact copy_back (s := S1x128x256) (t := S128x256) (α := Elt F .bf16) v)) $$ Hp H2; iintro Hp H2
  iapply (ev_copy PP c 2 ⟨4, by decide⟩ (by rfl) (by rfl) (by intro v; exact copy_back (s := S1x128x256) (t := S128x256) (α := Elt F .bf16) v)) $$ Hp H2; iintro Hp H2
  iapply (ev_copy PP c 2 ⟨5, by decide⟩ (by rfl) (by rfl) (by intro v; exact copy_back (s := S1x128x256) (t := S128x256) (α := Elt F .bf16) v)) $$ Hp H2; iintro Hp H2
  iapply (ev_copy PP c 2 ⟨6, by decide⟩ (by rfl) (by rfl) (by intro v; exact copy_back (s := S1x128x256) (t := S128x256) (α := Elt F .bf16) v)) $$ Hp H2; iintro Hp H2
  iapply (ev_copy PP c 2 ⟨7, by decide⟩ (by rfl) (by rfl) (by intro v; exact copy_back (s := S1x128x256) (t := S128x256) (α := Elt F .bf16) v)) $$ Hp H2; iintro Hp H2
  iapply Hk
  isplitl [Hp]; · iexact Hp
  isplitl [H0]; · iexact H0
  isplitl [H1]; · iexact H1
  iexact H2

/-! ## The output -/

section Out
variable (W0 : (p : Fin 3) → Dev nD → (WS p).Idx → Elt F .bf16)

theorem run_out {α : Type} {Q : α → sProp 𝕄} (c : Dev nD) {h hx hm}
    {k : PUnit → Prog (TpuEff nD τ sig (Elt F) Λ₀ .tc) α} :
    iprop(hold c (wM 0) Finset.univ (Final W0 0) ∗ hold c (wM 1) Finset.univ (Final W0 1) ∗ hold c (wM 2) Finset.univ (Final W0 2) ∗ writing W0 c 0)
      ⊢ iprop((hold c (wM 0) Finset.univ (Final W0 0) ∗ hold c (wM 1) Finset.univ (Final W0 1) ∗ hold c (wM 2) Finset.univ (Final W0 2) ∗ writing W0 c 24 -∗ wpk c (k ⟨⟩) Q)
        -∗ wpk c (st16 oM (wM 0) (wM 1) (wM 2) fun v _ =>
            .op (.store oM (Rect.unit (s := S4x256x1024) ![3, 128, 768] S1x128x256.size h) (k0_pay1 (k0_pay130 v)) Finset.univ hx hm) k) Q) := by
  unfold st16
  simp only [Prog.lift, Prog.bind_op, Prog.bind_ret]
  iintro ⟨H0, H1, H2, Ho⟩ Hk
  iapply (ev_out W0 c 0 ⟨0, by decide⟩ (by rfl) (by rfl) (by intro v; exact widen_back (s := S1x128x384) (t := S128x384) v)) $$ H0 Ho; iintro H0 Ho
  iapply (ev_out W0 c 0 ⟨1, by decide⟩ (by rfl) (by rfl) (by intro v; exact widen_back (s := S1x128x384) (t := S128x384) v)) $$ H0 Ho; iintro H0 Ho
  iapply (ev_out W0 c 0 ⟨2, by decide⟩ (by rfl) (by rfl) (by intro v; exact widen_back (s := S1x128x384) (t := S128x384) v)) $$ H0 Ho; iintro H0 Ho
  iapply (ev_out W0 c 0 ⟨3, by decide⟩ (by rfl) (by rfl) (by intro v; exact widen_back (s := S1x128x384) (t := S128x384) v)) $$ H0 Ho; iintro H0 Ho
  iapply (ev_out W0 c 0 ⟨4, by decide⟩ (by rfl) (by rfl) (by intro v; exact widen_back (s := S1x128x384) (t := S128x384) v)) $$ H0 Ho; iintro H0 Ho
  iapply (ev_out W0 c 0 ⟨5, by decide⟩ (by rfl) (by rfl) (by intro v; exact widen_back (s := S1x128x384) (t := S128x384) v)) $$ H0 Ho; iintro H0 Ho
  iapply (ev_out W0 c 0 ⟨6, by decide⟩ (by rfl) (by rfl) (by intro v; exact widen_back (s := S1x128x384) (t := S128x384) v)) $$ H0 Ho; iintro H0 Ho
  iapply (ev_out W0 c 0 ⟨7, by decide⟩ (by rfl) (by rfl) (by intro v; exact widen_back (s := S1x128x384) (t := S128x384) v)) $$ H0 Ho; iintro H0 Ho
  iapply (ev_out W0 c 1 ⟨0, by decide⟩ (by rfl) (by rfl) (by intro v; exact widen_back (s := S1x128x384) (t := S128x384) v)) $$ H1 Ho; iintro H1 Ho
  iapply (ev_out W0 c 1 ⟨1, by decide⟩ (by rfl) (by rfl) (by intro v; exact widen_back (s := S1x128x384) (t := S128x384) v)) $$ H1 Ho; iintro H1 Ho
  iapply (ev_out W0 c 1 ⟨2, by decide⟩ (by rfl) (by rfl) (by intro v; exact widen_back (s := S1x128x384) (t := S128x384) v)) $$ H1 Ho; iintro H1 Ho
  iapply (ev_out W0 c 1 ⟨3, by decide⟩ (by rfl) (by rfl) (by intro v; exact widen_back (s := S1x128x384) (t := S128x384) v)) $$ H1 Ho; iintro H1 Ho
  iapply (ev_out W0 c 1 ⟨4, by decide⟩ (by rfl) (by rfl) (by intro v; exact widen_back (s := S1x128x384) (t := S128x384) v)) $$ H1 Ho; iintro H1 Ho
  iapply (ev_out W0 c 1 ⟨5, by decide⟩ (by rfl) (by rfl) (by intro v; exact widen_back (s := S1x128x384) (t := S128x384) v)) $$ H1 Ho; iintro H1 Ho
  iapply (ev_out W0 c 1 ⟨6, by decide⟩ (by rfl) (by rfl) (by intro v; exact widen_back (s := S1x128x384) (t := S128x384) v)) $$ H1 Ho; iintro H1 Ho
  iapply (ev_out W0 c 1 ⟨7, by decide⟩ (by rfl) (by rfl) (by intro v; exact widen_back (s := S1x128x384) (t := S128x384) v)) $$ H1 Ho; iintro H1 Ho
  iapply (ev_out W0 c 2 ⟨0, by decide⟩ (by rfl) (by rfl) (by intro v; exact widen_back (s := S1x128x256) (t := S128x256) v)) $$ H2 Ho; iintro H2 Ho
  iapply (ev_out W0 c 2 ⟨1, by decide⟩ (by rfl) (by rfl) (by intro v; exact widen_back (s := S1x128x256) (t := S128x256) v)) $$ H2 Ho; iintro H2 Ho
  iapply (ev_out W0 c 2 ⟨2, by decide⟩ (by rfl) (by rfl) (by intro v; exact widen_back (s := S1x128x256) (t := S128x256) v)) $$ H2 Ho; iintro H2 Ho
  iapply (ev_out W0 c 2 ⟨3, by decide⟩ (by rfl) (by rfl) (by intro v; exact widen_back (s := S1x128x256) (t := S128x256) v)) $$ H2 Ho; iintro H2 Ho
  iapply (ev_out W0 c 2 ⟨4, by decide⟩ (by rfl) (by rfl) (by intro v; exact widen_back (s := S1x128x256) (t := S128x256) v)) $$ H2 Ho; iintro H2 Ho
  iapply (ev_out W0 c 2 ⟨5, by decide⟩ (by rfl) (by rfl) (by intro v; exact widen_back (s := S1x128x256) (t := S128x256) v)) $$ H2 Ho; iintro H2 Ho
  iapply (ev_out W0 c 2 ⟨6, by decide⟩ (by rfl) (by rfl) (by intro v; exact widen_back (s := S1x128x256) (t := S128x256) v)) $$ H2 Ho; iintro H2 Ho
  iapply (ev_out W0 c 2 ⟨7, by decide⟩ (by rfl) (by rfl) (by intro v; exact widen_back (s := S1x128x256) (t := S128x256) v)) $$ H2 Ho; iintro H2 Ho
  iapply Hk
  isplitl [H0]; · iexact H0
  isplitl [H1]; · iexact H1
  isplitl [H2]; · iexact H2
  iexact Ho

end Out

end Cert.KernelIdealProof

end
-- ==== Proof.KernelIdeal.Body.lean ====
/-
# One device's body

The stretches put together: from the device's buffers, its semaphores and its place in the protocol, to its output.
-/
module

public import proofs.«01_k».proof.Proof.KernelIdeal.Glue
public import proofs.«01_k».proof.Proof.KernelIdeal.Local

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-! ## The last stretch with the store that follows it -/

theorem run_last {W0 : (p : Fin 3) → Dev nD → (WS p).Idx → Elt F .bf16} {α : Type} {Q : α → sProp 𝕄} (c : Dev nD) {h hx hm}
    {k : PUnit → Prog (TpuEff nD τ sig (Elt F) Λ₀ .tc) α} :
    iprop(hold c (wM 0) Finset.univ (Final W0 0) ∗ hold c (wM 1) Finset.univ (Final W0 1) ∗ hold c (wM 2) Finset.univ (Final W0 2) ∗ writing W0 c 0)
      ⊢ iprop((hold c (wM 0) Finset.univ (Final W0 0) ∗ hold c (wM 1) Finset.univ (Final W0 1) ∗ hold c (wM 2) Finset.univ (Final W0 2) ∗ writing W0 c 24 -∗ wpk c (k ⟨⟩) Q)
        -∗ wpk c (st16 oM (wM 0) (wM 1) (wM 2) fun v v' => st16.tail v v') fun a =>
            wpk c (.op (.store oM (Rect.unit (s := S4x256x1024) ![3, 128, 768] S1x128x256.size h) (k0_pay1 a.1) Finset.univ hx hm) k) Q) := by
  refine (run_out W0 c (Q := Q) (k := k) (h := h) (hx := hx) (hm := hm)).trans (wand_mono .rfl (Entails.of_eq ?_))
  refine Eq.trans (congrArg (fun P => wpk c P Q) ?_) (wp_bind frame (wpE (defs₀ (F := F)) 𝒱₀ (c : Thread nD τ) none) Set.univ (st16 oM (wM 0) (wM 1) (wM 2) fun v v' => st16.tail v v')
    (fun a => .op (.store oM (Rect.unit (s := S4x256x1024) ![3, 128, 768] S1x128x256.size h) (k0_pay1 a.1) Finset.univ hx hm) k) Q)
  rfl

/-! ## What a device starts from and ends with -/

/-- The contents of the arguments, and the partial product they give on each device. -/
structure Args (F : FTy → Type) where
  X : Dev nD → S4x256x1024.Idx → Elt F .f32
  Wq : Dev nD → S1024x1024.Idx → Elt F .f32
  K : Dev nD → S4x1024x16x128.Idx → Elt F .f32
  V : Dev nD → S4x1024x16x128.Idx → Elt F .f32
  Wo : Dev nD → S1024x1024.Idx → Elt F .f32

/-- A device's attention over its heads, and its partial product. -/
def Args.att (a : Args F) (c : Dev nD) : S1024x1024.Idx → Elt F .bf16 := Att c (a.K c) (a.V c) (k0_pay2 (a.X c) (a.Wq c))
def Args.pp (a : Args F) (c : Dev nD) : S8x128x1024.Idx → Elt F .bf16 := k0_pay65 (a.att c) (a.Wo c)
/-- What the working buffers hold when the exchange starts. -/
abbrev Args.w0 (a : Args F) : (p : Fin 3) → Dev nD → (WS p).Idx → Elt F .bf16 := W0of a.pp

/-- A step's three copies, ready to start. -/
def ready3 (c : Dev nD) (ph : Bool) (t : Fin 3) : sProp 𝕄 := iprop(ready (F := F) c ph 0 t ∗ ready (F := F) c ph 1 t ∗ ready (F := F) c ph 2 t)

/-- A device's place in the exchange. -/
def place (c : Dev nD) : sProp 𝕄 :=
  iprop((dutyTok ER (cell (par 0 c) none) 0 0 ∗ dutyTok ER (cell (par 1 c) none) 0 1 ∗ dutyTok ER (cell (par 2 c) none) 0 2)
    ∗ cred (tallyAt (cell c none) true 3) ∗ atPos ER (cell c none) 0 ∅ 0
    ∗ ready3 (F := F) c false 0 ∗ ready3 (F := F) c false 1 ∗ ready3 (F := F) c false 2
    ∗ ready3 (F := F) c true 2 ∗ ready3 (F := F) c true 1 ∗ ready3 (F := F) c true 0)

/-- The arguments a device reads. -/
def reads (a : Args F) (c : Dev nD) : sProp 𝕄 :=
  iprop(hold c xM Finset.univ (a.X c) ∗ hold c wqM Finset.univ (a.Wq c) ∗ hold c woM Finset.univ (a.Wo c))
def far (a : Args F) (c : Dev nD) : sProp 𝕄 := iprop(hold c kM Finset.univ (a.K c) ∗ hold c vM Finset.univ (a.V c))

/-- Its own buffers. -/
def works (c : Dev nD) : sProp 𝕄 :=
  iprop(holdAny (F := F) c (wM 0) Finset.univ ∗ holdAny (F := F) c (wM 1) Finset.univ ∗ holdAny (F := F) c (wM 2) Finset.univ)
def lands (c : Dev nD) : sProp 𝕄 :=
  iprop(holdAny (F := F) c (rM 0) Finset.univ ∗ holdAny (F := F) c (rM 1) Finset.univ ∗ holdAny (F := F) c (rM 2) Finset.univ)
def temps (c : Dev nD) : sProp 𝕄 :=
  iprop(holdAny (F := F) c qM Finset.univ ∗ holdAny (F := F) c ppM Finset.univ ∗ holdAny (F := F) c kvM Finset.univ)

/-- The semaphores back at zero, with the landing buffers. -/
def over (c : Dev nD) : sProp 𝕄 :=
  iprop(semVal (cell c none) 0 ∗ ended (F := F) c 0 ∗ ended (F := F) c 1 ∗ ended (F := F) c 2)

/-! ## The whole body -/

/-- The steps' levels go up. -/
def evs0 : List Ev := [.cp false 0 0, .cp false 1 0, .cp false 2 0, .cp false 0 1, .cp false 1 1, .cp false 2 1, .cp false 0 2, .cp false 1 2, .cp false 2 2,
  .cp true 0 2, .cp true 1 2, .cp true 2 2, .cp true 0 1, .cp true 1 1, .cp true 2 1, .cp true 0 0, .cp true 1 0, .cp true 2 0]
theorem up_bar : ∀ e ∈ evs0, lvOf none < lvOf e.ci := by decide
theorem up_scatter0 : ∀ p : Fin 3, ∀ e ∈ evs0.drop 3, lvOf (some (true, false, p, 0)) < lvOf e.ci := by decide
theorem up_scatter1 : ∀ p : Fin 3, ∀ e ∈ evs0.drop 6, lvOf (some (true, false, p, 1)) < lvOf e.ci := by decide
theorem up_scatter2 : ∀ p : Fin 3, ∀ e ∈ evs0.drop 9, lvOf (some (true, false, p, 2)) < lvOf e.ci := by decide
theorem up_gather2 : ∀ p : Fin 3, ∀ e ∈ evs0.drop 12, lvOf (some (true, true, p, 2)) < lvOf e.ci := by decide
theorem up_gather1 : ∀ p : Fin 3, ∀ e ∈ evs0.drop 15, lvOf (some (true, true, p, 1)) < lvOf e.ci := by decide
theorem up_gather0 : ∀ p : Fin 3, ∀ e ∈ evs0.drop 18, lvOf (some (true, true, p, 0)) < lvOf e.ci := by decide

theorem st1_wp {α : Type} {Q : α → sProp 𝕄} (c : Dev nD) (κ : Dev nD → Prog (TpuEff nD τ sig (Elt F) Λ₀ .tc) α) : wpk c (st1 κ) Q = wpk c (κ c) Q := by
  unfold st1
  simp only [Prog.lift, Prog.bind_op, Prog.bind_ret, wp_deviceId]
theorem bind_wp {α β : Type} {Q : β → sProp 𝕄} (c : Dev nD) (P : Prog (TpuEff nD τ sig (Elt F) Λ₀ .tc) α) (k : α → Prog (TpuEff nD τ sig (Elt F) Λ₀ .tc) β) :
    wpk c (P >>= k) Q = wpk c P fun a => wpk c (k a) Q := wp_bind _ _ _ _ _ _

theorem owes_as {c : Dev nD} {l l' : List Ev} (h : l = l') : (ow c l : sProp 𝕄) ⊢ ow c l' := Entails.of_eq (congrArg _ h)

theorem wM_whole : ∀ p, (wM p).IsWhole | 0 => Memref.isWhole_whole _ | 1 => Memref.isWhole_whole _ | 2 => Memref.isWhole_whole _
theorem rM_whole : ∀ p, (rM p).IsWhole | 0 => Memref.isWhole_whole _ | 1 => Memref.isWhole_whole _ | 2 => Memref.isWhole_whole _

/-- The store that follows the last stretch. -/
def lastStore : (Σ' (_ : FVec F S128x256 .f32), Vec F S1x128x256 .f32) → Prog (TpuEff nD τ sig (Elt F) Λ₀ .tc) PUnit :=
  fun a => .op (.store oM (Rect.unit (s := S4x256x1024) ![3, 128, 768] S1x128x256.size inb_S4x256x1024_S1x128x256_3_128_768) (k0_pay1 a.1) Finset.univ (View.stores_vmem_bits_univ h_S1x128x256 rfl) (.inl rfl)) fun _ => .ret ⟨⟩

/-- The body is its stretches and the store after them. -/
theorem body_eq : (cc0_body (F := F) xM (hstage0_0 0) wqM (hstage0_1 0) woM (hstage0_2 0) kM (Memref.isWhole_whole _) vM (Memref.isWhole_whole _) oM (hstage0_3 0) (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM (Memref.isWhole_whole _) cc0_scratch9 cc0_scratch10 cc0_scratch11)
    = (st1 fun d0 => st1.tail (F := F) xM wqM woM kM vM oM (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM cc0_scratch9 cc0_scratch10 cc0_scratch11 d0) >>= lastStore := by
  rw [cc0_body_eq_skeleton]
  exact congrArg (fun P => P >>= lastStore) (show k0_part55 (F := F) xM (hstage0_0 0) wqM (hstage0_1 0) woM (hstage0_2 0) kM (Memref.isWhole_whole _) vM (Memref.isWhole_whole _) oM (hstage0_3 0) (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM (Memref.isWhole_whole _) cc0_scratch9 cc0_scratch10 cc0_scratch11 = _ by rw [flat.eq]; exact st1.eq xM _ wqM _ woM _ kM _ vM _ oM _ (wM 0) _ (wM 1) _ (wM 2) _ (rM 0) _ (rM 1) _ (rM 2) _ qM _ ppM _ kvM _ cc0_scratch9 cc0_scratch10 cc0_scratch11)

theorem body_wp (c : Dev nD) {Q : PUnit → sProp 𝕄} : wpk c (cc0_body (F := F) xM (hstage0_0 0) wqM (hstage0_1 0) woM (hstage0_2 0) kM (Memref.isWhole_whole _) vM (Memref.isWhole_whole _) oM (hstage0_3 0) (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM (Memref.isWhole_whole _) cc0_scratch9 cc0_scratch10 cc0_scratch11) Q
    = wpk c (st1.tail (F := F) xM wqM woM kM vM oM (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM cc0_scratch9 cc0_scratch10 cc0_scratch11 c) (fun a => wpk c (lastStore a) Q) :=
  (congrArg (fun P => wpk c P Q) body_eq).trans ((bind_wp c (st1 fun d0 => st1.tail (F := F) xM wqM woM kM vM oM (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM cc0_scratch9 cc0_scratch10 cc0_scratch11 d0) lastStore).trans (st1_wp (Q := fun a => wpk c (lastStore a) Q) c fun d0 => st1.tail (F := F) xM wqM woM kM vM oM (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM cc0_scratch9 cc0_scratch10 cc0_scratch11 d0))

theorem run_body {Q : PUnit → sProp 𝕄} (a : Args F) (KK : Dev nD × CI → ℕ) (c : Dev nD) :
    records a.w0 KK
      ⊢ iprop(levAts L lv -∗ ow c evs -∗ place (F := F) c -∗ semVal ((c : Thread nD τ), fetchS) 0
        -∗ reads a c -∗ far a c -∗ holdAny (F := F) c oM Finset.univ -∗ works (F := F) c -∗ lands (F := F) c -∗ temps (F := F) c
        -∗ (ow c [] -∗ semVal ((c : Thread nD τ), fetchS) 0 -∗ over (F := F) c
            -∗ reads a c -∗ far a c -∗ hold c oM Finset.univ (Out a.w0) -∗ works (F := F) c -∗ temps (F := F) c -∗ Q ⟨⟩)
        -∗ wpk c (cc0_body (F := F) xM (hstage0_0 0) wqM (hstage0_1 0) woM (hstage0_2 0) kM (Memref.isWhole_whole _) vM (Memref.isWhole_whole _) oM (hstage0_3 0) (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM (Memref.isWhole_whole _) cc0_scratch9 cc0_scratch10 cc0_scratch11) Q) := by
  rw [body_wp]
  unfold place reads far works lands temps ready3
  iintro #Hrec #Hlev Ho ⟨Hduty, Hcred, Hat, ⟨Hr00, Hr10, Hr20⟩, ⟨Hr01, Hr11, Hr21⟩, ⟨Hr02, Hr12, Hr22⟩, ⟨Hg02, Hg12, Hg22⟩, ⟨Hg01, Hg11, Hg21⟩, ⟨Hg00, Hg10, Hg20⟩⟩ Hf ⟨Hx, Hwq, Hwo⟩ ⟨HK, HV⟩ Hout ⟨Hw0, Hw1, Hw2⟩ Hland ⟨Hq, Hpp, Hkv⟩ Hk
  -- the heads are fetched while the query is made
  imod (fetch_ready c (a.K c) (a.V c)) $$ [Hf HK HV Hkv] with Hf
  · isplitl [Hf]; · iexact Hf
    isplitl [HK]; · iexact HK
    isplitl [HV] <;> iassumption
  rw [st2.eq xM wqM woM kM vM oM (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM cc0_scratch9 cc0_scratch10 cc0_scratch11 c]
  iapply (run_fetch c (a.K c) (a.V c)) $$ Hf; iintro Hf
  rw [st3.eq xM wqM woM kM vM oM (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM cc0_scratch9 cc0_scratch10 cc0_scratch11 c]
  iapply (run_query c (a.X c) (a.Wq c)) $$ [Hx Hwq Hq]
  · isplitl [Hx]; · iexact Hx
    isplitl [Hwq] <;> iassumption
  iintro ⟨Hx, Hwq, Hq⟩
  rw [st4.eq woM kM vM oM (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM cc0_scratch9 cc0_scratch10 cc0_scratch11 c]
  iapply (run_drain c (a.K c) (a.V c) evs) $$ Hlev Ho Hf; iintro ⟨Ho, Hf, HK, HV, Hkv⟩
  -- the attention, over the query in place
  ihave Hq := (Entails.of_eq (congrArg (fun G => hold c qM Finset.univ G) (Qst_zero c (a.K c) (a.V c) (k0_pay2 (a.X c) (a.Wq c))).symm)) $$ Hq
  rw [st5.eq woM oM (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM cc0_scratch10 cc0_scratch11 c]
  iapply (run_heads_lo c (a.K c) (a.V c) (k0_pay2 (a.X c) (a.Wq c))) $$ [Hkv Hq]
  · isplitl [Hkv] <;> iassumption
  iintro ⟨Hkv, Hq⟩
  rw [st6.eq woM oM (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM cc0_scratch10 cc0_scratch11 c]
  iapply (run_heads_hi c (a.K c) (a.V c) (k0_pay2 (a.X c) (a.Wq c))) $$ [Hkv Hq]
  · isplitl [Hkv] <;> iassumption
  iintro ⟨Hkv, Hq⟩
  ihave Hq := (Entails.of_eq (congrArg (fun G => hold c qM Finset.univ G) (Qst_all c (a.K c) (a.V c) (k0_pay2 (a.X c) (a.Wq c))))) $$ Hq
  -- the partial product, and its way into the working buffers
  rw [st7.eq woM oM (wM 0) (wM_whole 0) (wM 1) (wM_whole 1) (wM 2) (wM_whole 2) (rM 0) (rM_whole 0) (rM 1) (rM_whole 1) (rM 2) (rM_whole 2) qM ppM (Memref.isWhole_whole _) cc0_scratch10 cc0_scratch11 c]
  iapply (run_partial c (Att c (a.K c) (a.V c) (k0_pay2 (a.X c) (a.Wq c))) (a.Wo c)) $$ [Hq Hwo Hpp]
  · isplitl [Hq]; · iexact Hq
    isplitl [Hwo] <;> iassumption
  iintro ⟨Hq, Hwo, Hpp⟩
  ihave Hw0 := (fill_start a.pp 0 c) $$ Hw0
  ihave Hw1 := (fill_start a.pp 1 c) $$ Hw1
  ihave Hw2 := (fill_start a.pp 2 c) $$ Hw2
  rw [st8.eq oM (wM 0) (wM_whole 0) (wM 1) (wM_whole 1) (wM 2) (wM_whole 2) (rM 0) (rM_whole 0) (rM 1) (rM_whole 1) (rM 2) (rM_whole 2) ppM cc0_scratch10 cc0_scratch11 c]
  iapply (run_copies a.pp c) $$ [Hpp Hw0 Hw1 Hw2]
  · isplitl [Hpp]; · iexact Hpp
    isplitl [Hw0]; · iexact Hw0
    isplitl [Hw1] <;> iassumption
  iintro ⟨Hpp, Hw0, Hw1, Hw2⟩
  ihave Hw0 := (fill_end a.pp 0 c) $$ Hw0
  ihave Hw1 := (fill_end a.pp 1 c) $$ Hw1
  ihave Hw2 := (fill_end a.pp 2 c) $$ Hw2
  -- the barrier hands the landing windows round
  ihave Hland := (free_all c) $$ Hland
  ihave Ho := (owes_as (l' := .bar 0 :: .bar 1 :: .bar 2 :: evs0) (by rfl)) $$ Ho
  rw [st9.eq oM (wM 0) (wM_whole 0) (wM 1) (wM_whole 1) (wM 2) (wM_whole 2) (rM 0) (rM_whole 0) (rM 1) (rM_whole 1) (rM 2) (rM_whole 2) cc0_scratch10 cc0_scratch11 c]
  iapply (run_barrier a.w0 KK c evs0 up_bar) $$ Hrec Hlev Ho Hduty Hland Hcred Hat
  iintro ⟨Ho, Hbar, Hland⟩
  ihave Hland := (freed_there c) $$ Hland
  icases Hland with ⟨⟨Ht00, Ht10, Ht20⟩, ⟨Ht01, Ht11, Ht21⟩, ⟨Ht02, Ht12, Ht22⟩⟩
  -- the partial sums are reduced
  ihave Hs0 := (into_first a.w0 c 0) $$ [Hr00 Hw0 Ht00]
  · isplitl [Hr00]; · iexact Hr00
    isplitl [Hw0]; · iexact Hw0
    iexact Ht00
  ihave Hs1 := (into_first a.w0 c 1) $$ [Hr10 Hw1 Ht10]
  · isplitl [Hr10]; · iexact Hr10
    isplitl [Hw1]; · iexact Hw1
    iexact Ht10
  ihave Hs2 := (into_first a.w0 c 2) $$ [Hr20 Hw2 Ht20]
  · isplitl [Hr20]; · iexact Hr20
    isplitl [Hw2]; · iexact Hw2
    iexact Ht20
  ihave Ho := (owes_as (l' := .cp false 0 0 :: .cp false 1 0 :: .cp false 2 0 :: evs0.drop 3) (by rfl)) $$ Ho
  rw [st10.eq oM (wM 0) (wM_whole 0) (wM 1) (wM_whole 1) (wM 2) (wM_whole 2) (rM 0) (rM_whole 0) (rM 1) (rM_whole 1) (rM 2) (rM_whole 2) cc0_scratch10 cc0_scratch11 c]
  iapply (run_scatter0 a.w0 KK c (evs0.drop 3) up_scatter0) $$ Hrec Hlev Ho Hs0 Hs1 Hs2
  iintro Ho Hs0 Hs1 Hs2
  ihave Hs0 := (into_second a.w0 c 0) $$ [Hs0 Hr01 Ht01]
  · isplitl [Hs0]; · iexact Hs0
    isplitl [Hr01]; · iexact Hr01
    iexact Ht01
  icases Hs0 with ⟨Hs0, Ha00, Hp00⟩
  ihave Hs1 := (into_second a.w0 c 1) $$ [Hs1 Hr11 Ht11]
  · isplitl [Hs1]; · iexact Hs1
    isplitl [Hr11]; · iexact Hr11
    iexact Ht11
  icases Hs1 with ⟨Hs1, Ha10, Hp10⟩
  ihave Hs2 := (into_second a.w0 c 2) $$ [Hs2 Hr21 Ht21]
  · isplitl [Hs2]; · iexact Hs2
    isplitl [Hr21]; · iexact Hr21
    iexact Ht21
  icases Hs2 with ⟨Hs2, Ha20, Hp20⟩
  ihave Ho := (owes_as (l' := .cp false 0 1 :: .cp false 1 1 :: .cp false 2 1 :: evs0.drop 6) (by rfl)) $$ Ho
  rw [st11.eq oM (wM 0) (wM_whole 0) (wM 1) (wM_whole 1) (wM 2) (wM_whole 2) (rM 0) (rM_whole 0) (rM 1) (rM_whole 1) (rM 2) (rM_whole 2) cc0_scratch10 cc0_scratch11 c]
  iapply (run_scatter1 a.w0 KK c (evs0.drop 6) up_scatter1) $$ Hrec Hlev Ho Hs0 Hs1 Hs2
  iintro Ho Hs0 Hs1 Hs2
  ihave Hs0 := (into_third a.w0 c 0) $$ [Hs0 Hr02 Ht02]
  · isplitl [Hs0]; · iexact Hs0
    isplitl [Hr02]; · iexact Hr02
    iexact Ht02
  icases Hs0 with ⟨Hs0, Ha01, Hp01⟩
  ihave Hs1 := (into_third a.w0 c 1) $$ [Hs1 Hr12 Ht12]
  · isplitl [Hs1]; · iexact Hs1
    isplitl [Hr12]; · iexact Hr12
    iexact Ht12
  icases Hs1 with ⟨Hs1, Ha11, Hp11⟩
  ihave Hs2 := (into_third a.w0 c 2) $$ [Hs2 Hr22 Ht22]
  · isplitl [Hs2]; · iexact Hs2
    isplitl [Hr22]; · iexact Hr22
    iexact Ht22
  icases Hs2 with ⟨Hs2, Ha21, Hp21⟩
  ihave Ho := (owes_as (l' := .cp false 0 2 :: .cp false 1 2 :: .cp false 2 2 :: evs0.drop 9) (by rfl)) $$ Ho
  rw [st12.eq oM (wM 0) (wM_whole 0) (wM 1) (wM_whole 1) (wM 2) (wM_whole 2) (rM 0) (rM_whole 0) (rM 1) (rM_whole 1) (rM 2) (rM_whole 2) cc0_scratch10 cc0_scratch11 c]
  iapply (run_scatter2 a.w0 KK c (evs0.drop 9) up_scatter2) $$ Hrec Hlev Ho Hs0 Hs1 Hs2
  iintro Ho Hs0 Hs1 Hs2
  -- and the sums gathered
  ihave Hs0 := (into_gather2 a.w0 c 0) $$ [Hs0 Hg02]
  · isplitl [Hs0]; · iexact Hs0
    iexact Hg02
  icases Hs0 with ⟨Hs0, Hp02⟩
  ihave Hs1 := (into_gather2 a.w0 c 1) $$ [Hs1 Hg12]
  · isplitl [Hs1]; · iexact Hs1
    iexact Hg12
  icases Hs1 with ⟨Hs1, Hp12⟩
  ihave Hs2 := (into_gather2 a.w0 c 2) $$ [Hs2 Hg22]
  · isplitl [Hs2]; · iexact Hs2
    iexact Hg22
  icases Hs2 with ⟨Hs2, Hp22⟩
  ihave Ho := (owes_as (l' := .cp true 0 2 :: .cp true 1 2 :: .cp true 2 2 :: evs0.drop 12) (by rfl)) $$ Ho
  rw [st13.eq oM (wM 0) (wM_whole 0) (wM 1) (wM_whole 1) (wM 2) (wM_whole 2) cc0_scratch10 cc0_scratch11 c]
  iapply (run_gather2 a.w0 KK c (evs0.drop 12) up_gather2) $$ Hrec Hlev Ho Hs0 Hs1 Hs2
  iintro Ho Hs0 Hs1 Hs2
  ihave Hs0 := (into_gather1 a.w0 c 0) $$ [Hs0 Hg01 Ha01]
  · isplitl [Hs0]; · iexact Hs0
    isplitl [Hg01]; · iexact Hg01
    iexact Ha01
  icases Hs0 with ⟨Hs0, Hz02⟩
  ihave Hs1 := (into_gather1 a.w0 c 1) $$ [Hs1 Hg11 Ha11]
  · isplitl [Hs1]; · iexact Hs1
    isplitl [Hg11]; · iexact Hg11
    iexact Ha11
  icases Hs1 with ⟨Hs1, Hz12⟩
  ihave Hs2 := (into_gather1 a.w0 c 2) $$ [Hs2 Hg21 Ha21]
  · isplitl [Hs2]; · iexact Hs2
    isplitl [Hg21]; · iexact Hg21
    iexact Ha21
  icases Hs2 with ⟨Hs2, Hz22⟩
  ihave Ho := (owes_as (l' := .cp true 0 1 :: .cp true 1 1 :: .cp true 2 1 :: evs0.drop 15) (by rfl)) $$ Ho
  rw [st14.eq oM (wM 0) (wM_whole 0) (wM 1) (wM_whole 1) (wM 2) (wM_whole 2) cc0_scratch10 cc0_scratch11 c]
  iapply (run_gather1 a.w0 KK c (evs0.drop 15) up_gather1) $$ Hrec Hlev Ho Hs0 Hs1 Hs2
  iintro Ho Hs0 Hs1 Hs2
  ihave Hs0 := (into_gather0 a.w0 c 0) $$ [Hs0 Hg00 Ha00]
  · isplitl [Hs0]; · iexact Hs0
    isplitl [Hg00]; · iexact Hg00
    iexact Ha00
  icases Hs0 with ⟨Hs0, Hz01⟩
  ihave Hs1 := (into_gather0 a.w0 c 1) $$ [Hs1 Hg10 Ha10]
  · isplitl [Hs1]; · iexact Hs1
    isplitl [Hg10]; · iexact Hg10
    iexact Ha10
  icases Hs1 with ⟨Hs1, Hz11⟩
  ihave Hs2 := (into_gather0 a.w0 c 2) $$ [Hs2 Hg20 Ha20]
  · isplitl [Hs2]; · iexact Hs2
    isplitl [Hg20]; · iexact Hg20
    iexact Ha20
  icases Hs2 with ⟨Hs2, Hz21⟩
  ihave Ho := (owes_as (l' := .cp true 0 0 :: .cp true 1 0 :: .cp true 2 0 :: evs0.drop 18) (by rfl)) $$ Ho
  rw [st15.eq oM (wM 0) (wM_whole 0) (wM 1) (wM_whole 1) (wM 2) (wM_whole 2) cc0_scratch10 cc0_scratch11 c]
  iapply (run_gather0 a.w0 KK c (evs0.drop 18) up_gather0) $$ Hrec Hlev Ho Hs0 Hs1 Hs2
  iintro Ho Hs0 Hs1 Hs2
  ihave Hs0 := (gathered a.w0 c 0) $$ Hs0
  icases Hs0 with ⟨Hw0, Hz00⟩
  ihave Hs1 := (gathered a.w0 c 1) $$ Hs1
  icases Hs1 with ⟨Hw1, Hz10⟩
  ihave Hs2 := (gathered a.w0 c 2) $$ Hs2
  icases Hs2 with ⟨Hw2, Hz20⟩
  ihave He0 := (end_all c 0) $$ [Hp00 Hp01 Hp02 Hz00 Hz01 Hz02]
  · isplitl [Hp00]; · iexact Hp00
    isplitl [Hp01]; · iexact Hp01
    isplitl [Hp02]; · iexact Hp02
    isplitl [Hz00]; · iexact Hz00
    isplitl [Hz01]; · iexact Hz01
    iexact Hz02
  ihave He1 := (end_all c 1) $$ [Hp10 Hp11 Hp12 Hz10 Hz11 Hz12]
  · isplitl [Hp10]; · iexact Hp10
    isplitl [Hp11]; · iexact Hp11
    isplitl [Hp12]; · iexact Hp12
    isplitl [Hz10]; · iexact Hz10
    isplitl [Hz11]; · iexact Hz11
    iexact Hz12
  ihave He2 := (end_all c 2) $$ [Hp20 Hp21 Hp22 Hz20 Hz21 Hz22]
  · isplitl [Hp20]; · iexact Hp20
    isplitl [Hp21]; · iexact Hp21
    isplitl [Hp22]; · iexact Hp22
    isplitl [Hz20]; · iexact Hz20
    isplitl [Hz21]; · iexact Hz21
    iexact Hz22
  -- the output
  ihave Hout := (write_start a.w0 c) $$ Hout
  rw [st16.eq oM (wM 0) (wM 1) (wM 2)]
  unfold lastStore
  iapply (run_last c) $$ [Hw0 Hw1 Hw2 Hout]
  · isplitl [Hw0]; · iexact Hw0
    isplitl [Hw1]; · iexact Hw1
    isplitl [Hw2] <;> iassumption
  iintro ⟨Hw0, Hw1, Hw2, Hout⟩
  ihave Hout := (write_end a.w0 c) $$ Hout
  simp only [wp_ret]
  imodintro
  unfold over
  ihave Ho := (owes_as (l' := []) (by rfl)) $$ Ho
  iapply Hk $$ Ho Hf [Hbar He0 He1 He2] [Hx Hwq Hwo] [HK HV] Hout [Hw0 Hw1 Hw2] [Hq Hpp Hkv]
  · isplitl [Hbar]; · iexact Hbar
    isplitl [He0]; · iexact He0
    isplitl [He1] <;> iassumption
  · isplitl [Hx]; · iexact Hx
    isplitl [Hwq] <;> iassumption
  · isplitl [HK] <;> iassumption
  · isplitl [Hw0]; · iapply hold_any $$ Hw0
    isplitl [Hw1]; · iapply hold_any $$ Hw1
    iapply hold_any $$ Hw2
  · isplitl [Hq]; · iapply hold_any $$ Hq
    isplitl [Hpp]; · iapply hold_any $$ Hpp
    iapply hold_any $$ Hkv

end Cert.KernelIdealProof

end
-- ==== Proof.KernelIdeal.Ghost.lean ====
/-
# What the launch deals

Every semaphore of the exchange gets its invariant, and every device its places, the tokens of the payments it makes and
the credit of those it receives.
-/
module

public import proofs.«01_k».proof.Proof.KernelIdeal.Body

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (W0 : (p : Fin 3) → Dev nD → (WS p).Idx → Elt F .bf16)

/-! ## Conjunctions over the semaphores -/

/-- A copy: does it gather, its part, its step. -/
abbrev XI : Type := Bool × Fin 3 × Fin 3

section
omit [FloatOps F]

theorem over_option {α : Type} [Fintype α] [DecidableEq α] (Φ : Option α → sProp 𝕄) :
    bigSep Finset.univ Φ = iprop(Φ none ∗ bigSep Finset.univ fun x => Φ (some x)) := by
  rw [bigSep_univ_at Φ none, show (Finset.univ : Finset (Option α)).erase none = Finset.univ.map Function.Embedding.some from by
    ext x; cases x <;> simp, bigSep_map]
  rfl
theorem over_bool (Φ : Bool → sProp 𝕄) : bigSep Finset.univ Φ = iprop(Φ false ∗ Φ true) :=
  bigSep_univ_eq_bigSepL [false, true] (by decide) (by decide) Φ
theorem over_three (Φ : Fin 3 → sProp 𝕄) : bigSep Finset.univ Φ = iprop(Φ 0 ∗ Φ 1 ∗ Φ 2) :=
  bigSep_univ_eq_bigSepL [0, 1, 2] (by decide) (by decide) Φ
theorem over_sides (Φ : Bool × XI → sProp 𝕄) :
    bigSep Finset.univ Φ = iprop((bigSep Finset.univ fun x => Φ (false, x)) ∗ bigSep Finset.univ fun x => Φ (true, x)) := by
  rw [bigSep_univ_prod, over_bool]
theorem over_cells (Φ : CI → sProp 𝕄) :
    bigSep Finset.univ Φ = iprop(Φ none ∗ (bigSep Finset.univ fun x : XI => Φ (some (false, x))) ∗ bigSep Finset.univ fun x : XI => Φ (some (true, x))) := by
  rw [over_option, over_sides]
/-- The copies of a phase, part by part; -/
theorem over_copies (Φ : XI → sProp 𝕄) : bigSep Finset.univ Φ
    = iprop(((Φ (false, 0, 0) ∗ Φ (false, 0, 1) ∗ Φ (false, 0, 2)) ∗ (Φ (false, 1, 0) ∗ Φ (false, 1, 1) ∗ Φ (false, 1, 2)) ∗ (Φ (false, 2, 0) ∗ Φ (false, 2, 1) ∗ Φ (false, 2, 2)))
      ∗ ((Φ (true, 0, 0) ∗ Φ (true, 0, 1) ∗ Φ (true, 0, 2)) ∗ (Φ (true, 1, 0) ∗ Φ (true, 1, 1) ∗ Φ (true, 1, 2)) ∗ (Φ (true, 2, 0) ∗ Φ (true, 2, 1) ∗ Φ (true, 2, 2)))) := by
  rw [bigSep_univ_prod, over_bool, bigSep_univ_prod, bigSep_univ_prod]
  simp only [over_three]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- The neighbour along an axis, as a permutation of the devices. -/
def parEquiv (a : Fin 3) : Dev nD ≃ Dev nD := ⟨par a, par a, par_par a, par_par a⟩

/-- What every device holds of its own at each index, it may hold of the index's neighbour instead. -/
theorem deal {β : Type} [Fintype β] (f : β → Fin 3) (Φ : β → Dev nD → sProp 𝕄) :
    (bigSep Finset.univ fun c => bigSep Finset.univ fun b => Φ b c)
      = bigSep Finset.univ fun c => bigSep Finset.univ fun b => Φ b (par (f b) c) := by
  rw [bigSep_univ_comm (fun c b => Φ b c), bigSep_univ_comm (fun c b => Φ b (par (f b) c))]
  exact bigSep_congr fun b _ => bigSep_univ_equiv (parEquiv (f b)) (Φ b)

end

/-! ## The tokens -/

theorem cell_injective : Function.Injective fun ci : Dev nD × CI => cell ci.1 ci.2 := by
  rintro ⟨c, i⟩ ⟨c', i'⟩ h
  have h1 : c = c' := congrArg (fun g : GSem nD τ sig => g.1.1) h
  have h2 : i = i' := csem_injective (congrArg Prod.snd h)
  rw [h1, h2]
def cells : Finset (GSem nD τ sig) := Finset.univ.map ⟨fun ci : Dev nD × CI => cell ci.1 ci.2, cell_injective⟩

/-- The duties of one device's semaphores. -/
abbrev TI : Type := Fin 3 ⊕ (Bool × XI)
def duty : TI → CI × Fin 3
  | .inl a => (none, a)
  | .inr x => (some x, 0)
theorem duty_injective : Function.Injective duty := by
  rintro (a | x) (b | y) h
  · exact congrArg Sum.inl (congrArg Prod.snd h)
  · exact absurd (congrArg Prod.fst h) (by simp [duty])
  · exact absurd (congrArg Prod.fst h) (by simp [duty])
  · exact congrArg Sum.inr (Option.some.inj (congrArg Prod.fst h))
def minted (x : Dev nD × TI) : GSem nD τ sig × ℕ × Fin 3 := (cell x.1 (duty x.2).1, 0, (duty x.2).2)
theorem minted_injective : Function.Injective minted := by
  rintro ⟨c, j⟩ ⟨c', j'⟩ h
  have h1 : (c, (duty j).1) = (c', (duty j').1) := cell_injective (congrArg Prod.fst h)
  have h2 : (duty j).2 = (duty j').2 := congrArg (fun x : GSem nD τ sig × ℕ × Fin 3 => x.2.2) h
  have h3 : c = c' := congrArg Prod.fst h1
  have h4 : j = j' := duty_injective (Prod.ext (congrArg Prod.snd h1) h2)
  rw [h3, h4]
def tokens : Finset (GSem nD τ sig × ℕ × Fin 3) := Finset.univ.map ⟨minted, minted_injective⟩

/-- The tokens of a device's own semaphores, -/
def toks (c : Dev nD) : sProp 𝕄 :=
  iprop((bigSep Finset.univ fun a : Fin 3 => dutyTok ER (cell c none) 0 a)
    ∗ (bigSep Finset.univ fun x : XI => dutyTok ER (cell c (some (false, x))) 0 0) ∗ bigSep Finset.univ fun x : XI => dutyTok ER (cell c (some (true, x))) 0 0)
/-- and those of the payments it makes. -/
def payToks (c : Dev nD) : sProp 𝕄 :=
  iprop((bigSep Finset.univ fun a : Fin 3 => dutyTok ER (cell (par a c) none) 0 a)
    ∗ (bigSep Finset.univ fun x : XI => dutyTok ER (cell c (some (false, x))) 0 0)
    ∗ bigSep Finset.univ fun x : XI => dutyTok ER (cell (par (ord x.2.1 x.2.2) c) (some (true, x))) 0 0)

section
omit [FloatOps F]

theorem toks_dealt : (bigSep Finset.univ fun c : Dev nD => (toks c : sProp 𝕄)) ⊢ bigSep Finset.univ fun c : Dev nD => payToks c := by
  unfold toks payToks
  rw [bigSep_sep', bigSep_sep', bigSep_sep', bigSep_sep',
    deal (fun a : Fin 3 => a) (fun a c => (dutyTok ER (cell c none) 0 a : sProp 𝕄)),
    deal (fun x : XI => ord x.2.1 x.2.2) (fun x c => (dutyTok ER (cell c (some (true, x))) 0 0 : sProp 𝕄))]

end

/-! ## The ghost state, before and after the invariants are made -/

/-- What the launch element gives device `c`: the state of its semaphores' schedules, its places, its tokens. -/
def G (c : Dev nD) : sProp 𝕄 :=
  iprop((bigSep Finset.univ fun i : CI => roundState ER (Rd W0) (cell c i) 0)
    ∗ (bigSep Finset.univ fun i : CI => iprop(atPos ER (cell c i) 0 ∅ 0 ∗ reached ER (cell c i) 0)) ∗ toks c)

theorem fund_cells : BI.own (ER (initOf cells tokens)) ⊢ (|==> bigSep Finset.univ (G W0) : sProp 𝕄) := by
  have hX (Φ : GSem nD τ sig → sProp 𝕄) : bigSep cells Φ = bigSep Finset.univ fun c : Dev nD => bigSep Finset.univ fun i : CI => Φ (cell c i) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    refine bigSep_congr fun c _ => ?_
    rw [bigSep_univ_sum, over_sides]; rfl
  iintro HX
  imod (Rounds.fund ER (Rd W0) cells tokens) $$ HX with ⟨Hst, Hr, Hat, Htok⟩
  imodintro
  ihave Hst := (Entails.of_eq (hX fun g => roundState ER (Rd W0) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The kernel's own scoped semaphores: the one its fetches complete on, and the copies'. -/
def osem : Option (Bool × XI) → SemLoc sig
  | none => fetchS
  | some x => csem (some x)

theorem ownSemFacts : Pipeline.OwnSemFacts cfg0.spec osem := by decide +kernel

section
omit [FloatOps F]

theorem ownSems0_eq (c : Dev nD) : (Pipeline.ownSems0 (Ix := Bool) (Name := ℕ) (U := UU) (Lvl := ℕ) (Val := Elt F) (τ := τ) osem c : sProp 𝕄)
    = iprop(semVal ((c : Thread nD τ), fetchS) 0 ∗ (bigSep Finset.univ fun x : XI => semVal (cell c (some (false, x))) 0)
        ∗ bigSep Finset.univ fun x : XI => semVal (cell c (some (true, x))) 0) := by
  unfold Pipeline.ownSems0
  rw [over_option, over_sides]; rfl
theorem unscopedSems0_eq (c : Dev nD) : (unscopedSems0 c : sProp 𝕄) = semVal (cell c none) 0 := by
  unfold unscopedSems0; rw [bigSep_eq_bigSepL_of_eq [SemLoc.reg barS] (by decide +kernel) (by decide)]; rfl

theorem sems0 (c : Dev nD) :
    iprop(Pipeline.ownSems0 (Ix := Bool) (Name := ℕ) (U := UU) (Lvl := ℕ) (Val := Elt F) (τ := τ) osem c ∗ unscopedSems0 c)
      ⊢ (iprop(semVal ((c : Thread nD τ), fetchS) 0 ∗ bigSep Finset.univ fun i : CI => semVal (cell c i) 0) : sProp 𝕄) := by
  rw [ownSems0_eq, unscopedSems0_eq, over_cells]
  iintro ⟨⟨Hf, HS, HV⟩, HB⟩
  isplitl [Hf]; · iexact Hf
  isplitl [HB]; · iexact HB
  isplitl [HS] <;> iassumption

end

/-- The tokens of a device's payments, its places, and the semaphore of its fetches. -/
def own (c : Dev nD) : sProp 𝕄 :=
  iprop((bigSep Finset.univ fun i : CI => atPos ER (cell c i) 0 ∅ 0) ∗ payToks c ∗ semVal ((c : Thread nD τ), fetchS) 0)
/-- What every device starts from once the invariants are made. -/
def G' (c : Dev nD) : sProp 𝕄 := iprop(∃ K, records W0 K ∗ own c)

theorem core_alloc (c : Dev nD) :
    iprop(Pipeline.ownSems0 (Ix := Bool) (Name := ℕ) (U := UU) (Lvl := ℕ) (Val := Elt F) (τ := τ) osem c ∗ unscopedSems0 c ∗ G W0 c)
      ⊢ |={Set.univ}=> iprop((bigSep Finset.univ fun i : CI => iprop(∃ κ : ℕ, cellInv ER (Rd W0) κ (cell c i)))
          ∗ (bigSep Finset.univ fun i : CI => iprop(atPos ER (cell c i) 0 ∅ 0 ∗ reached ER (cell c i) 0)) ∗ toks c ∗ semVal ((c : Thread nD τ), fetchS) 0) := by
  unfold G
  iintro ⟨Hos, Hus, Hst, Hat, Htok⟩
  ihave Hv := (sems0 (F := F) c) $$ [Hos Hus]
  · isplitl [Hos] <;> iassumption
  icases Hv with ⟨Hf, Hv⟩
  imod (show iprop((bigSep Finset.univ fun i : CI => semVal (cell c i) 0) ∗ bigSep Finset.univ fun i : CI => roundState ER (Rd W0) (cell c i) 0)
      ⊢ (|={Set.univ}=> bigSep Finset.univ fun i : CI => iprop(∃ κ : ℕ, cellInv ER (Rd W0) κ (cell c i)) : sProp 𝕄) from by
        rw [← bigSep_sep']
        exact (bigSep_mono fun i _ => (Rounds.body_intro ER (Rd W0) (cell c i)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem regroup :
    (bigSep Finset.univ fun c : Dev nD => iprop((bigSep Finset.univ fun i : CI => iprop(∃ κ : ℕ, cellInv ER (Rd W0) κ (cell c i)))
          ∗ (bigSep Finset.univ fun i : CI => iprop(atPos ER (cell c i) 0 ∅ 0 ∗ reached ER (cell c i) 0)) ∗ toks c ∗ semVal ((c : Thread nD τ), fetchS) 0) : sProp 𝕄)
      ⊢ bigSep Finset.univ (G' W0) := by
  rw [bigSep_sep', bigSep_sep', bigSep_sep', ← bigSep_univ_prod (fun ci : Dev nD × CI => iprop(∃ κ : ℕ, cellInv ER (Rd W0) κ (cell ci.1 ci.2))),
    bigSep_congr (s := Finset.univ) (fun (c : Dev nD) _ => bigSep_sep' Finset.univ (fun i : CI => (atPos ER (cell c i) 0 ∅ 0 : sProp 𝕄)) (fun i => reached ER (cell c i) 0)),
    bigSep_sep', ← bigSep_univ_prod (fun ci : Dev nD × CI => (reached ER (cell ci.1 ci.2) 0 : sProp 𝕄))]
  iintro ⟨HI, ⟨Hat, #HR⟩, Htok, Hf⟩
  ihave HK := (BI.bigSep_exists_pi Finset.univ (fun (ci : Dev nD × CI) (κ : ℕ) => (cellInv ER (Rd W0) κ (cell ci.1 ci.2) : sProp 𝕄))) $$ HI
  icases HK with ⟨%K, #HI⟩
  ihave Htk := (toks_dealt (F := F)) $$ Htok
  iapply (with_persistent (R := records W0 K) (Φ := own) (Ψ := G' W0) fun c _ => by
    unfold G'; iintro ⟨H1, H2⟩; iexists K; isplitl [H1] <;> iassumption)
  isplitr
  · unfold records; isplitl; · iexact HI
    iexact HR
  · unfold own
    rw [bigSep_sep', bigSep_sep']
    isplitl [Hat]; · iexact Hat
    isplitl [Htk] <;> iassumption

/-- Every device's semaphores at once. -/
theorem glob : (bigSep Finset.univ fun c => iprop(Pipeline.ownSems0 (Ix := Bool) (Name := ℕ) (U := UU) (Lvl := ℕ) (Val := Elt F) (τ := τ) osem c ∗ unscopedSems0 c ∗ G W0 c) : sProp 𝕄)
    ⊢ |={Set.univ}=> bigSep Finset.univ (G' W0) :=
  ((bigSep_mono fun c _ => core_alloc W0 c).trans (bigSep_fupd _ _)).trans (BI.fupd_mono (regroup W0))

/-! ## The credit -/

section
omit [FloatOps F]

theorem launch_credits (c : Dev nD) (l : List Ev) :
    (Pipeline.launchCred (fun d => owed d l) c : sProp 𝕄) ⊢ bigSepL l fun e => cred (tallyAt (cell c e.ci) true (amtOf e.ci)) := by
  induction l with
  | nil => exact Entails.of_eq (Pipeline.launchCred_zero c)
  | cons e l ih =>
    have hb : (Pipeline.launchCred (fun d => owed d (e :: l)) c : sProp 𝕄)
        = iprop(Pipeline.launchCred (fun d => owed d l) c ∗ Pipeline.launchCred (fun d => due d e) c) := Pipeline.launchCred_add _ _ c
    have h1 := Pipeline.launchCred_tallyAt (τ := τ) (Val := Elt F) (Name := ℕ) (U := UU) (Lvl := ℕ) (csem e.ci) (par e.ax) (par e.ax) (par_par _) (par_par _) true (amtOf e.ci) c
    have hc : (iprop(cred (tallyAt (cell c e.ci) true (amtOf e.ci)) ∗ bigSepL l fun e => cred (tallyAt (cell c e.ci) true (amtOf e.ci))) : sProp 𝕄)
        ⊢ bigSepL (e :: l) fun e => cred (tallyAt (cell c e.ci) true (amtOf e.ci)) := by
      cases l with
      | nil => rw [bigSepL_singleton]; iintro ⟨H, -⟩; iexact H
      | cons e' l => exact .rfl
    rw [hb]
    iintro ⟨H1, H2⟩
    iapply hc
    isplitl [H2]
    · iapply h1; iexact H2
    iapply ih; iexact H1

theorem three_units (c : Dev nD) : (iprop(cred (tallyAt (cell c none) true 1) ∗ cred (tallyAt (cell c none) true 1) ∗ cred (tallyAt (cell c none) true 1)) : sProp 𝕄)
    ⊢ cred (tallyAt (cell c none) true 3) := by
  have e : (tallyAt (cell c none) true 3 : CellTallies nD τ sig Bool) = tallyAt (cell c none) true 1 + (tallyAt (cell c none) true 1 + tallyAt (cell c none) true 1) := by
    rw [tallyAt_add, tallyAt_add]
  rw [e]
  exact (sep_mono_right (cred_add _ _).2).trans (cred_add _ _).2

end

end Cert.KernelIdealProof

end
-- ==== Proof.KernelIdeal.Run.lean ====
/-
# The run of all the devices

The proof data of the pipeline, its body obligation, and the run: every device ends with the sums in its result, the
arguments unchanged and every semaphore at zero.
-/
module

public import proofs.«01_k».proof.Proof.KernelIdeal.Ghost
public import Idealize.ShloMosaic.Lib.Pipeline.FrameBody
public import Idealize.ShloMosaic.Lib.Pipeline.CollectiveSegs

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

open Idealize.ShloMosaic.Pipeline (Dat Cfg Window BodyObligation)

/-! ## A device's place out of what the launch deals -/

section
omit [FloatOps F]

theorem over_evs (Φ : Ev → sProp 𝕄) : bigSepL evs Φ ⊢ iprop(Φ (.bar 0) ∗ Φ (.bar 1) ∗ Φ (.bar 2)
    ∗ Φ (.cp false 0 0) ∗ Φ (.cp false 1 0) ∗ Φ (.cp false 2 0) ∗ Φ (.cp false 0 1) ∗ Φ (.cp false 1 1) ∗ Φ (.cp false 2 1) ∗ Φ (.cp false 0 2) ∗ Φ (.cp false 1 2) ∗ Φ (.cp false 2 2)
    ∗ Φ (.cp true 0 2) ∗ Φ (.cp true 1 2) ∗ Φ (.cp true 2 2) ∗ Φ (.cp true 0 1) ∗ Φ (.cp true 1 1) ∗ Φ (.cp true 2 1) ∗ Φ (.cp true 0 0) ∗ Φ (.cp true 1 0) ∗ Φ (.cp true 2 0)) :=
  Entails.of_eq rfl

theorem credits (c : Dev nD) : (Pipeline.launchCred (fun d => owed d evs) c : sProp 𝕄)
    ⊢ iprop(cred (tallyAt (cell c none) true 3) ∗ bigSep Finset.univ fun x : XI => cred (tallyAt (cell c (some (true, x))) true (N x.2.1 x.2.2))) := by
  refine ((launch_credits c evs).trans (over_evs _)).trans ?_
  rw [over_copies]
  iintro ⟨H0, H1, H2, R00, R10, R20, R01, R11, R21, R02, R12, R22, G02, G12, G22, G01, G11, G21, G00, G10, G20⟩
  isplitl [H0 H1 H2]
  · iapply (three_units c)
    isplitl [H0]; · iexact H0
    isplitl [H1]; · iexact H1
    iexact H2
  isplitl [R00 R10 R20 R01 R11 R21 R02 R12 R22]
  · isplitl [R00 R01 R02]
    · isplitl [R00]; · iexact R00
      isplitl [R01]; · iexact R01
      iexact R02
    isplitl [R10 R11 R12]
    · isplitl [R10]; · iexact R10
      isplitl [R11]; · iexact R11
      iexact R12
    isplitl [R20]; · iexact R20
    isplitl [R21]; · iexact R21
    iexact R22
  isplitl [G00 G01 G02]
  · isplitl [G00]; · iexact G00
    isplitl [G01]; · iexact G01
    iexact G02
  isplitl [G10 G11 G12]
  · isplitl [G10]; · iexact G10
    isplitl [G11]; · iexact G11
    iexact G12
  isplitl [G20]; · iexact G20
  isplitl [G21]; · iexact G21
  iexact G22

theorem place_intro (c : Dev nD) :
    iprop((bigSep Finset.univ fun i : CI => atPos ER (cell c i) 0 ∅ 0) ∗ payToks c ∗ Pipeline.launchCred (fun d => owed d evs) c) ⊢ (place c : sProp 𝕄) := by
  have hr : (iprop((bigSep Finset.univ fun x : XI => dutyTok ER (cell c (some (false, x))) 0 0)
        ∗ (bigSep Finset.univ fun x : XI => dutyTok ER (cell (par (ord x.2.1 x.2.2) c) (some (true, x))) 0 0)
        ∗ (bigSep Finset.univ fun x : XI => atPos ER (cell c (some (false, x))) 0 ∅ 0) ∗ (bigSep Finset.univ fun x : XI => atPos ER (cell c (some (true, x))) 0 ∅ 0)
        ∗ bigSep Finset.univ fun x : XI => cred (tallyAt (cell c (some (true, x))) true (N x.2.1 x.2.2))) : sProp 𝕄)
      ⊢ bigSep Finset.univ fun x : XI => ready c x.1 x.2.1 x.2.2 := by
    rw [← bigSep_sep', ← bigSep_sep', ← bigSep_sep', ← bigSep_sep']
    exact .rfl
  rw [over_copies (fun x : XI => ready c x.1 x.2.1 x.2.2)] at hr
  unfold payToks
  rw [over_cells, over_three]
  iintro ⟨⟨Hb, HaS, HaR⟩, ⟨Ht, HtS, HtR⟩, Hc⟩
  ihave Hc := (credits c) $$ Hc
  icases Hc with ⟨H3, Hc⟩
  ihave Hr := hr $$ [HaS HaR HtS HtR Hc]
  · isplitl [HtS]; · iexact HtS
    isplitl [HtR]; · iexact HtR
    isplitl [HaS]; · iexact HaS
    isplitl [HaR] <;> iassumption
  icases Hr with ⟨⟨⟨R00, R01, R02⟩, ⟨R10, R11, R12⟩, R20, R21, R22⟩, ⟨G00, G01, G02⟩, ⟨G10, G11, G12⟩, G20, G21, G22⟩
  unfold place ready3
  isplitl [Ht]; · iexact Ht
  isplitl [H3]; · iexact H3
  isplitl [Hb]; · iexact Hb
  isplitl [R00 R10 R20]
  · isplitl [R00]; · iexact R00
    isplitl [R10] <;> iassumption
  isplitl [R01 R11 R21]
  · isplitl [R01]; · iexact R01
    isplitl [R11] <;> iassumption
  isplitl [R02 R12 R22]
  · isplitl [R02]; · iexact R02
    isplitl [R12] <;> iassumption
  isplitl [G02 G12 G22]
  · isplitl [G02]; · iexact G02
    isplitl [G12] <;> iassumption
  isplitl [G01 G11 G21]
  · isplitl [G01]; · iexact G01
    isplitl [G11] <;> iassumption
  isplitl [G00]; · iexact G00
  isplitl [G10] <;> iassumption

/-! ## Whole buffers -/

theorem owns_hold {sp : Space} {s : Shape} {e : EltTy} (c : Dev nD) (M : Memref sig .tc sp s e) (X : s.Idx → Elt F e) :
    (owns (Ix := Bool) (Name := ℕ) (U := UU) (Lvl := ℕ) (c : Thread nD τ) M fullShare X : sProp 𝕄) = hold c M Finset.univ X := hold_univ_eq.symm

theorem hold_whole (c : Dev nD) (b : Ref sig .tc) (X : b.ty.Contents (Elt F)) :
    (hold c (Memref.whole b) Finset.univ X : sProp 𝕄) = iprop(((c : Thread nD τ).loc b) ↦{fullShare} X) := by
  rw [hold_univ_eq]
  simp only [Memref.view_whole, View.read_whole, View.set_whole]
  have h1 : (iprop(∃ f : Buf (Elt F) ((c : Thread nD τ).loc b), ⌜f = X⌝ ∗ (((c : Thread nD τ).loc b) ↦{fullShare} f)) : sProp 𝕄) ⊢ iprop(((c : Thread nD τ).loc b) ↦{fullShare} X) := by
    iintro ⟨%f, %hf, H⟩; subst hf; iexact H
  have h2 : (iprop(((c : Thread nD τ).loc b) ↦{fullShare} X) : sProp 𝕄) ⊢ iprop(∃ f : Buf (Elt F) ((c : Thread nD τ).loc b), ⌜f = X⌝ ∗ (((c : Thread nD τ).loc b) ↦{fullShare} f)) := by
    iintro H; iexists X; isplitr; · (ipureintro; rfl)
    iexact H
  exact BI.Entails.antisymm h1 h2
theorem any_whole (c : Dev nD) (b : Ref sig .tc) :
    (holdAny c (Memref.whole b) Finset.univ : sProp 𝕄) = iprop(∃ f : Buf (Elt F) ((c : Thread nD τ).loc b), ((c : Thread nD τ).loc b) ↦{fullShare} f) := by
  unfold holdAny
  exact congrArg BIBase.exists (funext fun f => hold_whole c b f)

end

/-! ## The proof data -/

section Data
variable (m : (ℓ : Loc nD τ sig) → Buf (Elt F) ℓ) (ρ : Dev nD → PrngReg)

/-- The arguments as launched. -/
def args : Args F where
  X c := (win0_0.blk (0 : Fin 1)).view.read (Elt F) (m ((c : Thread nD τ).loc main_arg0))
  Wq c := (win0_1.blk (0 : Fin 1)).view.read (Elt F) (m ((c : Thread nD τ).loc main_arg1))
  K c := m ((c : Thread nD τ).loc main_arg2)
  V c := m ((c : Thread nD τ).loc main_arg3)
  Wo c := (win0_2.blk (0 : Fin 1)).view.read (Elt F) (m ((c : Thread nD τ).loc main_arg4))

/-- What a device's body starts from, besides its windows, -/
def start (c : Dev nD) : sProp 𝕄 :=
  iprop(G' (args m).w0 c ∗ Pipeline.launchCred (fun d => owed d evs) c ∗ levAts L lv ∗ far (args m) c)
def before (c : Dev nD) : sProp 𝕄 := iprop(start m c ∗ works (F := F) c ∗ lands (F := F) c ∗ temps (F := F) c)
/-- and ends with. -/
def after (c : Dev nD) : sProp 𝕄 := iprop(semVal ((c : Thread nD τ), fetchS) 0 ∗ over (F := F) c ∗ far (args m) c ∗ works (F := F) c ∗ temps (F := F) c)

def dats (_ : Fin 1) (c : Dev nD) : Dat τ (Elt F) Bool ℕ UU ℕ cfg0 c where
  A w := (s₀ m ρ).mem ((cfg0.win w).arr.view.loc (c : Thread nD τ))
  after w _ := match w with
    | ⟨0, _⟩ => (args m).X c
    | ⟨1, _⟩ => (args m).Wq c
    | ⟨2, _⟩ => (args m).Wo c
    | ⟨3, _⟩ => Out (args m).w0
  Φ t := match t with
    | ⟨0, _⟩ => before m c
    | ⟨_ + 1, _⟩ => after m c
  q _ := fullShare
  owed t := match t with
    | ⟨0, _⟩ => owed c evs
    | ⟨_ + 1, _⟩ => 0

theorem before_x (c : Dev nD) (t : Fin cfg0.N) (d) : (dats m ρ 0 c).before (0 : Fin 4) t d = (args m).X c := by
  rw [fin_N0 t]; unfold Dat.before; rw [if_pos (fetch0_0 _)]; rfl
theorem before_wq (c : Dev nD) (t : Fin cfg0.N) (d) : (dats m ρ 0 c).before (1 : Fin 4) t d = (args m).Wq c := by
  rw [fin_N0 t]; unfold Dat.before; rw [if_pos (fetch0_1 _)]; rfl
theorem before_wo (c : Dev nD) (t : Fin cfg0.N) (d) : (dats m ρ 0 c).before (2 : Fin 4) t d = (args m).Wo c := by
  rw [fin_N0 t]; unfold Dat.before; rw [if_pos (fetch0_2 _)]; rfl

/-- A device's windows before its body, -/
def ins (c : Dev nD) : sProp 𝕄 := iprop(reads (args m) c ∗ holdAny (F := F) c oM Finset.univ)
/-- and after. -/
def outs (c : Dev nD) : sProp 𝕄 := iprop(reads (args m) c ∗ hold c oM Finset.univ (Out (args m).w0))

theorem sound_body (c : Dev nD) :
    iprop(before m c ∗ ow c evs ∗ ins m c)
      ⊢ wpk c (cc0_body (F := F) xM (hstage0_0 0) wqM (hstage0_1 0) woM (hstage0_2 0) kM (Memref.isWhole_whole _) vM (Memref.isWhole_whole _) oM (hstage0_3 0) (wM 0) (wM_whole 0) (wM 1) (wM_whole 1) (wM 2) (wM_whole 2) (rM 0) (rM_whole 0) (rM 1) (rM_whole 1) (rM 2) (rM_whole 2) qM (Memref.isWhole_whole _) ppM (Memref.isWhole_whole _) kvM (Memref.isWhole_whole _) cc0_scratch9 cc0_scratch10 cc0_scratch11)
          fun _ => iprop(after m c ∗ ow c [] ∗ outs m c) := by
  unfold before start G' own ins
  iintro ⟨⟨⟨⟨%K, #Hrec, Hat, Htok, Hf⟩, Hcr, #Hlev, Hfar⟩, Hw, Hl, Ht⟩, Ho, Hr, Hout⟩
  ihave Hp := (place_intro c) $$ [Hat Htok Hcr]
  · isplitl [Hat]; · iexact Hat
    isplitl [Htok] <;> iassumption
  iapply (run_body (args m) K c (Q := fun _ => iprop(after m c ∗ ow c [] ∗ outs m c))) $$ Hrec Hlev Ho Hp Hf Hr Hfar Hout Hw Hl Ht
  iintro Ho Hf Hov Hr Hfar Hout Hw Ht
  unfold after outs
  isplitl [Hf Hov Hfar Hw Ht]
  · isplitl [Hf]; · iexact Hf
    isplitl [Hov]; · iexact Hov
    isplitl [Hfar]; · iexact Hfar
    isplitl [Hw] <;> iassumption
  isplitl [Ho]; · iexact Ho
  isplitl [Hr] <;> iassumption

theorem body_obligation (c : Dev nD) : BodyObligation (dats (F := F) m ρ 0 c) (defs₀ (F := F)) 𝒱₀ false Set.univ := fun t => by
  refine triple_restated (sound_body m c) ?_ ?_ fun _ => ?_
  · rw [fin_N0 t]; rfl
  · rw [bigSep_W0]
    dsimp only
    simp only [owns_hold, before_x, before_wq, before_wo]
    rw [fin_N0 t]
    unfold ins reads
    iintro ⟨HΦ, ⟨%W, %hW, Ho⟩, ⟨%d0, H0⟩, ⟨%d1, H1⟩, ⟨%d2, H2⟩, ⟨%d3, H3⟩⟩
    isplitl [HΦ]; · iapply (Entails.of_eq (show (dats m ρ 0 c).Φ t0_0.castSucc = before m c from rfl)); iexact HΦ
    isplitl [Ho]; · unfold ow; iexists W; iexact Ho
    isplitl [H0 H1 H2]
    · isplitl [H0]; · iexact H0
      isplitl [H1] <;> iassumption
    unfold holdAny; iexists _; iexact H3
  · rw [bigSep_W0]
    rw [fin_N0 t]
    dsimp only
    unfold ow outs reads
    iintro ⟨HΦ, ⟨%W, Ho⟩, ⟨H0, H1, H2⟩, H3⟩
    isplitl [HΦ]; · iapply (Entails.of_eq (show after m c = (dats m ρ 0 c).Φ t0_0.succ from rfl)); iexact HΦ
    isplitl [Ho]
    · iexists W
      isplitr; · (ipureintro; exact fun _ _ => Or.inl trivial)
      iexact Ho
    isplitl [H0]; · iapply (Entails.of_eq (owns_hold c xM ((args m).X c)).symm); iexact H0
    isplitl [H1]; · iapply (Entails.of_eq (owns_hold c wqM ((args m).Wq c)).symm); iexact H1
    isplitl [H2]; · iapply (Entails.of_eq (owns_hold c woM ((args m).Wo c)).symm); iexact H2
    iapply (Entails.of_eq (owns_hold c oM (Out (args m).w0)).symm); iexact H3

/-! ## The launch's sides -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), (initOf cells tokens, 1))

theorem far_eq (c : Dev nD) : (far (args m) c : sProp 𝕄) = iprop((((c : Thread nD τ).loc main_arg2) ↦{fullShare} m ((c : Thread nD τ).loc main_arg2))
    ∗ (((c : Thread nD τ).loc main_arg3) ↦{fullShare} m ((c : Thread nD τ).loc main_arg3))) := by
  unfold far
  exact congrArg₂ BIBase.sep (hold_whole c main_arg2 _) (hold_whole c main_arg3 _)

theorem start_intro (c : Dev nD) :
    iprop(Pipeline.unscopedRestP Pipeline.Prefetch.none cfg0.spec c (fun b => m ((c : Thread nD τ).loc b)) ∗ levAts L lv
        ∗ Pipeline.launchCred (fun d => owed d evs) c ∗ prngReg c (ρ c) ∗ G' (args m).w0 c)
      ⊢ |={Set.univ}=> iprop(start m c ∗ emp) := by
  rw [Pipeline.unscopedRestP_none, show cfg0.spec = spec0 from rfl, unscopedRest0_eq]
  iintro ⟨Hfar, Hlev, Hcr, -, HG⟩
  imodintro
  unfold start
  rw [far_eq]
  isplitl
  · isplitl [HG]; · iexact HG
    isplitl [Hcr]; · iexact Hcr
    isplitl [Hlev] <;> iassumption
  · iempintro

theorem bufs_eq (c : Dev nD) : (Pipeline.scopedRest cfg0.spec c : sProp 𝕄) = iprop((holdAny (F := F) c (wM 0) Finset.univ) ∗ (holdAny (F := F) c (wM 1) Finset.univ) ∗ (holdAny (F := F) c (wM 2) Finset.univ)
    ∗ (holdAny (F := F) c (rM 0) Finset.univ) ∗ (holdAny (F := F) c (rM 1) Finset.univ) ∗ (holdAny (F := F) c (rM 2) Finset.univ)
    ∗ (holdAny (F := F) c qM Finset.univ) ∗ (holdAny (F := F) c ppM Finset.univ) ∗ (holdAny (F := F) c kvM Finset.univ)) := by
  rw [show cfg0.spec = spec0 from rfl, scopedRest0_eq, ← any_whole, ← any_whole, ← any_whole, ← any_whole, ← any_whole, ← any_whole, ← any_whole, ← any_whole, ← any_whole]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, bufs_eq]
  unfold before works lands temps
  iintro ⟨Hs, -, H0, H1, H2, H3, H4, H5, H6, H7, H8⟩
  isplitl [Hs]; · iexact Hs
  isplitl [H0 H1 H2]
  · isplitl [H0]; · iexact H0
    isplitl [H1] <;> iassumption
  isplitl [H3 H4 H5]
  · isplitl [H3]; · iexact H3
    isplitl [H4] <;> iassumption
  isplitl [H6]; · iexact H6
  isplitl [H7] <;> iassumption

/-- A device's copies' semaphores back at zero, with its barrier's and its landing buffers. -/
theorem over_eq (c : Dev nD) : (over (F := F) c : sProp 𝕄)
    ⊢ iprop(semVal (cell c none) 0 ∗ lands (F := F) c ∗ (bigSep Finset.univ fun x : XI => semVal (cell c (some (false, x))) 0) ∗ bigSep Finset.univ fun x : XI => semVal (cell c (some (true, x))) 0) := by
  rw [← bigSep_sep', over_copies]
  unfold over ended lands zero2
  iintro ⟨Hb, ⟨⟨R00, R01, R02, G00, G01, G02⟩, L0⟩, ⟨⟨R10, R11, R12, G10, G11, G12⟩, L1⟩, ⟨R20, R21, R22, G20, G21, G22⟩, L2⟩
  isplitl [Hb]; · iexact Hb
  isplitl [L0 L1 L2]
  · isplitl [L0]; · iexact L0
    isplitl [L1] <;> iassumption
  isplitl [R00 R10 R20 R01 R11 R21 R02 R12 R22]
  · isplitl [R00 R01 R02]
    · isplitl [R00]; · iexact R00
      isplitl [R01] <;> iassumption
    isplitl [R10 R11 R12]
    · isplitl [R10]; · iexact R10
      isplitl [R11] <;> iassumption
    isplitl [R20]; · iexact R20
    isplitl [R21] <;> iassumption
  isplitl [G00 G01 G02]
  · isplitl [G00]; · iexact G00
    isplitl [G01] <;> iassumption
  isplitl [G10 G11 G12]
  · isplitl [G10]; · iexact G10
    isplitl [G11] <;> iassumption
  isplitl [G20]; · iexact G20
  isplitl [G21] <;> iassumption

theorem phi1_exit (c : Dev nD) :
    (dats m ρ 0 c).Φ (Fin.last cfg0.N) ⊢ iprop((unscopedSems0 c ∗ far (args m) c) ∗ Pipeline.ownSems0 osem c ∗ Pipeline.scopedRest cfg0.spec c) := by
  rw [show (dats m ρ 0 c).Φ (Fin.last cfg0.N) = after m c from rfl, bufs_eq, ownSems0_eq, unscopedSems0_eq]
  unfold after works temps
  iintro ⟨Hf, Hov, Hfar, ⟨H0, H1, H2⟩, H6, H7, H8⟩
  ihave Hov := (over_eq (F := F) c) $$ Hov
  unfold lands
  icases Hov with ⟨Hb, ⟨H3, H4, H5⟩, HS, HR⟩
  isplitl [Hb Hfar]
  · isplitl [Hb] <;> iassumption
  isplitl [Hf HS HR]
  · isplitl [Hf]; · iexact Hf
    isplitl [HS] <;> iassumption
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7] <;> iassumption

theorem stage_wait (c : Dev nD) (l : List Ev) (q : SemLoc sig) :
    (levAts L lv : sProp 𝕄) ⊢ MayWait (c : Thread nD τ) q false (owed c l) := by
  refine (mayWaits_local c l).trans ?_
  unfold Transfers.MayWaits
  exact BI.BIClass.forall_elim q

theorem waits (c : Dev nD) : (levAts L lv : sProp 𝕄) ⊢ Pipeline.cellsWaits cfgs (dats m ρ) false 0 c :=
  Pipeline.cellsWaits_intro cfgs (dats m ρ) false 0 c fun w s t => by
    rcases t with ⟨_ | _, ht⟩
    · exact stage_wait (F := F) c evs _
    · exact stage_wait (F := F) c [] _

/-! ## The run -/

def finalA (c : Dev nD) (w : Fin cfg0.W) : Buf (Elt F) ((cfg0.win w).arr.view.loc (c : Thread nD τ)) := (dats m ρ 0 c).arrAt w cfg0.N

/-- The windows' arrays end at the computed contents, the two arguments left in far memory as they were. -/
def Ends : PUnit × MemSt nD τ sig (Elt F) → Prop := fun r => ∀ c : Dev nD,
  (∀ w : Fin cfg0.W, r.2.mem ((cfg0.win w).arr.view.loc (c : Thread nD τ)) = finalA m ρ c w)
  ∧ r.2.mem ((c : Thread nD τ).loc main_arg2) = m ((c : Thread nD τ).loc main_arg2)
  ∧ r.2.mem ((c : Thread nD τ).loc main_arg3) = m ((c : Thread nD τ).loc main_arg3)

theorem read_far (c : Dev nD) (s' : Phys nD τ sig (Elt F)) :
    (iprop(far (args m) c ∗ SI s') : sProp 𝕄) ⊢ iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') := by
  rw [far_eq]
  iintro ⟨⟨H0, H1⟩, HSI⟩
  icombine HSI H0 gives %h0
  icombine HSI H1 gives %h1
  isplitr; · (ipureintro; exact ⟨Buf.eq_of_forall_mem_univ h0, Buf.eq_of_forall_mem_univ h1⟩)
  iexact HSI

set_option maxRecDepth 60000 in
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) false cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := fun d => owed d evs) (howed₀ := fun _ => rfl) (howedN := fun _ => rfl)
    (L := L) (lv := lv) (hL := L_of_ne) (hwaits := waits m ρ)
    (G := G (args m).w0) (G' := G' (args m).w0) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_cells (args m).w0) $$ HX with HG
      imodintro
      isplitl [HP] <;> iassumption)
    (hglob := glob (args m).w0)
    (hA := fun _ _ => rfl) (hpf := fun _ k => k.elim0)
    (X := start m) (Y := fun c => iprop(unscopedSems0 c ∗ far (args m) c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      iintro ⟨⟨Hu, Hfar⟩, -, HSI⟩
      ihave H := (read_far m c s') $$ [Hfar HSI]
      · isplitl [Hfar] <;> iassumption
      icases H with ⟨%h, HSI⟩
      imod (Pipeline.unscopedSems0_read (X := unscopedSems0 c) (c := c) fupd_intro s') $$ [Hu HSI] with ⟨%hs, HSI⟩
      · isplitl [Hu] <;> iassumption
      imodintro
      isplitr; · (ipureintro; exact ⟨hs, h⟩)
      iexact HSI)
    (hQ := fun _ h hs => ⟨fun c => ⟨(h c).1, (h c).2.2.2⟩, sem_eq_zero hs fun c => (h c).2.2.1⟩)

end Data

end Cert.KernelIdealProof

end
-- ==== Proof.KernelIdeal.Result.lean ====
/-
# What the run leaves

The arguments as they were, the semaphores at zero, and each device's result array at the sums.
-/
module

public import proofs.«01_k».proof.Proof.KernelIdeal.Run
public import Idealize.ShloMosaic.Lib.Pipeline.Value

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Bool (Elt F) ℕ UU ℕ

variable (m : (ℓ : Loc nD τ sig) → Buf (Elt F) ℓ) (ρ : Dev nD → PrngReg)

theorem unchanged {r : PUnit × MemSt nD τ sig (Elt F)} (h : Ends m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 (0 : Fin 4)).trans ((dats m ρ 0 c).arrAt_in (0 : Fin 4) rfl _), ((h c).1 (1 : Fin 4)).trans ((dats m ρ 0 c).arrAt_in (1 : Fin 4) rfl _),
    (h c).2.1, (h c).2.2, ((h c).1 (2 : Fin 4)).trans ((dats m ρ 0 c).arrAt_in (2 : Fin 4) rfl _)⟩

/-- A block that is the whole array reads the array. -/
theorem X_eq (c : Dev nD) : (args m).X c = m ((c : Thread nD τ).loc main_arg0) := by
  funext x
  exact congrArg (m ((c : Thread nD τ).loc main_arg0)) (funext fun a => Fin.ext (by fin_cases a <;> exact (Nat.zero_add _).trans (Nat.one_mul _)))
theorem Wq_eq (c : Dev nD) : (args m).Wq c = m ((c : Thread nD τ).loc main_arg1) := by
  funext x
  exact congrArg (m ((c : Thread nD τ).loc main_arg1)) (funext fun a => Fin.ext (by fin_cases a <;> exact (Nat.zero_add _).trans (Nat.one_mul _)))
theorem Wo_eq (c : Dev nD) : (args m).Wo c = m ((c : Thread nD τ).loc main_arg4) := by
  funext x
  exact congrArg (m ((c : Thread nD τ).loc main_arg4)) (funext fun a => Fin.ext (by fin_cases a <;> exact (Nat.zero_add _).trans (Nat.one_mul _)))

/-- The result's one block is the whole array, index by index. -/
theorem blk_emb (t : Fin cfg0.N) (x : S4x256x1024.Idx) : ((cfg0.win (3 : Fin 4)).blk t).view.emb x = x := by
  obtain rfl := fin_N0 t
  exact funext fun a => Fin.ext (by fin_cases a <;> exact (Nat.zero_add _).trans (Nat.one_mul _))

/-- The result array ends at the sums. -/
theorem finalA_out (c : Dev nD) : finalA m ρ c (3 : Fin 4) = Out (args m).w0 := by
  refine (dats m ρ 0 c).arrAt_eq_of_cover (3 : Fin 4) (Out (args m).w0) (fun t _ => ?_) fun i => ?_
  · obtain rfl := fin_N0 t
    funext x
    exact (congrArg (Out (args m).w0) (blk_emb t0_0 x)).symm
  · refine ⟨t0_0, flush0_3 _, ?_⟩
    have h := ((cfg0.win (3 : Fin 4)).blk t0_0).view.emb_mem_set i
    rwa [blk_emb] at h

theorem results {r : PUnit × MemSt nD τ sig (Elt F)} (h : Ends m ρ r) (c : Dev nD) :
    r.2.mem ((c.tc : Thread nD τ).loc main_v1) = Out (args m).w0 := ((h c).1 (3 : Fin 4)).trans (finalA_out m ρ c)

end Cert.KernelIdealProof

end
-- ==== Proof.Kernel.Flat.lean ====
/-
# The kernel's body as one list of effects
-/
module

public import proofs.«01_k».proof.Proof.Kernel.Base

public import Idealize.ShloMosaic.Lib.Tactic.OpenCalls

@[expose] public section

set_option maxRecDepth 16000

noncomputable section

namespace Cert.KernelProof

open Cert.Kernel Cert.Kernel.Gen

open Idealize.ShloMosaic

set_option maxHeartbeats 2000000 in
open_calls flat := k0_part55 [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54]

end Cert.KernelProof

end
-- ==== Proof.Kernel.Cuts.lean ====
/-
# The kernel's effects, cut into stretches
-/
module

public import proofs.«01_k».proof.Proof.Kernel.Flat
public import Idealize.ShloMosaic.Lib.Tactic.Stretches

@[expose] public section

set_option maxRecDepth 16000

noncomputable section

namespace Cert.KernelProof

open Cert.Kernel Cert.Kernel.Gen

open Idealize.ShloMosaic

set_option maxHeartbeats 2000000 in
cut_chain st := flat at 2, 18, 22, 38, 94, 150, 154, 226, 230, 251, 272, 293, 302, 311, 320

end Cert.KernelProof

end
-- ==== Proof.Value.Softmax.lean ====
module

public import Idealize.ShloMosaic.Lib.ValueIdx
public import Idealize.ShloMosaic.Lib.IdealHost
public import Idealize.ShloMosaic.PureOps.Ideal.Laws

/-! # One row of attention, two ways

One query row has the scores `s` and one column of values `v`. The kernel divides the sum of `exp s · v` by the sum of
`exp s`; the reference first subtracts the row's maximum and carries an empty earlier block along. For real scores the two
quotients are equal, whatever the values are. -/

@[expose] public section

namespace Cert.AttnValue

open Idealize.ShloMosaic
open scoped BigOperators

noncomputable section

/-- A row as the kernel computes it. -/
def kRow {n : ℕ} (s v : Fin n → EReal) : EReal :=
  Ideal.div (∑ j, Ideal.exp (s j) * v j) (∑ j, Ideal.exp (s j))

/-- The row's maximum as the reference computes it. -/
def rMax {n : ℕ} (s : Fin n → EReal) : EReal := max ⊥ ((Finset.univ : Finset (Fin n)).fold max ⊥ s)

/-- A row as the reference computes it. -/
def rRow {n : ℕ} (s v : Fin n → EReal) : EReal :=
  Ideal.div (0 * Ideal.exp (⊥ - rMax s) + ∑ j, v j * Ideal.exp (s j - rMax s))
    (0 * Ideal.exp (⊥ - rMax s) + (0 + ∑ j, Ideal.exp (s j - rMax s)))

/-- A number is real. -/
def Fini (x : EReal) : Prop := ∃ r : ℝ, x = r

theorem Fini.mul {x y : EReal} : Fini x → Fini y → Fini (x * y)
  | ⟨a, ha⟩, ⟨b, hb⟩ => ⟨a * b, by rw [ha, hb, EReal.coe_mul]⟩

theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

theorem Fini.sum {ι : Type} [Fintype ι] {f : ι → EReal} (h : ∀ i, Fini (f i)) : Fini (∑ i, f i) := by
  choose g hg using h
  exact ⟨∑ i, g i, by rw [← coe_sum]; exact Finset.sum_congr rfl fun i _ => hg i⟩

theorem rMax_real {n : ℕ} (hn : 0 < n) (s : Fin n → ℝ) : Fini (rMax fun j => (s j : EReal)) := by
  have hle : rMax (fun j => (s j : EReal)) ≠ ⊥ := by
    intro h
    have : ((s ⟨0, hn⟩ : ℝ) : EReal) ≤ rMax fun j => (s j : EReal) :=
      le_max_of_le_right (Finset.le_fold_max _ |>.2 (Or.inr ⟨⟨0, hn⟩, Finset.mem_univ _, le_rfl⟩))
    rw [h, le_bot_iff] at this
    exact EReal.coe_ne_bot _ this
  have hlt : rMax (fun j => (s j : EReal)) < ⊤ :=
    max_lt bot_lt_top ((Finset.fold_max_lt _).2 ⟨bot_lt_top, fun j _ => EReal.coe_lt_top _⟩)
  exact ⟨_, (EReal.coe_toReal hlt.ne hle).symm⟩

/-- A positive real factor leaves a sum. -/
theorem mul_sum_of_pos {ι : Type} (t : Finset ι) (c : ℝ) (hc : 0 < c) (f : ι → EReal) :
    ∑ i ∈ t, (c : EReal) * f i = (c : EReal) * ∑ i ∈ t, f i := by
  classical
  induction t using Finset.induction_on with
  | empty => simp
  | insert a t ha ih =>
    rw [Finset.sum_insert ha, Finset.sum_insert ha, ih,
      EReal.left_distrib_of_nonneg_of_ne_top (EReal.coe_nonneg.2 hc.le) (EReal.coe_ne_top _)]

/-- Both rows are equal at real scores. -/
theorem row_eq {n : ℕ} (hn : 0 < n) (s v : Fin n → EReal) (hs : ∀ j, Fini (s j)) : rRow s v = kRow s v := by
  choose a ha using hs
  obtain rfl : s = fun j => (a j : EReal) := funext ha
  obtain ⟨r, hr⟩ := rMax_real hn a
  have hexp : ∀ j, Ideal.exp ((a j : EReal) - (r : EReal)) = ((Real.exp (-r) : ℝ) : EReal) * ((Real.exp (a j) : ℝ) : EReal) := by
    intro j
    rw [← EReal.coe_sub, ← EReal.coe_mul, ← Real.exp_add, show -r + a j = a j - r by ring]
    rfl
  have hexp' : ∀ j, Ideal.exp (a j : EReal) = ((Real.exp (a j) : ℝ) : EReal) := fun j => rfl
  have hpos : 0 < ∑ j, Real.exp (a j) :=
    Finset.sum_pos (fun j _ => Real.exp_pos _) ⟨⟨0, hn⟩, Finset.mem_univ _⟩
  have hc : 0 < Real.exp (-r) := Real.exp_pos _
  unfold rRow kRow
  rw [hr]
  simp only [zero_mul, zero_add, hexp, hexp']
  have h1 : ∑ j, v j * (((Real.exp (-r) : ℝ) : EReal) * ((Real.exp (a j) : ℝ) : EReal))
      = ((Real.exp (-r) : ℝ) : EReal) * ∑ j, ((Real.exp (a j) : ℝ) : EReal) * v j := by
    rw [← mul_sum_of_pos _ _ hc]
    exact Finset.sum_congr rfl fun j _ => by rw [mul_left_comm, mul_comm (v j)]
  rw [h1, mul_sum_of_pos _ _ hc, coe_sum]
  generalize (∑ j, ((Real.exp (a j) : ℝ) : EReal) * v j) = A
  generalize (∑ j, Real.exp (a j)) = L at hpos
  generalize Real.exp (-r) = c at hc
  have hL : (L : EReal) ≠ 0 := fun h => hpos.ne' (EReal.coe_eq_zero.1 h)
  have hcL : (c : EReal) * (L : EReal) ≠ 0 := by
    rw [← EReal.coe_mul]; exact fun h => (mul_pos hc hpos).ne' (EReal.coe_eq_zero.1 h)
  unfold Ideal.div
  rw [if_neg hL, if_neg hcL, ← EReal.coe_mul, ← EReal.coe_inv, ← EReal.coe_inv, mul_comm (c : EReal) A, mul_assoc,
    ← EReal.coe_mul]
  congr 2
  field_simp

end

end Cert.AttnValue
-- ==== Proof.Value.Spec.lean ====
module

public import proofs.«01_k».proof.Proof.Value.Softmax

/-! # The layer's mathematics

Each element of the result written as sums over the whole arrays. Query head `h` uses the keys and values of head `h / 4`. -/

@[expose] public section

namespace Cert.AttnValue

open Idealize.ShloMosaic
open Idealize.ShloMosaic.ValueIdx
open scoped BigOperators

noncomputable section

/-- The factor of the scores. -/
def SC : EReal := Ideal.ofBits .f32 0x3DB504F3#32

theorem SC_real : Fini SC := by
  unfold SC
  simp only [Ideal.ofBits, Ideal.ieee]
  rw [if_neg (by decide), if_neg (by decide)]
  exact ⟨_, rfl⟩

variable (X : (⟨3, ![4, 256, 1024]⟩ : Shape).Idx → EReal) (Wq : (⟨2, ![1024, 8192]⟩ : Shape).Idx → EReal)
  (K V : (⟨4, ![4, 1024, 16, 128]⟩ : Shape).Idx → EReal) (Wo : (⟨2, ![8192, 1024]⟩ : Shape).Idx → EReal)

/-- A query, -/
def qS (b : Fin 4) (i : Fin 256) (h : Fin 64) (f : Fin 128) : EReal :=
  ∑ k : Fin 1024, X (ix3 b i k) * Wq (ix2 k (⟨128 * h.val + f.val, by omega⟩ : Fin 8192))
/-- a score, -/
def sS (b : Fin 4) (i : Fin 256) (h : Fin 64) (j : Fin 1024) : EReal :=
  (∑ f : Fin 128, qS X Wq b i h f * K (ix4 b j (⟨h.val / 4, by omega⟩ : Fin 16) f)) * SC
/-- a head's output, -/
def oS (b : Fin 4) (i : Fin 256) (h : Fin 64) (e : Fin 128) : EReal :=
  kRow (fun j : Fin 1024 => sS X Wq K b i h j) fun j => V (ix4 b j (⟨h.val / 4, by omega⟩ : Fin 16) e)
/-- and the result. -/
def res (b : Fin 4) (i : Fin 256) (c : Fin 1024) : EReal :=
  ∑ k : Fin 8192, oS X Wq K V b i (⟨k.val / 128, by omega⟩ : Fin 64) (⟨k.val % 128, by omega⟩ : Fin 128) * Wo (ix2 k c)

/-- The scores are real when the queries' factors and the keys are. -/
theorem sS_real (hX : ∀ x, Fini (X x)) (hW : ∀ x, Fini (Wq x)) (hK : ∀ x, Fini (K x)) (b : Fin 4) (i : Fin 256) (h : Fin 64)
    (j : Fin 1024) : Fini (sS X Wq K b i h j) :=
  (Fini.sum fun f => (Fini.sum fun k => (hX _).mul (hW _)).mul (hK _)).mul SC_real

/-- A sum over the 8192 rows is a sum over the eight devices' 1024 rows. -/
theorem sum_dev (f : Fin 8192 → EReal) :
    ∑ k, f k = ∑ d : Fin 8, ∑ k : Fin 1024, f (⟨1024 * d.val + k.val, by omega⟩ : Fin 8192) := by
  rw [← Fintype.sum_prod_type', ← Equiv.sum_comp (finProdFinEquiv (m := 8) (n := 1024)) f]
  refine Finset.sum_congr rfl fun p _ => congrArg f (Fin.ext ?_)
  show p.2.val + 1024 * p.1.val = 1024 * p.1.val + p.2.val
  omega

end

end Cert.AttnValue
-- ==== Proof.Value.KernelOps.lean ====
module

public import proofs.«01_k».proof.Proof.KernelIdeal.Compute
public import proofs.«01_k».proof.Proof.Value.Spec
public import Idealize.ShloMosaic.Lib.MatmulPlain
public import Idealize.ShloMosaic.Lib.ValueLayoutCasts

/-! # The kernel's computations at an index, over the extended reals -/

set_option maxRecDepth 8000

@[expose] public section

noncomputable section

namespace Cert.KernelIdealProof

open Cert.KernelIdeal Cert.KernelIdeal.Gen Cert.AttnValue
open Idealize.ShloMosaic hiding ix0 ix1 ix2 ix3 ix4 ix5
open Idealize.ShloMosaic.ValueIdx
open scoped BigOperators

/-- A square product at an index. -/
theorem sq_apply (x y : S1024x1024.Idx → EReal) (r c : Fin 1024) :
    matmul (F := Ideal) (φ₁ := .bf16) (φ₂ := .bf16) dot_S1024x1024_S1024x1024_S1024x1024_1_0_0_1_n_n none x y
      (constant S1024x1024 .f32 0x00000000#32) (ix2 r c) = ∑ k : Fin 1024, x (ix2 r k) * y (ix2 k c) := by
  refine (Ideal.matmul_plain_apply none x y _ r c).trans ?_
  rw [constant_apply]
  show Ideal.ofBits .f32 0x00000000#32 + _ = _
  rw [Ideal.ofBits_zero_f32, zero_add]

/-- The projected queries. -/
theorem q_apply (X : S4x256x1024.Idx → EReal) (W : S1024x1024.Idx → EReal) (r c : Fin 1024) :
    k0_pay2 (F := Ideal) X W (ix2 r c)
      = ∑ k : Fin 1024, X (ix3 (⟨r.val / 256, by omega⟩ : Fin 4) (⟨r.val % 256, by omega⟩ : Fin 256) k) * W (ix2 k c) := by
  unfold k0_pay2
  simp only [shapeCast_self]
  refine (sq_apply _ _ r c).trans ?_
  refine Finset.sum_congr rfl fun k _ => ?_
  refine congrArg (· * W (ix2 k c)) ?_
  refine shapeCast_apply (s := S4x256x1024) (t := S1024x1024) X _ _ _ ?_
  rw [Shape.rowMajor_val_three, Shape.rowMajor_val_two]
  show (r.val / 256 * 256 + r.val % 256) * 1024 + k.val = r.val * 1024 + k.val
  omega

/-- A squeezed block. -/
theorem squeezed_apply (y : S1x1x1x1024x128.Idx → EReal) (j : Fin 1024) (f : Fin 128) :
    k0_pay3 (F := Ideal) y (ix2 j f) = y (ix5 (0 : Fin 1) (0 : Fin 1) (0 : Fin 1) j f) := by
  unfold k0_pay3
  refine shapeCast_apply (s := S1x1x1x1024x128) (t := S1024x128) y _ _ _ ?_
  rw [Shape.rowMajor_val_five, Shape.rowMajor_val_two]
  show (((0 * 1 + 0) * 1 + 0) * 1024 + j.val) * 128 + f.val = j.val * 128 + f.val
  omega

/-- One row and column of a head. -/
theorem head_apply (k v : S1024x128.Idx → EReal) (q : S256x128.Idx → EReal) (i : Fin 256) (e : Fin 128) :
    k0_pay7 (F := Ideal) k v q (ix2 i e)
      = kRow (fun j : Fin 1024 => (∑ f : Fin 128, q (ix2 i f) * k (ix2 j f)) * SC) (fun j => v (ix2 j e)) := by
  unfold k0_pay7
  simp only [shapeCast_self]
  have hs : ∀ j : Fin 1024, (mulf (matmul (F := Ideal) (φ₁ := .bf16) (φ₂ := .bf16) dot_S256x128_S1024x128_S256x1024_1_1_0_0_n_n none q k
      (constant S256x1024 .f32 0x00000000#32)) (broadcast S256x1024 (Scalar.ofBits (F := Ideal) .f32 0x3DB504F3#32))) (ix2 i j)
        = (∑ f : Fin 128, q (ix2 i f) * k (ix2 j f)) * SC := by
    intro j
    refine congrArg (· * SC) ((Ideal.matmul_transposedRhs_apply none q k _ i j).trans ?_)
    rw [constant_apply]
    show Ideal.ofBits .f32 0x00000000#32 + _ = _
    rw [Ideal.ofBits_zero_f32, zero_add]
  unfold kRow
  refine congrArg₂ Ideal.div ?_ ?_
  · refine (Ideal.matmul_plain_apply (φ₁ := .bf16) (φ₂ := .bf16) none _ v _ i e).trans ?_
    rw [constant_apply]
    show Ideal.ofBits .f32 0x00000000#32 + _ = _
    rw [Ideal.ofBits_zero_f32, zero_add]
    exact Finset.sum_congr rfl fun j _ => congrArg (fun z => Ideal.exp z * v (ix2 j e)) (hs j)
  · refine (broadcastTo_apply (s := S256x1) (t := S256x128) _ _ (ix2 i e) (ix2 i (0 : Fin 1)) ?_).trans ?_
    · intro a
      match a with
      | ⟨0, _⟩ => rfl
      | ⟨1, _⟩ => rfl
    · refine (shapeCast_a_a1_apply _ _ i (0 : Fin 1)).trans ?_
      refine (Ideal.multiReduction_add_single _ _ _ _ _ _).trans ?_
      refine Finset.sum_congr rfl fun j _ => ?_
      refine congrArg Ideal.exp (Eq.trans (congrArg _ ?_) (hs j))
      funext a
      apply Fin.ext
      match a with
      | ⟨0, _⟩ => rfl
      | ⟨1, _⟩ => rfl

end Cert.KernelIdealProof
-- ==== Proof.Value.KernelSide.lean ====
module

public import proofs.«01_k».proof.Proof.KernelIdeal.Result
public import proofs.«01_k».proof.Proof.Value.KernelOps

/-! # The kernel's result at an index, over the extended reals -/

set_option maxRecDepth 8000

@[expose] public section

noncomputable section

namespace Cert.KernelIdealProof

open Cert.KernelIdeal Cert.KernelIdeal.Gen Cert.AttnValue
open Idealize.ShloMosaic hiding ix0 ix1 ix2 ix3 ix4 ix5
open Idealize.ShloMosaic.ValueIdx
open scoped BigOperators

/-! ## The sums over the devices -/

/-- A device and the devices reached from it along the three axes, -/
def cube (p : Fin 3) (c : Fin 8) : Fin 8 → Fin 8 :=
  ![c, par p c, par (p + 1) c, par p (par (p + 1) c), par (p + 2) c, par p (par (p + 2) c), par (p + 1) (par (p + 2) c),
    par p (par (p + 1) (par (p + 2) c))]
/-- are all the devices. -/
theorem cube_bij : ∀ (p : Fin 3) (c : Fin 8), Function.Bijective (cube p c) := by decide

/-- Each device and its neighbours along the three axes, added pairwise, are all eight devices. -/
theorem cube_sum (g : Dev nD → EReal) (p : Fin 3) (c : Dev nD) :
    (g c + g (par p c)) + (g (par (p + 1) c) + g (par p (par (p + 1) c)))
      + ((g (par (p + 2) c) + g (par p (par (p + 2) c)))
        + (g (par (p + 1) (par (p + 2) c)) + g (par p (par (p + 1) (par (p + 2) c))))) = ∑ d : Fin 8, g d := by
  rw [← (cube_bij p c).sum_comp g, Fin.sum_univ_eight]
  show _ = g c + g (par p c) + g (par (p + 1) c) + g (par p (par (p + 1) c)) + g (par (p + 2) c) + g (par p (par (p + 2) c))
    + g (par (p + 1) (par (p + 2) c)) + g (par p (par (p + 1) (par (p + 2) c)))
  simp only [add_assoc]

theorem axis0 : ∀ p : Fin 3, p + Fin.ofNat 3 0 = p := by decide
theorem axis1 : ∀ p : Fin 3, p + Fin.ofNat 3 1 = p + 1 := by decide
theorem axis2 : ∀ p : Fin 3, p + Fin.ofNat 3 2 = p + 2 := by decide

theorem Wt_succ (W0 : (p : Fin 3) → Dev nD → (WS p).Idx → EReal) (n : ℕ) (p : Fin 3) (c : Dev nD) (x : (WS p).Idx) :
    Wt (F := Ideal) W0 (n + 1) p c x
      = (Wt (F := Ideal) W0 n p c x + Wt (F := Ideal) W0 n p (par (p + Fin.ofNat 3 n) c) x : EReal) := rfl

theorem Wt_sum (W0 : (p : Fin 3) → Dev nD → (WS p).Idx → EReal) (p : Fin 3) (c : Dev nD) (x : (WS p).Idx) :
    Wt (F := Ideal) W0 3 p c x = ∑ d : Fin 8, W0 p d x := by
  refine Eq.trans ?_ (cube_sum (fun d => W0 p d x) p c)
  rw [Wt_succ, Wt_succ, Wt_succ, Wt_succ, Wt_succ, Wt_succ, Wt_succ, axis0 p, axis1 p, axis2 p]
  rfl

/-- The output is the sum of the devices' partial products. -/
theorem Out_apply (PP : Dev nD → S8x128x1024.Idx → EReal) (b : Fin 4) (i : Fin 256) (col : Fin 1024) :
    Out (F := Ideal) (W0of PP) (ix3 b i col)
      = ∑ d : Fin 8, PP d (ix3 (⟨2 * b.val + i.val / 128, by omega⟩ : Fin 8) (⟨i.val % 128, by omega⟩ : Fin 128) col) := by
  refine (Wt_sum _ _ _ _).trans (Finset.sum_congr rfl fun d _ => ?_)
  refine congrArg (PP d) ?_
  refine ix3_ext ?_ rfl ?_
  · exact congrArg Fin.val (chunk_slot _ _)
  · show colo (partOf col.val) + (col.val - colo (partOf col.val)) = col.val
    have := (partOf_spec col.isLt).1
    omega

/-! ## The attention output -/

/-- A device's keys and values, from its own two of the sixteen heads. -/
theorem k_block (c : Dev nD) (K V : S4x1024x16x128.Idx → EReal) (n : Fin 32) (j : Fin 1024) (f : Fin 128) :
    kvB (F := Ideal) c K V (⟨2 * (n.val / 4), by omega⟩ : Fin 16) (ix5 (0 : Fin 1) (0 : Fin 1) (0 : Fin 1) j f)
      = K (ix4 (⟨n.val / 8, by omega⟩ : Fin 4) j (⟨2 * c.val + n.val / 4 % 2, by have h : c.val < 8 := c.isLt; omega⟩ : Fin 16) f) := by
  refine (if_pos ?_).trans (congrArg K ?_)
  · show 2 * (n.val / 4) % 2 + 1 * 0 = 0
    omega
  · funext a
    apply Fin.ext
    match a with
    | ⟨0, _⟩ => show 2 * (n.val / 4) / 4 + 1 * 0 = n.val / 8; omega
    | ⟨1, _⟩ => show 0 + 1 * j.val = j.val; omega
    | ⟨2, _⟩ => show 2 * c.val + (2 * (n.val / 4) / 2 % 2 + 1 * 0) = 2 * c.val + n.val / 4 % 2; omega
    | ⟨3, _⟩ => show 0 + 1 * f.val = f.val; omega

theorem v_block (c : Dev nD) (K V : S4x1024x16x128.Idx → EReal) (n : Fin 32) (j : Fin 1024) (f : Fin 128) :
    kvB (F := Ideal) c K V (⟨2 * (n.val / 4) + 1, by omega⟩ : Fin 16) (ix5 (0 : Fin 1) (0 : Fin 1) (0 : Fin 1) j f)
      = V (ix4 (⟨n.val / 8, by omega⟩ : Fin 4) j (⟨2 * c.val + n.val / 4 % 2, by have h : c.val < 8 := c.isLt; omega⟩ : Fin 16) f) := by
  refine (if_neg ?_).trans (congrArg V ?_)
  · show ¬ (2 * (n.val / 4) + 1) % 2 + 1 * 0 = 0
    omega
  · funext a
    apply Fin.ext
    match a with
    | ⟨0, _⟩ => show (2 * (n.val / 4) + 1) / 4 + 1 * 0 = n.val / 8; omega
    | ⟨1, _⟩ => show 0 + 1 * j.val = j.val; omega
    | ⟨2, _⟩ => show 2 * c.val + ((2 * (n.val / 4) + 1) / 2 % 2 + 1 * 0) = 2 * c.val + n.val / 4 % 2; omega
    | ⟨3, _⟩ => show 0 + 1 * f.val = f.val; omega

/-- The attention output of a device whose slices are those of the whole arrays. -/
theorem att_apply (c : Dev nD) (X : S4x256x1024.Idx → EReal) (Wd : S1024x1024.Idx → EReal) (K V : S4x1024x16x128.Idx → EReal)
    (Wq : (⟨2, ![1024, 8192]⟩ : Shape).Idx → EReal)
    (hW : ∀ k col : Fin 1024, Wd (ix2 k col) = Wq (ix2 k (⟨1024 * c.val + col.val, by have h : c.val < 8 := c.isLt; omega⟩ : Fin 8192)))
    (b : Fin 4) (i : Fin 256) (col : Fin 1024) :
    Att (F := Ideal) c K V (k0_pay2 (F := Ideal) X Wd) (ix2 (⟨256 * b.val + i.val, by omega⟩ : Fin 1024) col)
      = oS X Wq K V b i (⟨8 * c.val + col.val / 128, by have h : c.val < 8 := c.isLt; omega⟩ : Fin 64)
          (⟨col.val % 128, by omega⟩ : Fin 128) := by
  have hc : c.val < 8 := c.isLt
  have hn : blk (ix2 (⟨256 * b.val + i.val, by omega⟩ : Fin 1024) col) = 8 * b.val + col.val / 128 := by
    show 8 * ((256 * b.val + i.val) / 256) + col.val / 128 = _
    omega
  have hb : ∀ h' : blk (ix2 (⟨256 * b.val + i.val, by omega⟩ : Fin 1024) col) < 32,
      (⟨blk (ix2 (⟨256 * b.val + i.val, by omega⟩ : Fin 1024) col), h'⟩ : Fin 32) = ⟨8 * b.val + col.val / 128, by omega⟩ :=
    fun _ => Fin.ext hn
  have hi : inBlk (ix2 (⟨256 * b.val + i.val, by omega⟩ : Fin 1024) col) = ix2 i (⟨col.val % 128, by omega⟩ : Fin 128) := by
    funext a
    apply Fin.ext
    match a with
    | ⟨0, _⟩ => show (256 * b.val + i.val) % 256 = i.val; omega
    | ⟨1, _⟩ => rfl
  unfold Att
  rw [hb, hi]
  unfold headV
  rw [head_apply]
  unfold oS
  refine congrArg₂ kRow (funext fun j => ?_) (funext fun j => ?_)
  · unfold sS
    refine congrArg (· * SC) (Finset.sum_congr rfl fun f _ => congrArg₂ (· * ·) ?_ ?_)
    · have he : ((qR (⟨8 * b.val + col.val / 128, by omega⟩ : Fin 32)).emb (ix2 i f) : S1024x1024.Idx)
          = ix2 (⟨256 * b.val + i.val, by omega⟩ : Fin 1024) (⟨128 * (col.val / 128) + f.val, by omega⟩ : Fin 1024) := by
        funext a
        apply Fin.ext
        match a with
        | ⟨0, _⟩ => show 256 * ((8 * b.val + col.val / 128) / 8) + 1 * i.val = 256 * b.val + i.val; omega
        | ⟨1, _⟩ => show 128 * ((8 * b.val + col.val / 128) % 8) + 1 * f.val = 128 * (col.val / 128) + f.val; omega
      show k0_pay2 (F := Ideal) X Wd ((qR (⟨8 * b.val + col.val / 128, by omega⟩ : Fin 32)).emb (ix2 i f)) = _
      rw [he, q_apply]
      unfold qS
      refine Finset.sum_congr rfl fun k _ => congrArg₂ (· * ·) (congrArg X ?_) ((hW _ _).trans (congrArg Wq ?_))
      · refine ix3_ext ?_ ?_ rfl
        · show (256 * b.val + i.val) / 256 = b.val; omega
        · show (256 * b.val + i.val) % 256 = i.val; omega
      · funext a
        apply Fin.ext
        match a with
        | ⟨0, _⟩ => rfl
        | ⟨1, _⟩ =>
          show 1024 * c.val + (128 * (col.val / 128) + f.val) = 128 * (8 * c.val + col.val / 128) + f.val
          omega
    · refine (squeezed_apply _ j f).trans ((k_block c K V _ j f).trans (congrArg K ?_))
      funext a
      apply Fin.ext
      match a with
      | ⟨0, _⟩ => show (8 * b.val + col.val / 128) / 8 = b.val; omega
      | ⟨1, _⟩ => rfl
      | ⟨2, _⟩ => show 2 * c.val + (8 * b.val + col.val / 128) / 4 % 2 = (8 * c.val + col.val / 128) / 4; omega
      | ⟨3, _⟩ => rfl
  · refine (squeezed_apply _ j _).trans ((v_block c K V _ j _).trans (congrArg V ?_))
    funext a
    apply Fin.ext
    match a with
    | ⟨0, _⟩ => show (8 * b.val + col.val / 128) / 8 = b.val; omega
    | ⟨1, _⟩ => rfl
    | ⟨2, _⟩ => show 2 * c.val + (8 * b.val + col.val / 128) / 4 % 2 = (8 * c.val + col.val / 128) / 4; omega
    | ⟨3, _⟩ => rfl

/-- A device's partial product. -/
theorem pp_apply (A W : S1024x1024.Idx → EReal) (m : Fin 8) (r : Fin 128) (col : Fin 1024) :
    k0_pay65 (F := Ideal) A W (ix3 m r col)
      = ∑ k : Fin 1024, A (ix2 (⟨128 * m.val + r.val, by omega⟩ : Fin 1024) k) * W (ix2 k col) := by
  unfold k0_pay65
  simp only [shapeCast_self]
  refine (shapeCast_apply (s := S1024x1024) (t := S8x128x1024) _ _ _ (ix2 (⟨128 * m.val + r.val, by omega⟩ : Fin 1024) col) ?_).trans ?_
  · rw [Shape.rowMajor_val_three, Shape.rowMajor_val_two]
    show (128 * m.val + r.val) * 1024 + col.val = (m.val * 128 + r.val) * 1024 + col.val
    omega
  · exact sq_apply A W _ col

/-- The kernel's result. -/
theorem kernel_res (a : Args Ideal) (X : S4x256x1024.Idx → EReal) (Wq : (⟨2, ![1024, 8192]⟩ : Shape).Idx → EReal)
    (K V : S4x1024x16x128.Idx → EReal) (Wo : (⟨2, ![8192, 1024]⟩ : Shape).Idx → EReal)
    (hX : ∀ c, a.X c = X) (hK : ∀ c, a.K c = K) (hV : ∀ c, a.V c = V)
    (hW : ∀ (c : Dev nD) (k col : Fin 1024), a.Wq c (ix2 k col) = Wq (ix2 k (⟨1024 * c.val + col.val, by have h : c.val < 8 := c.isLt; omega⟩ : Fin 8192)))
    (hO : ∀ (c : Dev nD) (k col : Fin 1024), a.Wo c (ix2 k col) = Wo (ix2 (⟨1024 * c.val + k.val, by have h : c.val < 8 := c.isLt; omega⟩ : Fin 8192) col))
    (b : Fin 4) (i : Fin 256) (col : Fin 1024) :
    Out (F := Ideal) a.w0 (ix3 b i col) = res X Wq K V Wo b i col := by
  refine (Out_apply a.pp b i col).trans ?_
  unfold res
  rw [sum_dev]
  refine Finset.sum_congr rfl fun d _ => ?_
  unfold Args.pp
  rw [pp_apply]
  refine Finset.sum_congr rfl fun k _ => congrArg₂ (· * ·) ?_ (hO d k col)
  unfold Args.att
  rw [hX, hK, hV]
  have e : (⟨128 * (2 * b.val + i.val / 128) + i.val % 128, by omega⟩ : Fin 1024) = ⟨256 * b.val + i.val, by omega⟩ :=
    Fin.ext (by show 128 * (2 * b.val + i.val / 128) + i.val % 128 = 256 * b.val + i.val; omega)
  rw [e]
  refine (att_apply d X (a.Wq d) K V Wq (hW d) b i k).trans ?_
  have hd : d.val < 8 := d.isLt
  refine congrArg₂ (oS X Wq K V b i) (Fin.ext ?_) (Fin.ext ?_)
  · show 8 * d.val + k.val / 128 = (1024 * d.val + k.val) / 128; omega
  · show k.val % 128 = (1024 * d.val + k.val) % 128; omega

end Cert.KernelIdealProof
-- ==== Proof.Value.RefSide.lean ====
module

public import proofs.«01_k».proof.Proof.Gen.ReferenceIdeal.Run
public import proofs.«01_k».proof.Proof.Value.Spec
public import Idealize.ShloMosaic.Lib.Pipeline.Value

/-! # The reference's result at an index, over the extended reals -/

set_option maxRecDepth 8000

@[expose] public section

noncomputable section

namespace Cert.ReferenceIdealProof

open Cert.ReferenceIdeal Cert.ReferenceIdeal.Gen Cert.AttnValue
open Idealize.ShloMosaic
open Idealize.ShloMosaic.TcCoe
open Idealize.ShloMosaic.ValueIdx
open scoped BigOperators

/-! ## The arrays the reference computes in turn -/

section Arrays

/-- The queries, by head. -/
def q4 (X : FVec Ideal S4x256x1024 .f32) (W : FVec Ideal S1024x8192 .f32) : FVec Ideal S4x256x64x128 .f32 :=
  shapeCast _ (Host.dotGeneral dot_S4x256x1024_S1024x8192_S4x256x8192_2_0_01_1_n_n none X W) shapeCasts_S4x256x8192_S4x256x64x128
/-- Keys or values, each head four times. -/
def rep (K : FVec Ideal S4x1024x16x128 .f32) : FVec Ideal S4x1024x64x128 .f32 :=
  shapeCast _ (broadcastInDim S4x1024x16x4x128 ![0, 1, 2, 4] bcast_S4x1024x16x128_S4x1024x16x4x128_0_1_2_4 K) shapeCasts_S4x1024x16x4x128_S4x1024x64x128
/-- The scores. -/
def sc4 (q : FVec Ideal S4x256x64x128 .f32) (k : FVec Ideal S4x1024x64x128 .f32) : FVec Ideal S4x64x256x1024 .f32 :=
  mulf (Host.dotGeneral dot_S4x256x64x128_S4x1024x64x128_S4x64x256x1024_3_3_1_1_02_02 none q k)
    (broadcastInDim S4x64x256x1024 ![] bcast_S_S4x64x256x1024 (constant S_ .f32 0x3DB504F3#32))

variable (s : FVec Ideal S4x64x256x1024 .f32)

/-- The starting maximum. -/
def bot4 : FVec Ideal S4x64x256x1 .f32 := broadcastInDim S4x64x256x1 ![] bcast_S_S4x64x256x1 (constant S_ .f32 0xFF800000#32)
/-- The rows' maxima. -/
def mx : FVec Ideal S4x64x256x1 .f32 :=
  maximumf bot4 (broadcastInDim S4x64x256x1 ![0, 1, 2] bcast_S4x64x256_S4x64x256x1_0_1_2
    (Host.reduce FloatOps.maximumf s (constant S_ .f32 0xFF800000#32) reducesTo_S4x64x256x1024_S4x64x256_d3 h_S_))
/-- The factor of what came before. -/
def al : FVec Ideal S4x64x256x1 .f32 := Host.exp (subf bot4 (mx s))
/-- The weights. -/
def pr : FVec Ideal S4x64x256x1024 .f32 :=
  Host.exp (subf s (broadcastInDim S4x64x256x1024 ![0, 1, 2, 3] bcast_S4x64x256x1_S4x64x256x1024_0_1_2_3 (mx s)))
/-- The sums of the weights. -/
def lr : FVec Ideal S4x64x256x1 .f32 :=
  addf (mulf (broadcastInDim S4x64x256x1 ![] bcast_S_S4x64x256x1 (constant S_ .f32 0x00000000#32)) (al s))
    (broadcastInDim S4x64x256x1 ![0, 1, 2] bcast_S4x64x256_S4x64x256x1_0_1_2
      (Host.reduceAdd (pr s) (constant S_ .f32 0x00000000#32) reducesTo_S4x64x256x1024_S4x64x256_d3 h_S_))
/-- The weighted values. -/
def wv (v : FVec Ideal S4x1024x64x128 .f32) : FVec Ideal S4x256x64x128 .f32 :=
  addf (mulf (broadcastInDim S4x256x64x128 ![] bcast_S_S4x256x64x128 (constant S_ .f32 0x00000000#32))
      (broadcastInDim S4x256x64x128 ![0, 1, 2, 3] bcast_S4x256x64x1_S4x256x64x128_0_1_2_3
        (transpose S4x256x64x1 [0, 2, 1, 3] (al s) transposes_S4x64x256x1_S4x256x64x1_0_2_1_3)))
    (transpose S4x256x64x128 [0, 3, 1, 2]
      (Host.dotGeneral dot_S4x1024x64x128_S4x64x256x1024_S4x64x128x256_1_3_3_2_02_01 none v (pr s)) transposes_S4x64x128x256_S4x256x64x128_0_3_1_2)
/-- The heads' outputs. -/
def o4 (v : FVec Ideal S4x1024x64x128 .f32) : FVec Ideal S4x256x64x128 .f32 :=
  Host.divf (wv s v) (broadcastInDim S4x256x64x128 ![0, 1, 2, 3] bcast_S4x256x64x1_S4x256x64x128_0_1_2_3
    (transpose S4x256x64x1 [0, 2, 1, 3] (lr s) transposes_S4x64x256x1_S4x256x64x1_0_2_1_3))
/-- The result. -/
def out3 (o : FVec Ideal S4x256x64x128 .f32) (Wo : FVec Ideal S8192x1024 .f32) : FVec Ideal S4x256x1024 .f32 :=
  Host.dotGeneral dot_S4x256x8192_S8192x1024_S4x256x1024_2_0_01_1_n_n none (shapeCast _ o shapeCasts_S4x256x64x128_S4x256x8192) Wo

end Arrays

set_option maxRecDepth 60000 in
theorem res_eq (m : (ℓ : Loc nD τ sig) → Buf (Elt Ideal) ℓ) (c : Dev nD) :
    Value.res_main_v34 (F := Ideal) m c = out3 (o4 (sc4 (q4 (m ((c.tc : Thread nD τ).loc main_arg0)) (m ((c.tc : Thread nD τ).loc main_arg1)))
        (rep (m ((c.tc : Thread nD τ).loc main_arg2)))) (rep (m ((c.tc : Thread nD τ).loc main_arg3)))) (m ((c.tc : Thread nD τ).loc main_arg4)) := rfl

/-! ## Each at an index -/

theorem bot_bits : Ideal.ofBits .f32 0xFF800000#32 = ⊥ := by
  simp [Ideal.ofBits, Ideal.ieee]

theorem proj_apply (X : FVec Ideal S4x256x1024 .f32) (W : FVec Ideal S1024x8192 .f32) (b : Fin 4) (i : Fin 256) (c : Fin 8192) :
    Host.dotGeneral dot_S4x256x1024_S1024x8192_S4x256x8192_2_0_01_1_n_n none X W (ix3 b i c)
      = ∑ k : Fin 1024, X (ix3 b i k) * W (ix2 k c) := by
  refine (Ideal.dotGeneral_apply _ _ _ _ _ _).trans ?_
  rw [← Equiv.sum_comp (contrEquiv1 dot_S4x256x1024_S1024x8192_S4x256x8192_2_0_01_1_n_n 1024 rfl rfl).symm]
  refine Finset.sum_congr rfl fun k _ => ?_
  have hk := contrEquiv1_symm_val dot_S4x256x1024_S1024x8192_S4x256x8192_2_0_01_1_n_n 1024 rfl rfl k
  refine congrArg₂ (· * ·) (congrArg X ?_) (congrArg W ?_) <;> funext a <;> apply Fin.ext
  · match a with
    | ⟨0, _⟩ => rfl
    | ⟨1, _⟩ => rfl
    | ⟨2, _⟩ => exact hk
  · match a with
    | ⟨0, _⟩ => exact hk
    | ⟨1, _⟩ => rfl

theorem q4_apply (X : FVec Ideal S4x256x1024 .f32) (W : FVec Ideal S1024x8192 .f32) (b : Fin 4) (i : Fin 256) (h : Fin 64) (f : Fin 128) :
    q4 X W (ix4 b i h f) = qS X W b i h f := by
  unfold q4
  refine (shapeCast_apply (s := S4x256x8192) (t := S4x256x64x128) _ _ _ (ix3 b i (⟨128 * h.val + f.val, by omega⟩ : Fin 8192)) ?_).trans
    (proj_apply X W b i _)
  rw [Shape.rowMajor_val_three, Shape.rowMajor_val_four]
  show (b.val * 256 + i.val) * 8192 + (128 * h.val + f.val) = ((b.val * 256 + i.val) * 64 + h.val) * 128 + f.val
  omega

theorem rep_apply (K : FVec Ideal S4x1024x16x128 .f32) (b : Fin 4) (j : Fin 1024) (h : Fin 64) (f : Fin 128) :
    rep K (ix4 b j h f) = K (ix4 b j (⟨h.val / 4, by omega⟩ : Fin 16) f) := by
  unfold rep
  refine (shapeCast_apply (s := S4x1024x16x4x128) (t := S4x1024x64x128) _ _ _
    (ix5 b j (⟨h.val / 4, by omega⟩ : Fin 16) (⟨h.val % 4, by omega⟩ : Fin 4) f) ?_).trans
    (broadcastInDim_apply (s := S4x1024x16x128) (t := S4x1024x16x4x128) _ _ _ _ _ ?_)
  · rw [Shape.rowMajor_val_five, Shape.rowMajor_val_four]
    show (((b.val * 1024 + j.val) * 16 + h.val / 4) * 4 + h.val % 4) * 128 + f.val = ((b.val * 1024 + j.val) * 64 + h.val) * 128 + f.val
    omega
  · intro a
    match a with
    | ⟨0, _⟩ => rfl
    | ⟨1, _⟩ => rfl
    | ⟨2, _⟩ => rfl
    | ⟨3, _⟩ => rfl

theorem sc4_apply (q : FVec Ideal S4x256x64x128 .f32) (k : FVec Ideal S4x1024x64x128 .f32) (b : Fin 4) (h : Fin 64) (i : Fin 256) (j : Fin 1024) :
    sc4 q k (ix4 b h i j) = (∑ f : Fin 128, q (ix4 b i h f) * k (ix4 b j h f)) * SC := by
  unfold sc4
  refine congrArg₂ (fun x y : EReal => x * y) ?_ (broadcastInDim_scalar_apply _ _ _)
  refine (Ideal.dotGeneral_apply _ _ _ _ _ _).trans ?_
  rw [← Equiv.sum_comp (contrEquiv1 dot_S4x256x64x128_S4x1024x64x128_S4x64x256x1024_3_3_1_1_02_02 128 rfl rfl).symm]
  refine Finset.sum_congr rfl fun f _ => ?_
  have hf := contrEquiv1_symm_val dot_S4x256x64x128_S4x1024x64x128_S4x64x256x1024_3_3_1_1_02_02 128 rfl rfl f
  refine congrArg₂ (· * ·) (congrArg q ?_) (congrArg k ?_) <;> funext a <;> apply Fin.ext
  · match a with
    | ⟨0, _⟩ => rfl
    | ⟨1, _⟩ => rfl
    | ⟨2, _⟩ => rfl
    | ⟨3, _⟩ => exact hf
  · match a with
    | ⟨0, _⟩ => rfl
    | ⟨1, _⟩ => rfl
    | ⟨2, _⟩ => rfl
    | ⟨3, _⟩ => exact hf

section Rows
variable (s : FVec Ideal S4x64x256x1024 .f32) (b : Fin 4) (h : Fin 64) (i : Fin 256)

theorem bot4_apply (x : S4x64x256x1.Idx) : bot4 x = ⊥ := (broadcastInDim_scalar_apply _ _ _).trans bot_bits

/-- The fact that the last axis may be dropped. -/
theorem drops : S4x64x256x1024.Reduces [3] S4x64x256 := by decide

theorem lift_eq (j : Fin 1024) : drops.lift (ix3 b h i) j = ix4 b h i j := by
  funext a
  apply Fin.ext
  match a with
  | ⟨0, _⟩ => rfl
  | ⟨1, _⟩ => rfl
  | ⟨2, _⟩ => rfl
  | ⟨3, _⟩ => rfl

/-- A row's value put on a unit axis. -/
theorem unit_apply (y : FVec Ideal S4x64x256 .f32) :
    broadcastInDim S4x64x256x1 ![0, 1, 2] bcast_S4x64x256_S4x64x256x1_0_1_2 y (ix4 b h i (0 : Fin 1)) = y (ix3 b h i) := by
  refine broadcastInDim_apply (s := S4x64x256) (t := S4x64x256x1) _ _ _ _ _ fun a => ?_
  match a with
  | ⟨0, _⟩ => rfl
  | ⟨1, _⟩ => rfl
  | ⟨2, _⟩ => rfl

theorem fold_max {n : ℕ} (f : Fin n → EReal) :
    (Finset.univ : Finset (Fin n)).fold (FloatOps.maximumf (F := Ideal) (φ := .f32)) ⊥ f = (Finset.univ : Finset (Fin n)).fold max ⊥ f := rfl

theorem max_apply :
    Host.reduce (FloatOps.maximumf (F := Ideal) (φ := .f32)) s (constant S_ .f32 0xFF800000#32) reducesTo_S4x64x256x1024_S4x64x256_d3 h_S_ (ix3 b h i)
      = (Finset.univ : Finset (Fin 1024)).fold max ⊥ fun j : Fin 1024 => s (ix4 b h i j) := by
  rw [Host.reduce_eq_fold_single _ s _ _ drops _ _]
  have e0 : (constant (F := Ideal) S_ .f32 0xFF800000#32) (Shape.Idx.first h_S_) = (⊥ : EReal) := bot_bits
  have e1 : s ∘ drops.lift (ix3 b h i) = fun j : Fin 1024 => s (ix4 b h i j) := funext fun j => congrArg s (lift_eq b h i j)
  rw [e0, e1]
  exact fold_max _

theorem max_at {t : Shape} (y z : FVec Ideal t .f32) (x : t.Idx) (u v : EReal) (hy : y x = u) (hz : z x = v) :
    maximumf y z x = max u v := by
  rw [← hy, ← hz]
  rfl

theorem mx_apply : mx s (ix4 b h i (0 : Fin 1)) = rMax fun j : Fin 1024 => s (ix4 b h i j) := by
  unfold mx rMax
  exact max_at _ _ _ _ _ (bot4_apply _) ((unit_apply b h i _).trans (max_apply s b h i))

theorem al_apply : al s (ix4 b h i (0 : Fin 1)) = Ideal.exp (⊥ - rMax fun j : Fin 1024 => s (ix4 b h i j)) :=
  congrArg₂ (fun x y : EReal => Ideal.exp (x - y)) (bot4_apply (ix4 b h i (0 : Fin 1))) (mx_apply s b h i)

theorem pr_apply (j : Fin 1024) : pr s (ix4 b h i j) = Ideal.exp (s (ix4 b h i j) - rMax fun j : Fin 1024 => s (ix4 b h i j)) := by
  refine congrArg (fun y : EReal => Ideal.exp (s (ix4 b h i j) - y)) (Eq.trans ?_ (mx_apply s b h i))
  refine broadcastInDim_apply (s := S4x64x256x1) (t := S4x64x256x1024) _ _ _ _ _ fun a => ?_
  match a with
  | ⟨0, _⟩ => rfl
  | ⟨1, _⟩ => rfl
  | ⟨2, _⟩ => rfl
  | ⟨3, _⟩ => rfl

theorem zero_bits (t : Shape) (hb : (⟨0, ![]⟩ : Shape).BroadcastsInDim t ![]) (x : t.Idx) :
    broadcastInDim t ![] hb (constant (F := Ideal) S_ .f32 0x00000000#32) x = (0 : EReal) :=
  (broadcastInDim_scalar_apply _ _ _).trans Ideal.ofBits_zero_f32

theorem lr_apply : lr s (ix4 b h i (0 : Fin 1))
    = 0 * Ideal.exp (⊥ - rMax fun j : Fin 1024 => s (ix4 b h i j))
      + (0 + ∑ j : Fin 1024, Ideal.exp (s (ix4 b h i j) - rMax fun j : Fin 1024 => s (ix4 b h i j))) := by
  refine congrArg₂ (fun x y : EReal => x + y) (congrArg₂ (fun x y : EReal => x * y) (zero_bits _ _ _) (al_apply s b h i)) ?_
  refine (unit_apply b h i _).trans ((hostReduceAdd_apply _ _ _ _ _).trans ((Ideal.hostReduceAdd_single _ drops _ _ _).trans ?_))
  refine congrArg₂ (fun x y : EReal => x + y) Ideal.ofBits_zero_f32 (Finset.sum_congr rfl fun j _ => ?_)
  exact (congrArg (pr s) (lift_eq b h i j)).trans (pr_apply s b h i j)

/-- A row's value spread over a head's columns. -/
theorem spread_apply (y : FVec Ideal S4x64x256x1 .f32) (e : Fin 128) :
    broadcastInDim S4x256x64x128 ![0, 1, 2, 3] bcast_S4x256x64x1_S4x256x64x128_0_1_2_3
        (transpose S4x256x64x1 [0, 2, 1, 3] y transposes_S4x64x256x1_S4x256x64x1_0_2_1_3) (ix4 b i h e) = y (ix4 b h i (0 : Fin 1)) := by
  refine (broadcastInDim_apply (s := S4x256x64x1) (t := S4x256x64x128) _ _ _ _ (ix4 b i h (0 : Fin 1)) fun a => ?_).trans
    (transpose_apply (s := S4x64x256x1) (t := S4x256x64x1) _ _ _ _ _ fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem pv_apply (v : FVec Ideal S4x1024x64x128 .f32) (p : FVec Ideal S4x64x256x1024 .f32) (e : Fin 128) :
    Host.dotGeneral dot_S4x1024x64x128_S4x64x256x1024_S4x64x128x256_1_3_3_2_02_01 none v p (ix4 b h e i)
      = ∑ j : Fin 1024, v (ix4 b j h e) * p (ix4 b h i j) := by
  refine (Ideal.dotGeneral_apply _ _ _ _ _ _).trans ?_
  rw [← Equiv.sum_comp (contrEquiv1 dot_S4x1024x64x128_S4x64x256x1024_S4x64x128x256_1_3_3_2_02_01 1024 rfl rfl).symm]
  refine Finset.sum_congr rfl fun j _ => ?_
  have hj := contrEquiv1_symm_val dot_S4x1024x64x128_S4x64x256x1024_S4x64x128x256_1_3_3_2_02_01 1024 rfl rfl j
  refine congrArg₂ (· * ·) (congrArg v ?_) (congrArg p ?_) <;> funext a <;> apply Fin.ext
  · match a with
    | ⟨0, _⟩ => rfl
    | ⟨1, _⟩ => exact hj
    | ⟨2, _⟩ => rfl
    | ⟨3, _⟩ => rfl
  · match a with
    | ⟨0, _⟩ => rfl
    | ⟨1, _⟩ => rfl
    | ⟨2, _⟩ => rfl
    | ⟨3, _⟩ => exact hj

theorem wv_apply (v : FVec Ideal S4x1024x64x128 .f32) (e : Fin 128) : wv s v (ix4 b i h e)
    = 0 * Ideal.exp (⊥ - rMax fun j : Fin 1024 => s (ix4 b h i j))
      + ∑ j : Fin 1024, v (ix4 b j h e) * Ideal.exp (s (ix4 b h i j) - rMax fun j : Fin 1024 => s (ix4 b h i j)) := by
  refine congrArg₂ (fun x y : EReal => x + y)
    (congrArg₂ (fun x y : EReal => x * y) (zero_bits _ _ _) ((spread_apply b h i _ e).trans (al_apply s b h i))) ?_
  refine (transpose_apply (s := S4x64x128x256) (t := S4x256x64x128) _ _ _ _ (ix4 b h e i) fun a => ?_).trans
    ((pv_apply b h i v (pr s) e).trans (Finset.sum_congr rfl fun j _ => congrArg (v (ix4 b j h e) * ·) (pr_apply s b h i j)))
  match a with
  | ⟨0, _⟩ => rfl
  | ⟨1, _⟩ => rfl
  | ⟨2, _⟩ => rfl
  | ⟨3, _⟩ => rfl

theorem o4_apply (v : FVec Ideal S4x1024x64x128 .f32) (e : Fin 128) :
    o4 s v (ix4 b i h e) = rRow (fun j : Fin 1024 => s (ix4 b h i j)) fun j => v (ix4 b j h e) :=
  congrArg₂ Ideal.div (wv_apply s b h i v e) ((spread_apply b h i _ e).trans (lr_apply s b h i))

end Rows

theorem out3_apply (o : FVec Ideal S4x256x64x128 .f32) (Wo : FVec Ideal S8192x1024 .f32) (b : Fin 4) (i : Fin 256) (c : Fin 1024) :
    out3 o Wo (ix3 b i c)
      = ∑ k : Fin 8192, o (ix4 b i (⟨k.val / 128, by omega⟩ : Fin 64) (⟨k.val % 128, by omega⟩ : Fin 128)) * Wo (ix2 k c) := by
  refine (Ideal.dotGeneral_apply _ _ _ _ _ _).trans ?_
  rw [← Equiv.sum_comp (contrEquiv1 dot_S4x256x8192_S8192x1024_S4x256x1024_2_0_01_1_n_n 8192 rfl rfl).symm]
  refine Finset.sum_congr rfl fun k _ => ?_
  have hk := contrEquiv1_symm_val dot_S4x256x8192_S8192x1024_S4x256x1024_2_0_01_1_n_n 8192 rfl rfl k
  refine congrArg₂ (· * ·) ?_ (congrArg Wo ?_)
  · have e : (dot_S4x256x8192_S8192x1024_S4x256x1024_2_0_01_1_n_n).lhsIdx (ix3 b i c)
        ((contrEquiv1 dot_S4x256x8192_S8192x1024_S4x256x1024_2_0_01_1_n_n 8192 rfl rfl).symm k) = ix3 b i k := by
      funext a
      apply Fin.ext
      match a with
      | ⟨0, _⟩ => rfl
      | ⟨1, _⟩ => rfl
      | ⟨2, _⟩ => exact hk
    rw [e]
    refine shapeCast_apply (s := S4x256x64x128) (t := S4x256x8192) _ _ _ _ ?_
    rw [Shape.rowMajor_val_three, Shape.rowMajor_val_four]
    show ((b.val * 256 + i.val) * 64 + k.val / 128) * 128 + k.val % 128 = (b.val * 256 + i.val) * 8192 + k.val
    omega
  · funext a
    apply Fin.ext
    match a with
    | ⟨0, _⟩ => exact hk
    | ⟨1, _⟩ => rfl

/-- The reference's result, where the scores are real. -/
theorem ref_res (X : FVec Ideal S4x256x1024 .f32) (Wq : FVec Ideal S1024x8192 .f32) (K V : FVec Ideal S4x1024x16x128 .f32)
    (Wo : FVec Ideal S8192x1024 .f32) (hX : ∀ x, Fini (X x)) (hW : ∀ x, Fini (Wq x)) (hK : ∀ x, Fini (K x))
    (b : Fin 4) (i : Fin 256) (c : Fin 1024) :
    out3 (o4 (sc4 (q4 X Wq) (rep K)) (rep V)) Wo (ix3 b i c) = res X Wq K V Wo b i c := by
  refine (out3_apply _ Wo b i c).trans (Finset.sum_congr rfl fun k _ => congrArg (· * Wo (ix2 k c)) ?_)
  have hs : ∀ h : Fin 64, (fun j : Fin 1024 => sc4 (q4 X Wq) (rep K) (ix4 b h i j)) = fun j => sS X Wq K b i h j := fun h =>
    funext fun j => (sc4_apply _ _ b h i j).trans (congrArg (· * SC) (Finset.sum_congr rfl fun f _ =>
      congrArg₂ (· * ·) (q4_apply X Wq b i h f) (rep_apply K b j h f)))
  refine (o4_apply _ b _ i _ _).trans ?_
  rw [hs]
  refine (row_eq (by omega) _ _ fun j => sS_real X Wq K hX hW hK b i _ j).trans ?_
  exact congrArg (kRow _) (funext fun j => rep_apply V b j _ _)

end Cert.ReferenceIdealProof
-- ==== Proof.Value.Meet.lean ====
module

public import proofs.«01_k».proof.Defs
public import proofs.«01_k».proof.Proof.Value.KernelSide
public import proofs.«01_k».proof.Proof.Value.RefSide
public import Idealize.ShloMosaic.Lib.Layout

/-! # The kernel's result is the reference's

The precondition's bits say that the rows, the query weights and the keys are real; then both results are the layer's
mathematics. -/

set_option maxRecDepth 8000

@[expose] public section

noncomputable section

namespace Cert.MeetProof

open Cert.AttnValue
open Idealize.ShloMosaic hiding ix0 ix1 ix2 ix3 ix4 ix5 eq_ix3
open Idealize.ShloMosaic.TcCoe
open Idealize.ShloMosaic.ValueIdx
open Idealize.SL.Sem

/-- The precondition's stated facts. -/
instance pre_k : Cert.Pre_finite_KernelIdeal.Facts where
  bcast_S_S4x256x1024 := by decide
  bcast_S_S1024x1024 := by decide
  bcast_S_S4x1024x16x128 := by decide
instance pre_r : Cert.Pre_finite_ReferenceIdeal.Facts where
  bcast_S_S4x256x1024 := by decide
  bcast_S_S1024x8192 := by decide
  bcast_S_S4x1024x16x128 := by decide

theorem top_bits : Ideal.ofBits .f32 0x7F800000#32 = ⊤ := by
  simp [Ideal.ofBits, Ideal.ieee]

theorem real_of_lt {x : EReal} (h : max x (-x) < ⊤) : Fini x := by
  have h1 : x ≠ ⊤ := fun e => by rw [e] at h; exact absurd (lt_of_le_of_lt (le_max_left _ _) h) (lt_irrefl _)
  have h2 : x ≠ ⊥ := fun e => by rw [e] at h; exact absurd (lt_of_le_of_lt (le_max_right _ _) h) (by simp)
  exact ⟨x.toReal, (EReal.coe_toReal h1 h2).symm⟩

/-- A bit of the precondition says its element is real. -/
theorem real_of_bit {t : Shape} (a : FVec Ideal t .f32) (hb : (⟨0, ![]⟩ : Shape).BroadcastsInDim t ![])
    (h : cmpf .olt (Host.absf a) (broadcastInDim t ![] hb (constant (F := Ideal) ⟨0, ![]⟩ .f32 0x7F800000#32)) = fun _ => 1#1) (x : t.Idx) :
    Fini (a x) := by
  have e : broadcastInDim t ![] hb (constant (F := Ideal) ⟨0, ![]⟩ .f32 0x7F800000#32) x = (⊤ : EReal) :=
    (broadcastInDim_scalar_apply _ _ _).trans top_bits
  have h' : Ideal.cmp .olt (max (a x) (-(a x))) (broadcastInDim t ![] hb (constant (F := Ideal) ⟨0, ![]⟩ .f32 0x7F800000#32) x) = 1#1 :=
    congrFun h x
  rw [e] at h'
  refine real_of_lt ?_
  by_contra hn
  unfold Ideal.cmp at h'
  simp only [decide_eq_false hn] at h'
  exact absurd h' (by decide)

section Pre
variable {m : (ℓ : Loc Cert.KernelIdeal.nD Cert.KernelIdeal.τ Cert.KernelIdeal.sig) → Buf (Elt Ideal) ℓ}

theorem pre_x (h : Cert.Pre_KernelIdeal_finite_KernelIdeal m) (c : Dev Cert.KernelIdeal.nD) (x : Cert.KernelIdeal.S4x256x1024.Idx) :
    Fini (m ((c.tc : Thread Cert.KernelIdeal.nD Cert.KernelIdeal.τ).loc Cert.KernelIdeal.main_arg0) x) :=
  real_of_bit _ _ (h c).1 x
theorem pre_w (h : Cert.Pre_KernelIdeal_finite_KernelIdeal m) (c : Dev Cert.KernelIdeal.nD) (x : Cert.KernelIdeal.S1024x1024.Idx) :
    Fini (m ((c.tc : Thread Cert.KernelIdeal.nD Cert.KernelIdeal.τ).loc Cert.KernelIdeal.main_arg1) x) :=
  real_of_bit _ _ (h c).2.1 x
theorem pre_k4 (h : Cert.Pre_KernelIdeal_finite_KernelIdeal m) (c : Dev Cert.KernelIdeal.nD) (x : Cert.KernelIdeal.S4x1024x16x128.Idx) :
    Fini (m ((c.tc : Thread Cert.KernelIdeal.nD Cert.KernelIdeal.τ).loc Cert.KernelIdeal.main_arg2) x) :=
  real_of_bit _ _ (h c).2.2 x

end Pre

/-- A device's columns of the query weights, -/
theorem cols_apply (W : (⟨2, ![1024, 8192]⟩ : Shape).Idx → EReal) (c : Fin 8) (k col : Fin 1024) :
    Layout.block ⟨2, ![1024, 1024]⟩ ⟨2, ![1024, 8192]⟩ 1 8 c W (by decide) (ix2 k col)
      = W (ix2 k (⟨1024 * c.val + col.val, by omega⟩ : Fin 8192)) := by
  refine congrArg W (funext fun a => Fin.ext ?_)
  match a with
  | ⟨0, _⟩ => rfl
  | ⟨1, _⟩ => show c.val * 1024 + col.val = 1024 * c.val + col.val; omega
/-- and its rows of the output weights. -/
theorem rows_apply (W : (⟨2, ![8192, 1024]⟩ : Shape).Idx → EReal) (c : Fin 8) (k col : Fin 1024) :
    Layout.block ⟨2, ![1024, 1024]⟩ ⟨2, ![8192, 1024]⟩ 0 8 c W (by decide) (ix2 k col)
      = W (ix2 (⟨1024 * c.val + k.val, by omega⟩ : Fin 8192) col) := by
  refine congrArg W (funext fun a => Fin.ext ?_)
  match a with
  | ⟨0, _⟩ => show c.val * 1024 + k.val = 1024 * c.val + k.val; omega
  | ⟨1, _⟩ => rfl

theorem fini_at {t : Shape} {W : t.Idx → EReal} {x y : t.Idx} (h : Fini (W x)) (e : x = y) : Fini (W y) := e ▸ h

/-- Both programs end with the same result. -/
theorem algebraic : Cert.algebraic_KernelIdeal_ReferenceIdeal_pre_finite_KernelIdeal := by
  intro m g m' g' hpre hm
  have hX : ∀ x, Fini (m' (((0 : Dev Cert.ReferenceIdeal.nD).tc : Thread Cert.ReferenceIdeal.nD Cert.ReferenceIdeal.τ).loc Cert.ReferenceIdeal.main_arg0) x) := by
    intro x
    rw [← (hm (0 : Fin 8)).1]
    exact pre_x hpre _ x
  have hK : ∀ x, Fini (m' (((0 : Dev Cert.ReferenceIdeal.nD).tc : Thread Cert.ReferenceIdeal.nD Cert.ReferenceIdeal.τ).loc Cert.ReferenceIdeal.main_arg2) x) := by
    intro x
    rw [← (hm (0 : Fin 8)).2.2.1]
    exact pre_k4 hpre _ x
  have hW : ∀ x, Fini (m' (((0 : Dev Cert.ReferenceIdeal.nD).tc : Thread Cert.ReferenceIdeal.nD Cert.ReferenceIdeal.τ).loc Cert.ReferenceIdeal.main_arg1) x) := by
    intro x
    have hx : (x 1).val < 8192 := (x 1).isLt
    have h := pre_w hpre (⟨(x 1).val / 1024, by omega⟩ : Fin 8) (ix2 (⟨(x 0).val, (x 0).isLt⟩ : Fin 1024) (⟨(x 1).val % 1024, by omega⟩ : Fin 1024))
    rw [(hm _).2.1, cols_apply] at h
    refine fini_at h ?_
    funext a
    apply Fin.ext
    match a with
    | ⟨0, _⟩ => rfl
    | ⟨1, _⟩ => show 1024 * ((x 1).val / 1024) + (x 1).val % 1024 = (x 1).val; omega
  refine ⟨Cert.ReferenceIdeal.Value.res_main_v34 (F := Ideal) m' 0, ?_, ?_⟩
  · refine (θ_run Cert.KernelIdeal.defs _ _).mono (fun r h c => ⟨?_, Cert.KernelIdealProof.unchanged m g h.1 c⟩)
      (Cert.KernelIdealProof.run_main (F := Ideal) m g)
    refine (Cert.KernelIdealProof.results m g h.1 c).trans (Eq.trans ?_ (Cert.ReferenceIdealProof.res_eq m' 0).symm)
    funext x
    obtain ⟨b, i, col, rfl⟩ : ∃ (b : Fin 4) (i : Fin 256) (col : Fin 1024), x = ix3 b i col := ⟨_, _, _, eq_ix3 x⟩
    refine (Cert.KernelIdealProof.kernel_res (Cert.KernelIdealProof.args m) _ _ _ _ _ (fun c => ?_) (fun c => ?_) (fun c => ?_)
      (fun c k col => ?_) (fun c k col => ?_) b i col).trans (Cert.ReferenceIdealProof.ref_res _ _ _ _ _ hX hW hK b i col).symm
    · exact (Cert.KernelIdealProof.X_eq m c).trans (hm c).1
    · exact (hm c).2.2.1
    · exact (hm c).2.2.2.1
    · exact (congrFun ((Cert.KernelIdealProof.Wq_eq m c).trans (hm c).2.1) _).trans (cols_apply _ c k col)
    · exact (congrFun ((Cert.KernelIdealProof.Wo_eq m c).trans (hm c).2.2.2.2) _).trans (rows_apply _ c k col)
  · exact (θ_run Cert.ReferenceIdeal.defs _ _).mono (fun r h => h 0) (Cert.ReferenceIdeal.Value.run (F := Ideal) m' g')

end Cert.MeetProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Result
public import proofs.«01_k».proof.Proof.Kernel.Result
public import proofs.«01_k».proof.Proof.Value.Meet
public import Idealize.ShloMosaic.Adequacy
public import Idealize.ShloMosaic.Init

@[expose] public section

noncomputable section

namespace Cert.Proof

open Idealize.ShloMosaic Idealize.SL.Sem

/-- Each program's run leaves its arguments as they were and every counter at zero. -/
theorem frame_k : Cert.quiescent_Kernel := fun m ρ _ =>
  (θ_run Cert.Kernel.defs _ _).mono (fun _ h => ⟨Cert.KernelProof.unchanged m ρ h.1, h.2⟩) (Cert.KernelProof.run_main (F := Bits) m ρ)

theorem frame_ki : Cert.quiescent_KernelIdeal := fun m ρ _ =>
  (θ_run Cert.KernelIdeal.defs _ _).mono (fun _ h => ⟨Cert.KernelIdealProof.unchanged m ρ h.1, h.2⟩)
    (Cert.KernelIdealProof.run_main (F := Ideal) m ρ)

/-- The reference declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.MeetProof.pre_k, Cert.MeetProof.pre_r, frame_k, frame_ki, fun m ρ _ => frame_ki m ρ trivial, frame_ri, fun m ρ _ => frame_ri m ρ trivial,
  trivial, Cert.MeetProof.algebraic⟩

end Cert.Proof

end
